-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_requantisable [hPre_requantisable : Cert.Pre_requantisable.Facts] (m : (ℓ : Loc Cert.KernelIdeal.nD Cert.KernelIdeal.τ Cert.KernelIdeal.sig) → Buf (Elt Ideal) ℓ) : Prop :=
  ∀ c : Dev Cert.KernelIdeal.nD,
    (Cert.Pre_requantisable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_requantisable [hPre_requantisable : Cert.Pre_requantisable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_requantisable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_requantisable [hKernelIdeal : Cert.KernelIdeal.Facts] [hPre_requantisable : Cert.Pre_requantisable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_requantisable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_requantisable [hReferenceIdeal : Cert.ReferenceIdeal.Facts] [hPre_requantisable : Cert.Pre_requantisable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_requantisable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_requantisable [hKernelIdeal : Cert.KernelIdeal.Facts] [hReferenceIdeal : Cert.ReferenceIdeal.Facts] [hPre_requantisable : Cert.Pre_requantisable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_requantisable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_requantisable : Cert.Pre_requantisable.Facts),
    quiescent_Kernel (hKernel := hKernel)
    ∧ quiescent_KernelIdeal (hKernelIdeal := hKernelIdeal)
    ∧ quiescent_KernelIdeal_pre_requantisable (hKernelIdeal := hKernelIdeal) (hPre_requantisable := hPre_requantisable)
    ∧ quiescent_ReferenceIdeal (hReferenceIdeal := hReferenceIdeal)
    ∧ quiescent_ReferenceIdeal_pre_requantisable (hReferenceIdeal := hReferenceIdeal) (hPre_requantisable := hPre_requantisable)
    ∧ preserves_Kernel_KernelIdeal
    ∧ algebraic_KernelIdeal_ReferenceIdeal_pre_requantisable (hKernelIdeal := hKernelIdeal) (hReferenceIdeal := hReferenceIdeal) (hPre_requantisable := hPre_requantisable)
-- ==== Pre_requantisable.lean ====
abbrev S2x8192x5120 : Shape := ⟨3, ![2, 8192, 5120]⟩
abbrev S_ : Shape := ⟨0, ![]⟩
abbrev S5120x27648 : Shape := ⟨2, ![5120, 27648]⟩
abbrev S27648 : Shape := ⟨1, ![27648]⟩

class Facts : Prop where
  bcast_S_S27648 : S_.BroadcastsInDim S27648 (![] : Fin 0 → Fin S27648.rank)

variable [Facts]

def fn {F : FTy → Type} [FloatOps F] (main_arg0 : IVec S2x8192x5120 8) (main_arg1 : IVec S_ 32) (main_arg2 : IVec S5120x27648 8) (main_arg3 : IVec S27648 32) (main_arg4 : IVec S27648 32) (main_arg5 : IVec S27648 32) (main_arg6 : IVec S27648 32) (main_arg7 : IVec S_ 32) : IVec S27648 1 :=
  let main_c : IVec S_ 32 := constantI S_ 32 0#32
  let main_v0 : IVec S27648 32 := broadcastInDim S27648 ![] bcast_S_S27648 main_c
  let main_v1 : IVec S27648 1 := cmpi .sge main_arg5 main_v0
  let main_c_0 : IVec S_ 32 := constantI S_ 32 1#32
  let main_v2 : IVec S27648 32 := broadcastInDim S27648 ![] bcast_S_S27648 main_c_0
  let main_v3 : IVec S27648 1 := cmpi .sge main_arg6 main_v2
  let main_v4 : IVec S27648 1 := andi main_v1 main_v3
  let main_c_1 : IVec S_ 32 := constantI S_ 32 31#32
  let main_v5 : IVec S27648 32 := broadcastInDim S27648 ![] bcast_S_S27648 main_c_1
  let main_v6 : IVec S27648 1 := cmpi .sle main_arg6 main_v5
  let main_v7 : IVec S27648 1 := andi main_v4 main_v6
  main_v7
-- ==== Kernel.lean ====
abbrev S2x8192x5120 : Shape := ⟨3, ![2, 8192, 5120]⟩
abbrev S_ : Shape := ⟨0, ![]⟩
abbrev S5120x27648 : Shape := ⟨2, ![5120, 27648]⟩
abbrev S27648 : Shape := ⟨1, ![27648]⟩
abbrev S16384x5120 : Shape := ⟨2, ![16384, 5120]⟩
abbrev S1x27648 : Shape := ⟨2, ![1, 27648]⟩
abbrev S5120x512 : Shape := ⟨2, ![5120, 512]⟩
abbrev S1x512 : Shape := ⟨2, ![1, 512]⟩
abbrev S128x512 : Shape := ⟨2, ![128, 512]⟩
abbrev S512 : Shape := ⟨1, ![512]⟩
abbrev S1 : Shape := ⟨1, ![1]⟩
abbrev S16384x27648 : Shape := ⟨2, ![16384, 27648]⟩
abbrev S1024x5120 : Shape := ⟨2, ![1024, 5120]⟩
abbrev S1024x512 : Shape := ⟨2, ![1024, 512]⟩
abbrev S1024x128 : Shape := ⟨2, ![1024, 128]⟩
abbrev S256x128 : Shape := ⟨2, ![256, 128]⟩
abbrev S256x512 : Shape := ⟨2, ![256, 512]⟩
abbrev S64x512 : Shape := ⟨2, ![64, 512]⟩
abbrev S256 : Shape := ⟨1, ![256]⟩
abbrev S256x1 : Shape := ⟨2, ![256, 1]⟩
abbrev S1280x512 : Shape := ⟨2, ![1280, 512]⟩
abbrev S256x1024 : Shape := ⟨2, ![256, 1024]⟩
abbrev S2x8192x27648 : Shape := ⟨3, ![2, 8192, 27648]⟩

abbrev nBuf : Space → Nat
  | .hbm => 18
  | .vmem => 22
  | .smem => 2
  | _ => 0

abbrev bufTy : (tb : Table) → Fin (tcTables nBuf tb) → BufTy
  | .hbm, ⟨0, _⟩ => ⟨S2x8192x5120, .i8⟩
  | .hbm, ⟨1, _⟩ => ⟨S_, .i32⟩
  | .hbm, ⟨2, _⟩ => ⟨S5120x27648, .i8⟩
  | .hbm, ⟨3, _⟩ => ⟨S27648, .i32⟩
  | .hbm, ⟨4, _⟩ => ⟨S27648, .i32⟩
  | .hbm, ⟨5, _⟩ => ⟨S27648, .i32⟩
  | .hbm, ⟨6, _⟩ => ⟨S27648, .i32⟩
  | .hbm, ⟨7, _⟩ => ⟨S_, .i32⟩
  | .hbm, ⟨8, _⟩ => ⟨S16384x5120, .i8⟩
  | .hbm, ⟨9, _⟩ => ⟨S1x27648, .i32⟩
  | .hbm, ⟨10, _⟩ => ⟨S1, .i32⟩
  | .hbm, ⟨11, _⟩ => ⟨S1, .i32⟩
  | .hbm, ⟨12, _⟩ => ⟨S1x27648, .i32⟩
  | .hbm, ⟨13, _⟩ => ⟨S1x27648, .i32⟩
  | .hbm, ⟨14, _⟩ => ⟨S1x27648, .i32⟩
  | .hbm, ⟨15, _⟩ => ⟨S1x27648, .i32⟩
  | .hbm, ⟨16, _⟩ => ⟨S16384x27648, .i8⟩
  | .hbm, ⟨17, _⟩ => ⟨S2x8192x27648, .i8⟩
  | .local _ .vmem, ⟨0, _⟩ => ⟨S5120x512, .i8⟩
  | .local _ .vmem, ⟨1, _⟩ => ⟨S5120x512, .i8⟩
  | .local _ .vmem, ⟨2, _⟩ => ⟨S1x512, .i32⟩
  | .local _ .vmem, ⟨3, _⟩ => ⟨S1x512, .i32⟩
  | .local _ .vmem, ⟨4, _⟩ => ⟨S1024x5120, .i8⟩
  | .local _ .vmem, ⟨5, _⟩ => ⟨S1024x5120, .i8⟩
  | .local _ .vmem, ⟨6, _⟩ => ⟨S5120x512, .i8⟩
  | .local _ .vmem, ⟨7, _⟩ => ⟨S5120x512, .i8⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S1x512, .i32⟩
  | .local _ .vmem, ⟨12, _⟩ => ⟨S1x512, .i32⟩
  | .local _ .vmem, ⟨13, _⟩ => ⟨S1x512, .i32⟩
  | .local _ .vmem, ⟨14, _⟩ => ⟨S1x512, .i32⟩
  | .local _ .vmem, ⟨15, _⟩ => ⟨S1x512, .i32⟩
  | .local _ .vmem, ⟨16, _⟩ => ⟨S1x512, .i32⟩
  | .local _ .vmem, ⟨17, _⟩ => ⟨S1x512, .i32⟩
  | .local _ .vmem, ⟨18, _⟩ => ⟨S1024x512, .i8⟩
  | .local _ .vmem, ⟨19, _⟩ => ⟨S1024x512, .i8⟩
  | .local _ .vmem, ⟨20, _⟩ => ⟨S1024x5120, .bf16⟩
  | .local _ .vmem, ⟨21, _⟩ => ⟨S1024x128, .i32⟩
  | .local _ .smem, ⟨0, _⟩ => ⟨S1, .i32⟩
  | .local _ .smem, ⟨1, _⟩ => ⟨S1, .i32⟩
  | _, _ => ⟨S2x8192x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_scratch0 : Ref sig .tc := ⟨.vmem, 20, rfl⟩
abbrev cc1_scratch1 : Ref sig .tc := ⟨.vmem, 21, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5120x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 54], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_152 : BitVec 32 := 0#32
  let c10_i32 : BitVec 32 := 10#32
  let v408 : BitVec 32 := Scalar.addi c0_i32_152 c10_i32
  let c1_i32_153 : BitVec 32 := 1#32
  ⟨c0_i32_152, v408, c1_i32_153⟩
def k1_off1 (k1_t1 : Fin k1_t1_loop.trips) : Fin 2 → Nat :=
  let c0_182 : Index := 0#32
  let c0_i32_152 : BitVec 32 := 0#32
  let c1_i32_153 : BitVec 32 := 1#32
  let arg14 : BitVec 32 := Scf.iv c0_i32_152 c1_i32_153 k1_t1
  let c512_i32 : BitVec 32 := 512#32
  let v447 : BitVec 32 := Scalar.muli arg14 c512_i32
  let v448 : Index := Scalar.indexCast v447
  ![0, v448.toNat]
@[reducible] def k1_t2_loop : Scf.Loop 32 :=
  let c0_i32_159 : BitVec 32 := 0#32
  let c10_i32_160 : BitVec 32 := 10#32
  let v418 : BitVec 32 := Scalar.addi c0_i32_159 c10_i32_160
  let c1_i32_161 : BitVec 32 := 1#32
  ⟨c0_i32_159, v418, c1_i32_161⟩
def k1_off2 (k1_t2 : Fin k1_t2_loop.trips) : Fin 2 → Nat :=
  let c256_182 : Index := 256#32
  let c0_i32_159 : BitVec 32 := 0#32
  let c1_i32_161 : BitVec 32 := 1#32
  let arg14 : BitVec 32 := Scf.iv c0_i32_159 c1_i32_161 k1_t2
  let c512_i32 : BitVec 32 := 512#32
  let v447 : BitVec 32 := Scalar.muli arg14 c512_i32
  let v448 : Index := Scalar.indexCast v447
  ![256, v448.toNat]
@[reducible] def k1_t3_loop : Scf.Loop 32 :=
  let c0_i32_167 : BitVec 32 := 0#32
  let c10_i32_168 : BitVec 32 := 10#32
  let v428 : BitVec 32 := Scalar.addi c0_i32_167 c10_i32_168
  let c1_i32_169 : BitVec 32 := 1#32
  ⟨c0_i32_167, v428, c1_i32_169⟩
def k1_off3 (k1_t3 : Fin k1_t3_loop.trips) : Fin 2 → Nat :=
  let c512_182 : Index := 512#32
  let c0_i32_167 : BitVec 32 := 0#32
  let c1_i32_169 : BitVec 32 := 1#32
  let arg14 : BitVec 32 := Scf.iv c0_i32_167 c1_i32_169 k1_t3
  let c512_i32 : BitVec 32 := 512#32
  let v447 : BitVec 32 := Scalar.muli arg14 c512_i32
  let v448 : Index := Scalar.indexCast v447
  ![512, v448.toNat]
@[reducible] def k1_t4_loop : Scf.Loop 32 :=
  let c0_i32_175 : BitVec 32 := 0#32
  let c10_i32_176 : BitVec 32 := 10#32
  let v438 : BitVec 32 := Scalar.addi c0_i32_175 c10_i32_176
  let c1_i32_177 : BitVec 32 := 1#32
  ⟨c0_i32_175, v438, c1_i32_177⟩
def k1_off4 (k1_t4 : Fin k1_t4_loop.trips) : Fin 2 → Nat :=
  let c768_182 : Index := 768#32
  let c0_i32_175 : BitVec 32 := 0#32
  let c1_i32_177 : BitVec 32 := 1#32
  let arg14 : BitVec 32 := Scf.iv c0_i32_175 c1_i32_177 k1_t4
  let c512_i32 : BitVec 32 := 512#32
  let v447 : BitVec 32 := Scalar.muli arg14 c512_i32
  let v448 : Index := Scalar.indexCast v447
  ![768, v448.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x5120 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S5120x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x512 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x512 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x512 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1024x512 .i8 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S2x8192x5120 : Shape := ⟨3, ![2, 8192, 5120]⟩
abbrev S_ : Shape := ⟨0, ![]⟩
abbrev S5120x27648 : Shape := ⟨2, ![5120, 27648]⟩
abbrev S27648 : Shape := ⟨1, ![27648]⟩
abbrev S2x8192x5120x1 : Shape := ⟨4, ![2, 8192, 5120, 1]⟩
abbrev S1x1x5120x27648 : Shape := ⟨4, ![1, 1, 5120, 27648]⟩
abbrev S2x8192x5120x27648 : Shape := ⟨4, ![2, 8192, 5120, 27648]⟩
abbrev S2x8192x27648 : Shape := ⟨3, ![2, 8192, 27648]⟩
abbrev S2x8192 : Shape := ⟨2, ![2, 8192]⟩
abbrev S2x8192x1 : Shape := ⟨3, ![2, 8192, 1]⟩
abbrev S1x1x27648 : Shape := ⟨3, ![1, 1, 27648]⟩

abbrev nBuf : Space → Nat
  | .hbm => 136
  | .vmem => 0
  | .smem => 0
  | _ => 0

abbrev hbmTy0_0 (i : Nat) : BufTy := match i % 128 with
  | 0 => ⟨S2x8192x5120, .i8⟩
  | 1 => ⟨S_, .i32⟩
  | 2 => ⟨S5120x27648, .i8⟩
  | 3 => ⟨S27648, .i32⟩
  | 4 => ⟨S27648, .i32⟩
  | 5 => ⟨S27648, .i32⟩
  | 6 => ⟨S27648, .i32⟩
  | 7 => ⟨S_, .i32⟩
  | 8 => ⟨S2x8192x5120, .i32⟩
  | 9 => ⟨S2x8192x5120x1, .i32⟩
  | 10 => ⟨S5120x27648, .i32⟩
  | 11 => ⟨S1x1x5120x27648, .i32⟩
  | 12 => ⟨S2x8192x5120x27648, .i32⟩
  | 13 => ⟨S2x8192x5120x27648, .i32⟩
  | 14 => ⟨S2x8192x5120x27648, .i32⟩
  | 15 => ⟨S_, .i32⟩
  | 16 => ⟨S2x8192x27648, .i32⟩
  | 17 => ⟨S5120x27648, .i32⟩
  | 18 => ⟨S_, .i32⟩
  | 19 => ⟨S27648, .i32⟩
  | 20 => ⟨S2x8192x5120, .i32⟩
  | 21 => ⟨S_, .i32⟩
  | 22 => ⟨S2x8192, .i32⟩
  | 23 => ⟨S2x8192x1, .i32⟩
  | 24 => ⟨S_, .i32⟩
  | 25 => ⟨S_, .i32⟩
  | 26 => ⟨S27648, .i32⟩
  | 27 => ⟨S27648, .i32⟩
  | 28 => ⟨S27648, .i32⟩
  | 29 => ⟨S27648, .i32⟩
  | 30 => ⟨S27648, .i32⟩
  | 31 => ⟨S27648, .i32⟩
  | 32 => ⟨S1x1x27648, .i32⟩
  | 33 => ⟨S2x8192x27648, .i32⟩
  | 34 => ⟨S2x8192x27648, .i32⟩
  | 35 => ⟨S2x8192x27648, .i32⟩
  | 36 => ⟨S2x8192x27648, .i32⟩
  | 37 => ⟨S1x1x27648, .i32⟩
  | 38 => ⟨S2x8192x27648, .i32⟩
  | 39 => ⟨S2x8192x27648, .i32⟩
  | 40 => ⟨S_, .i32⟩
  | 41 => ⟨S2x8192x27648, .i32⟩
  | 42 => ⟨S2x8192x27648, .i1⟩
  | 43 => ⟨S2x8192x27648, .i32⟩
  | 44 => ⟨S2x8192x27648, .i32⟩
  | 45 => ⟨S27648, .i32⟩
  | 46 => ⟨S_, .i32⟩
  | 47 => ⟨S2x8192x27648, .i32⟩
  | 48 => ⟨S2x8192x27648, .i32⟩
  | 49 => ⟨S_, .i32⟩
  | 50 => ⟨S2x8192x27648, .i32⟩
  | 51 => ⟨S2x8192x27648, .i32⟩
  | 52 => ⟨S_, .i32⟩
  | 53 => ⟨S27648, .i32⟩
  | 54 => ⟨S27648, .i32⟩
  | 55 => ⟨S_, .i32⟩
  | 56 => ⟨S27648, .i32⟩
  | 57 => ⟨S27648, .i32⟩
  | 58 => ⟨S1x1x27648, .i32⟩
  | 59 => ⟨S2x8192x27648, .i32⟩
  | 60 => ⟨S2x8192x27648, .i32⟩
  | 61 => ⟨S1x1x27648, .i32⟩
  | 62 => ⟨S2x8192x27648, .i32⟩
  | 63 => ⟨S2x8192x27648, .i32⟩
  | 64 => ⟨S1x1x27648, .i32⟩
  | 65 => ⟨S2x8192x27648, .i32⟩
  | 66 => ⟨S2x8192x27648, .i32⟩
  | 67 => ⟨S2x8192x27648, .i32⟩
  | 68 => ⟨S1x1x27648, .i32⟩
  | 69 => ⟨S2x8192x27648, .i32⟩
  | 70 => ⟨S2x8192x27648, .i32⟩
  | 71 => ⟨S_, .i32⟩
  | 72 => ⟨S2x8192x27648, .i32⟩
  | 73 => ⟨S2x8192x27648, .i32⟩
  | 74 => ⟨S2x8192x27648, .i32⟩
  | 75 => ⟨S_, .i32⟩
  | 76 => ⟨S2x8192x27648, .i32⟩
  | 77 => ⟨S2x8192x27648, .i32⟩
  | 78 => ⟨S2x8192x27648, .i32⟩
  | 79 => ⟨S2x8192x27648, .i1⟩
  | 80 => ⟨S2x8192x27648, .i32⟩
  | 81 => ⟨S2x8192x27648, .i32⟩
  | 82 => ⟨S2x8192x27648, .i32⟩
  | 83 => ⟨S_, .i32⟩
  | 84 => ⟨S2x8192x27648, .i32⟩
  | 85 => ⟨S2x8192x27648, .i32⟩
  | 86 => ⟨S2x8192x27648, .i32⟩
  | 87 => ⟨S2x8192x27648, .i1⟩
  | 88 => ⟨S2x8192x27648, .i32⟩
  | 89 => ⟨S2x8192x27648, .i32⟩
  | 90 => ⟨S_, .i32⟩
  | 91 => ⟨S2x8192x27648, .i32⟩
  | 92 => ⟨S2x8192x27648, .i32⟩
  | 93 => ⟨S_, .i32⟩
  | 94 => ⟨S2x8192x27648, .i32⟩
  | 95 => ⟨S2x8192x27648, .i32⟩
  | 96 => ⟨S2x8192x27648, .i32⟩
  | 97 => ⟨S2x8192x27648, .i32⟩
  | 98 => ⟨S2x8192x27648, .i32⟩
  | 99 => ⟨S2x8192x27648, .i32⟩
  | 100 => ⟨S_, .i32⟩
  | 101 => ⟨S27648, .i32⟩
  | 102 => ⟨S27648, .i32⟩
  | 103 => ⟨S_, .i32⟩
  | 104 => ⟨S27648, .i32⟩
  | 105 => ⟨S27648, .i32⟩
  | 106 => ⟨S1x1x27648, .i32⟩
  | 107 => ⟨S2x8192x27648, .i32⟩
  | 108 => ⟨S2x8192x27648, .i32⟩
  | 109 => ⟨S_, .i32⟩
  | 110 => ⟨S27648, .i32⟩
  | 111 => ⟨S27648, .i32⟩
  | 112 => ⟨S_, .i32⟩
  | 113 => ⟨S2x8192x27648, .i32⟩
  | 114 => ⟨S2x8192x27648, .i1⟩
  | 115 => ⟨S2x8192x27648, .i32⟩
  | 116 => ⟨S1x1x27648, .i32⟩
  | 117 => ⟨S2x8192x27648, .i32⟩
  | 118 => ⟨S2x8192x27648, .i32⟩
  | 119 => ⟨S1x1x27648, .i32⟩
  | 120 => ⟨S2x8192x27648, .i32⟩
  | 121 => ⟨S2x8192x27648, .i32⟩
  | 122 => ⟨S2x8192x27648, .i1⟩
  | 123 => ⟨S2x8192x27648, .i32⟩
  | 124 => ⟨S2x8192x27648, .i32⟩
  | 125 => ⟨S2x8192x27648, .i32⟩
  | 126 => ⟨S2x8192x27648, .i32⟩
  | 127 => ⟨S_, .i32⟩
  | _ => ⟨S2x8192x5120, .i8⟩

abbrev hbmTy0_1 (i : Nat) : BufTy := match i % 128 with
  | 0 => ⟨S_, .i32⟩
  | 1 => ⟨S_, .i32⟩
  | 2 => ⟨S2x8192x27648, .i32⟩
  | 3 => ⟨S2x8192x27648, .i32⟩
  | 4 => ⟨S_, .i32⟩
  | 5 => ⟨S2x8192x27648, .i32⟩
  | 6 => ⟨S2x8192x27648, .i32⟩
  | 7 => ⟨S2x8192x27648, .i8⟩
  | _ => ⟨S2x8192x5120, .i8⟩

abbrev hbmTy (i : Nat) : BufTy := match i / 128 with
  | 0 => hbmTy0_0 i
  | 1 => hbmTy0_1 i
  | _ => ⟨S2x8192x5120, .i8⟩

abbrev bufTy : (tb : Table) → Fin (tcTables nBuf tb) → BufTy
  | .hbm, ⟨i, _⟩ => hbmTy i
  | _, _ => ⟨S2x8192x5120, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_11 : Ref sig .tc := ⟨.hbm, 90, rfl⟩
abbrev main_v70 : Ref sig .tc := ⟨.hbm, 91, rfl⟩
abbrev main_v71 : Ref sig .tc := ⟨.hbm, 92, rfl⟩
abbrev main_c_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_13 : Ref sig .tc := ⟨.hbm, 100, rfl⟩
abbrev main_v78 : Ref sig .tc := ⟨.hbm, 101, rfl⟩
abbrev main_v79 : Ref sig .tc := ⟨.hbm, 102, rfl⟩
abbrev main_c_14 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_15 : Ref sig .tc := ⟨.hbm, 109, rfl⟩
abbrev main_v85 : Ref sig .tc := ⟨.hbm, 110, rfl⟩
abbrev main_v86 : Ref sig .tc := ⟨.hbm, 111, rfl⟩
abbrev main_c_16 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c_17 : Ref sig .tc := ⟨.hbm, 127, rfl⟩
abbrev main_c_18 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]
-- ==== Proof.Kernel.Fill.lean ====
module

public import proofs.«01_k».proof.Proof.Gen.Kernel.Loops
public import Idealize.ShloMosaic.Lib.Pipeline.FrameBody
public import Idealize.ShloMosaic.Lib.Ring
public import Idealize.ShloMosaic.Lib.Writes

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The index of row `p`, column `q` of a matrix with sizes `d` (both taken within the sizes). -/
def ix {d : Fin 2 → ℕ} (h : ∀ a, 0 < d a) (p q : ℕ) : (⟨2, d⟩ : Shape).Idx :=
  fun a => ⟨(![p, q] a) % d a, Nat.mod_lt _ (h a)⟩

/-- The tile of the operand at rows from `256 r` and columns from `512 k`. -/
def chunk {Val : EltTy → Type} (x : S1024x5120.Idx → Val .i8) (r k : ℕ) : S256x512.Idx → Val .i8 :=
  fun z => x (ix (d := ![1024, 5120]) (by decide) (256 * r + (z 0).val) (512 * k + (z 1).val))

/-- What the kernel keeps of the operand between grid steps: the operand in the narrow float format. -/
def XB (x : S1024x5120.Idx → Elt F .i8) : S1024x5120.Idx → Elt F .bf16 :=
  fun y => k1_pay4 (F := F) (chunk x ((y 0).val / 256) ((y 1).val / 512))
    (ix (d := ![256, 512]) (by decide) ((y 0).val % 256) ((y 1).val % 512))

/-- The row sums' running value after `n` tiles of stripe `r`. -/
def accN (x : S1024x5120.Idx → Elt F .i8) (r : ℕ) : ℕ → IVec S256x128 32
  | 0 => k1_pay2
  | n + 1 => k1_pay5 (F := F) (accN x r n) (chunk x r n)

/-- The row sums the kernel keeps between grid steps. -/
def SX (x : S1024x5120.Idx → Elt F .i8) : S1024x128.Idx → Elt F .i32 :=
  fun y => k1_pay6 (accN (F := F) x ((y 0).val / 256) 10) (ix (d := ![256, 128]) (by decide) ((y 0).val % 256) (y 1).val)

/-- A load of the tile is the tile. -/
theorem ld_chunk (x : S1024x5120.Idx → Elt F .i8) (off : Fin 2 → ℕ) (r k : ℕ) (hoff : off = ![256 * r, 512 * k])
    (inb : ∀ a, off a + S256x512.size a ≤ S1024x5120.size a) :
    View.ld x (Rect.unit (s := S1024x5120) off S256x512.size inb) = chunk x r k := by
  subst hoff
  funext z
  show x _ = x _
  congr 1
  funext a
  apply Fin.ext
  have h0 := inb 0
  have h1 := inb 1
  have z0 := (z 0).isLt
  have z1 := (z 1).isLt
  show _ + 1 * (z a).val = (![256 * r + (z 0).val, 512 * k + (z 1).val] a) % (![1024, 5120] a)
  change 256 * r + 256 ≤ 1024 at h0
  change 512 * k + 512 ≤ 5120 at h1
  change (z 0).val < 256 at z0
  change (z 1).val < 512 at z1
  fin_cases a
  · show 256 * r + 1 * (z 0).val = (256 * r + (z 0).val) % 1024
    omega
  · show 512 * k + 1 * (z 1).val = (512 * k + (z 1).val) % 5120
    omega

/-- The tile at the place a kept element lies in is what the tile's store puts there. -/
theorem XB_emb (x : S1024x5120.Idx → Elt F .i8) (off : Fin 2 → ℕ) (r k : ℕ) (hoff : off = ![256 * r, 512 * k])
    (inb : ∀ a, off a + S256x512.size a ≤ S1024x5120.size a) (z : S256x512.Idx) :
    k1_pay4 (F := F) (chunk x r k) z = XB x ((Rect.unit (s := S1024x5120) off S256x512.size inb).emb z) := by
  subst hoff
  have z0 := (z 0).isLt
  have z1 := (z 1).isLt
  change (z 0).val < 256 at z0
  change (z 1).val < 512 at z1
  have e0 : ((((Rect.unit (s := S1024x5120) ![256 * r, 512 * k] S256x512.size inb).emb z) 0).val) = 256 * r + (z 0).val := by
    show 256 * r + 1 * (z 0).val = _
    omega
  have e1 : ((((Rect.unit (s := S1024x5120) ![256 * r, 512 * k] S256x512.size inb).emb z) 1).val) = 512 * k + (z 1).val := by
    show 512 * k + 1 * (z 1).val = _
    omega
  unfold XB
  rw [e0, e1, show (256 * r + (z 0).val) / 256 = r by omega, show (512 * k + (z 1).val) / 512 = k by omega,
    show (256 * r + (z 0).val) % 256 = (z 0).val by omega, show (512 * k + (z 1).val) % 512 = (z 1).val by omega]
  congr 1
  funext a
  apply Fin.ext
  fin_cases a
  · exact (Nat.mod_eq_of_lt z0).symm
  · exact (Nat.mod_eq_of_lt z1).symm

/-- The same for the row sums. -/
theorem SX_emb (x : S1024x5120.Idx → Elt F .i8) (off : Fin 2 → ℕ) (r : ℕ) (hoff : off = ![256 * r, 0])
    (inb : ∀ a, off a + S256x128.size a ≤ S1024x128.size a) (z : S256x128.Idx) :
    k1_pay6 (accN (F := F) x r 10) z = SX x ((Rect.unit (s := S1024x128) off S256x128.size inb).emb z) := by
  subst hoff
  have z0 := (z 0).isLt
  have z1 := (z 1).isLt
  change (z 0).val < 256 at z0
  change (z 1).val < 128 at z1
  have e0 : ((((Rect.unit (s := S1024x128) ![256 * r, 0] S256x128.size inb).emb z) 0).val) = 256 * r + (z 0).val := by
    show 256 * r + 1 * (z 0).val = _
    omega
  have e1 : ((((Rect.unit (s := S1024x128) ![256 * r, 0] S256x128.size inb).emb z) 1).val) = (z 1).val := by
    show 0 + 1 * (z 1).val = _
    omega
  unfold SX
  rw [e0, e1, show (256 * r + (z 0).val) / 256 = r by omega,
    show (256 * r + (z 0).val) % 256 = (z 0).val by omega]
  congr 1
  funext a
  apply Fin.ext
  fin_cases a
  · exact (Nat.mod_eq_of_lt z0).symm
  · exact (Nat.mod_eq_of_lt z1).symm

section Trips
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole) (h1 : k1_cond1 i = 1#1)

/-- Loop 1 makes ten trips. -/
theorem trips1 : k1_t1_loop.trips = 10 := by decide +kernel

/-- Where trip `k` of loop 1 reads and writes. -/
theorem off1' (k : Fin k1_t1_loop.trips) : k1_off1 k = ![256 * 0, 512 * k.val] := k1_off1_eq k

/-- What a trip of loop 1 carries on. -/
theorem rawR1 (X : BufTy.Contents (Elt F) arg4.view.ty) (k : Fin k1_t1_loop.trips) (acc) :
    tripR_k1_t1 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (arg4.view.readAt (Elt F) (Rect.unit (s := S1024x5120) (k1_off1 k) S256x512.size (k1_off1_inb i k h1)).toLoadRect X) := by
  unfold tripR_k1_t1 trip_k1_t1
  rfl

/-- What a trip of loop 1 stores. -/
theorem rawL1 (X : BufTy.Contents (Elt F) arg4.view.ty) (k : Fin k1_t1_loop.trips) (acc) :
    tripL_k1_t1 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off1 k) S256x512.size (k1_off1_inb i k h1), k1_pay4 (F := F) (arg4.view.readAt (Elt F) (Rect.unit (s := S1024x5120) (k1_off1 k) S256x512.size (k1_off1_inb i k h1)).toLoadRect X)⟩] := by
  unfold tripL_k1_t1 trip_k1_t1
  rfl

/-- The carried value of loop 1 is computed as in loop 1. -/
theorem payR1 : k1_pay5 (F := F) = k1_pay5 (F := F) := rfl
/-- The stored tile of loop 1 is computed as in loop 1. -/
theorem payL1 : k1_pay4 (F := F) = k1_pay4 (F := F) := rfl
/-- The row sums of loop 1 are computed as in loop 1. -/
theorem payS1 : k1_pay6 = k1_pay6 := rfl
/-- Loop 1 starts as loop 1 does. -/
theorem payI1 : k1_pay2 = k1_pay2 := rfl

/-- What a trip of loop 1 carries on, in terms of the tile. -/
theorem tripR1 (X : BufTy.Contents (Elt F) arg4.view.ty) (k : Fin k1_t1_loop.trips) (acc) :
    tripR_k1_t1 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 0 k.val) := by
  rw [rawR1, View.readAt_eq_ld, ld_chunk (F := F) (arg4.view.read (Elt F) X) (k1_off1 k) 0 k.val (off1' k) (k1_off1_inb i k h1), payR1]

/-- What a trip of loop 1 stores, in terms of the tile. -/
theorem tripL1 (X : BufTy.Contents (Elt F) arg4.view.ty) (k : Fin k1_t1_loop.trips) (acc) :
    tripL_k1_t1 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off1 k) S256x512.size (k1_off1_inb i k h1), k1_pay4 (F := F) (chunk (arg4.view.read (Elt F) X) 0 k.val)⟩] := by
  rw [rawL1, View.readAt_eq_ld, ld_chunk (F := F) (arg4.view.read (Elt F) X) (k1_off1 k) 0 k.val (off1' k) (k1_off1_inb i k h1), payL1]

/-- Loop 1's carried value before trip `k`. -/
theorem stR1 (X : BufTy.Contents (Elt F) arg4.view.ty) (k : ℕ) (hk : k ≤ 10) :
    (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 k).1 = accN (F := F) (arg4.view.read (Elt F) X) 0 k := by
  induction k with
  | zero => rfl
  | succ k ih =>
    have hk' : k < k1_t1_loop.trips := by rw [trips1]; omega
    rw [st_k1_t1_succ Variants.none c none i arg2 harg2 arg3 harg3 arg4 harg4 arg5 harg5 arg6 harg6 arg7 harg7 arg8 harg8 arg9 harg9 arg10 harg10 arg11 harg11 arg12 harg12 arg13 harg13 h1 X k1_pay2 ⟨k, hk'⟩]
    show tripR_k1_t1 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR1, ih (by omega)]
    rfl

/-- Every piece loop 1 has stored agrees with what is kept. -/
theorem stA1 (X : BufTy.Contents (Elt F) arg4.view.ty) (k : ℕ) (hk : k ≤ 10) :
    ∀ p ∈ (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 k).2, ∀ z : p.1.shape.Idx, p.2 z = XB (F := F) (arg4.view.read (Elt F) X) (p.1.emb z) := by
  induction k with
  | zero => exact fun p hp => absurd hp List.not_mem_nil
  | succ k ih =>
    have hk' : k < k1_t1_loop.trips := by rw [trips1]; omega
    rw [st_k1_t1_succ Variants.none c none i arg2 harg2 arg3 harg3 arg4 harg4 arg5 harg5 arg6 harg6 arg7 harg7 arg8 harg8 arg9 harg9 arg10 harg10 arg11 harg11 arg12 harg12 arg13 harg13 h1 X k1_pay2 ⟨k, hk'⟩]
    intro p hp
    rw [tripL1] at hp
    rcases List.mem_append.mp hp with h | h
    · obtain rfl := List.mem_singleton.mp h
      exact XB_emb (F := F) _ _ 0 k (off1' ⟨k, hk'⟩) (k1_off1_inb i ⟨k, hk'⟩ h1)
    · exact ih (by omega) p h

/-- The pieces loop 1 has stored cover the columns up to the trip. -/
theorem stC1 (X : BufTy.Contents (Elt F) arg4.view.ty) (k : ℕ) (hk : k ≤ 10) (y : S1024x5120.Idx)
    (hy0 : (y 0).val / 256 = 0) (hy1 : (y 1).val < 512 * k) :
    ∃ p ∈ (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 k).2, y ∈ p.1.set := by
  induction k with
  | zero => omega
  | succ k ih =>
    have hk' : k < k1_t1_loop.trips := by rw [trips1]; omega
    rw [st_k1_t1_succ Variants.none c none i arg2 harg2 arg3 harg3 arg4 harg4 arg5 harg5 arg6 harg6 arg7 harg7 arg8 harg8 arg9 harg9 arg10 harg10 arg11 harg11 arg12 harg12 arg13 harg13 h1 X k1_pay2 ⟨k, hk'⟩, tripL1]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off1 ⟨k, hk'⟩) S256x512.size (k1_off1_inb i ⟨k, hk'⟩ h1)).set
      rw [Rect.mem_set_unit, off1']
      intro a
      fin_cases a
      · show 256 * 0 ≤ (y 0).val ∧ (y 0).val < 256 * 0 + 256
        omega
      · show 512 * k ≤ (y 1).val ∧ (y 1).val < 512 * k + 512
        omega

/-- Loop 2 makes ten trips. -/
theorem trips2 : k1_t2_loop.trips = 10 := by decide +kernel

/-- Where trip `k` of loop 2 reads and writes. -/
theorem off2' (k : Fin k1_t2_loop.trips) : k1_off2 k = ![256 * 1, 512 * k.val] := k1_off2_eq k

/-- What a trip of loop 2 carries on. -/
theorem rawR2 (X : BufTy.Contents (Elt F) arg4.view.ty) (k : Fin k1_t2_loop.trips) (acc) :
    tripR_k1_t2 (F := F) Variants.none c none i arg2 harg2 arg3 harg3 arg4 harg4 arg5 harg5 arg6 harg6 arg7 harg7 arg8 harg8 arg9 harg9 arg10 harg10 arg11 harg11 arg12 harg12 arg13 harg13 h1 X k acc = k1_pay10 (F := F) acc (arg4.view.readAt (Elt F) (Rect.unit (s := S1024x5120) (k1_off2 k) S256x512.size (k1_off2_inb i k h1)).toLoadRect X) := by
  unfold tripR_k1_t2 trip_k1_t2
  rfl

/-- What a trip of loop 2 stores. -/
theorem rawL2 (X : BufTy.Contents (Elt F) arg4.view.ty) (k : Fin k1_t2_loop.trips) (acc) :
    tripL_k1_t2 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off2 k) S256x512.size (k1_off2_inb i k h1), k1_pay9 (F := F) (arg4.view.readAt (Elt F) (Rect.unit (s := S1024x5120) (k1_off2 k) S256x512.size (k1_off2_inb i k h1)).toLoadRect X)⟩] := by
  unfold tripL_k1_t2 trip_k1_t2
  rfl

/-- The carried value of loop 2 is computed as in loop 1. -/
theorem payR2 : k1_pay10 (F := F) = k1_pay5 (F := F) := rfl
/-- The stored tile of loop 2 is computed as in loop 1. -/
theorem payL2 : k1_pay9 (F := F) = k1_pay4 (F := F) := rfl
/-- The row sums of loop 2 are computed as in loop 1. -/
theorem payS2 : k1_pay11 = k1_pay6 := rfl
/-- Loop 2 starts as loop 1 does. -/
theorem payI2 : k1_pay7 = k1_pay2 := rfl

/-- What a trip of loop 2 carries on, in terms of the tile. -/
theorem tripR2 (X : BufTy.Contents (Elt F) arg4.view.ty) (k : Fin k1_t2_loop.trips) (acc) :
    tripR_k1_t2 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 1 k.val) := by
  rw [rawR2, View.readAt_eq_ld, ld_chunk (F := F) (arg4.view.read (Elt F) X) (k1_off2 k) 1 k.val (off2' k) (k1_off2_inb i k h1), payR2]

/-- What a trip of loop 2 stores, in terms of the tile. -/
theorem tripL2 (X : BufTy.Contents (Elt F) arg4.view.ty) (k : Fin k1_t2_loop.trips) (acc) :
    tripL_k1_t2 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off2 k) S256x512.size (k1_off2_inb i k h1), k1_pay4 (F := F) (chunk (arg4.view.read (Elt F) X) 1 k.val)⟩] := by
  rw [rawL2, View.readAt_eq_ld, ld_chunk (F := F) (arg4.view.read (Elt F) X) (k1_off2 k) 1 k.val (off2' k) (k1_off2_inb i k h1), payL2]

/-- Loop 2's carried value before trip `k`. -/
theorem stR2 (X : BufTy.Contents (Elt F) arg4.view.ty) (k : ℕ) (hk : k ≤ 10) :
    (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 k).1 = accN (F := F) (arg4.view.read (Elt F) X) 1 k := by
  induction k with
  | zero => rfl
  | succ k ih =>
    have hk' : k < k1_t2_loop.trips := by rw [trips2]; omega
    rw [st_k1_t2_succ Variants.none c none i arg2 harg2 arg3 harg3 arg4 harg4 arg5 harg5 arg6 harg6 arg7 harg7 arg8 harg8 arg9 harg9 arg10 harg10 arg11 harg11 arg12 harg12 arg13 harg13 h1 X k1_pay7 ⟨k, hk'⟩]
    show tripR_k1_t2 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR2, ih (by omega)]
    rfl

/-- Every piece loop 2 has stored agrees with what is kept. -/
theorem stA2 (X : BufTy.Contents (Elt F) arg4.view.ty) (k : ℕ) (hk : k ≤ 10) :
    ∀ p ∈ (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 k).2, ∀ z : p.1.shape.Idx, p.2 z = XB (F := F) (arg4.view.read (Elt F) X) (p.1.emb z) := by
  induction k with
  | zero => exact fun p hp => absurd hp List.not_mem_nil
  | succ k ih =>
    have hk' : k < k1_t2_loop.trips := by rw [trips2]; omega
    rw [st_k1_t2_succ Variants.none c none i arg2 harg2 arg3 harg3 arg4 harg4 arg5 harg5 arg6 harg6 arg7 harg7 arg8 harg8 arg9 harg9 arg10 harg10 arg11 harg11 arg12 harg12 arg13 harg13 h1 X k1_pay7 ⟨k, hk'⟩]
    intro p hp
    rw [tripL2] at hp
    rcases List.mem_append.mp hp with h | h
    · obtain rfl := List.mem_singleton.mp h
      exact XB_emb (F := F) _ _ 1 k (off2' ⟨k, hk'⟩) (k1_off2_inb i ⟨k, hk'⟩ h1)
    · exact ih (by omega) p h

/-- The pieces loop 2 has stored cover the columns up to the trip. -/
theorem stC2 (X : BufTy.Contents (Elt F) arg4.view.ty) (k : ℕ) (hk : k ≤ 10) (y : S1024x5120.Idx)
    (hy0 : (y 0).val / 256 = 1) (hy1 : (y 1).val < 512 * k) :
    ∃ p ∈ (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 k).2, y ∈ p.1.set := by
  induction k with
  | zero => omega
  | succ k ih =>
    have hk' : k < k1_t2_loop.trips := by rw [trips2]; omega
    rw [st_k1_t2_succ Variants.none c none i arg2 harg2 arg3 harg3 arg4 harg4 arg5 harg5 arg6 harg6 arg7 harg7 arg8 harg8 arg9 harg9 arg10 harg10 arg11 harg11 arg12 harg12 arg13 harg13 h1 X k1_pay7 ⟨k, hk'⟩, tripL2]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off2 ⟨k, hk'⟩) S256x512.size (k1_off2_inb i ⟨k, hk'⟩ h1)).set
      rw [Rect.mem_set_unit, off2']
      intro a
      fin_cases a
      · show 256 * 1 ≤ (y 0).val ∧ (y 0).val < 256 * 1 + 256
        omega
      · show 512 * k ≤ (y 1).val ∧ (y 1).val < 512 * k + 512
        omega

/-- Loop 3 makes ten trips. -/
theorem trips3 : k1_t3_loop.trips = 10 := by decide +kernel

/-- Where trip `k` of loop 3 reads and writes. -/
theorem off3' (k : Fin k1_t3_loop.trips) : k1_off3 k = ![256 * 2, 512 * k.val] := k1_off3_eq k

/-- What a trip of loop 3 carries on. -/
theorem rawR3 (X : BufTy.Contents (Elt F) arg4.view.ty) (k : Fin k1_t3_loop.trips) (acc) :
    tripR_k1_t3 (F := F) Variants.none c none i arg2 harg2 arg3 harg3 arg4 harg4 arg5 harg5 arg6 harg6 arg7 harg7 arg8 harg8 arg9 harg9 arg10 harg10 arg11 harg11 arg12 harg12 arg13 harg13 h1 X k acc = k1_pay15 (F := F) acc (arg4.view.readAt (Elt F) (Rect.unit (s := S1024x5120) (k1_off3 k) S256x512.size (k1_off3_inb i k h1)).toLoadRect X) := by
  unfold tripR_k1_t3 trip_k1_t3
  rfl

/-- What a trip of loop 3 stores. -/
theorem rawL3 (X : BufTy.Contents (Elt F) arg4.view.ty) (k : Fin k1_t3_loop.trips) (acc) :
    tripL_k1_t3 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off3 k) S256x512.size (k1_off3_inb i k h1), k1_pay14 (F := F) (arg4.view.readAt (Elt F) (Rect.unit (s := S1024x5120) (k1_off3 k) S256x512.size (k1_off3_inb i k h1)).toLoadRect X)⟩] := by
  unfold tripL_k1_t3 trip_k1_t3
  rfl

/-- The carried value of loop 3 is computed as in loop 1. -/
theorem payR3 : k1_pay15 (F := F) = k1_pay5 (F := F) := rfl
/-- The stored tile of loop 3 is computed as in loop 1. -/
theorem payL3 : k1_pay14 (F := F) = k1_pay4 (F := F) := rfl
/-- The row sums of loop 3 are computed as in loop 1. -/
theorem payS3 : k1_pay16 = k1_pay6 := rfl
/-- Loop 3 starts as loop 1 does. -/
theorem payI3 : k1_pay12 = k1_pay2 := rfl

/-- What a trip of loop 3 carries on, in terms of the tile. -/
theorem tripR3 (X : BufTy.Contents (Elt F) arg4.view.ty) (k : Fin k1_t3_loop.trips) (acc) :
    tripR_k1_t3 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 2 k.val) := by
  rw [rawR3, View.readAt_eq_ld, ld_chunk (F := F) (arg4.view.read (Elt F) X) (k1_off3 k) 2 k.val (off3' k) (k1_off3_inb i k h1), payR3]

/-- What a trip of loop 3 stores, in terms of the tile. -/
theorem tripL3 (X : BufTy.Contents (Elt F) arg4.view.ty) (k : Fin k1_t3_loop.trips) (acc) :
    tripL_k1_t3 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off3 k) S256x512.size (k1_off3_inb i k h1), k1_pay4 (F := F) (chunk (arg4.view.read (Elt F) X) 2 k.val)⟩] := by
  rw [rawL3, View.readAt_eq_ld, ld_chunk (F := F) (arg4.view.read (Elt F) X) (k1_off3 k) 2 k.val (off3' k) (k1_off3_inb i k h1), payL3]

/-- Loop 3's carried value before trip `k`. -/
theorem stR3 (X : BufTy.Contents (Elt F) arg4.view.ty) (k : ℕ) (hk : k ≤ 10) :
    (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 k).1 = accN (F := F) (arg4.view.read (Elt F) X) 2 k := by
  induction k with
  | zero => rfl
  | succ k ih =>
    have hk' : k < k1_t3_loop.trips := by rw [trips3]; omega
    rw [st_k1_t3_succ Variants.none c none i arg2 harg2 arg3 harg3 arg4 harg4 arg5 harg5 arg6 harg6 arg7 harg7 arg8 harg8 arg9 harg9 arg10 harg10 arg11 harg11 arg12 harg12 arg13 harg13 h1 X k1_pay12 ⟨k, hk'⟩]
    show tripR_k1_t3 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR3, ih (by omega)]
    rfl

/-- Every piece loop 3 has stored agrees with what is kept. -/
theorem stA3 (X : BufTy.Contents (Elt F) arg4.view.ty) (k : ℕ) (hk : k ≤ 10) :
    ∀ p ∈ (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 k).2, ∀ z : p.1.shape.Idx, p.2 z = XB (F := F) (arg4.view.read (Elt F) X) (p.1.emb z) := by
  induction k with
  | zero => exact fun p hp => absurd hp List.not_mem_nil
  | succ k ih =>
    have hk' : k < k1_t3_loop.trips := by rw [trips3]; omega
    rw [st_k1_t3_succ Variants.none c none i arg2 harg2 arg3 harg3 arg4 harg4 arg5 harg5 arg6 harg6 arg7 harg7 arg8 harg8 arg9 harg9 arg10 harg10 arg11 harg11 arg12 harg12 arg13 harg13 h1 X k1_pay12 ⟨k, hk'⟩]
    intro p hp
    rw [tripL3] at hp
    rcases List.mem_append.mp hp with h | h
    · obtain rfl := List.mem_singleton.mp h
      exact XB_emb (F := F) _ _ 2 k (off3' ⟨k, hk'⟩) (k1_off3_inb i ⟨k, hk'⟩ h1)
    · exact ih (by omega) p h

/-- The pieces loop 3 has stored cover the columns up to the trip. -/
theorem stC3 (X : BufTy.Contents (Elt F) arg4.view.ty) (k : ℕ) (hk : k ≤ 10) (y : S1024x5120.Idx)
    (hy0 : (y 0).val / 256 = 2) (hy1 : (y 1).val < 512 * k) :
    ∃ p ∈ (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 k).2, y ∈ p.1.set := by
  induction k with
  | zero => omega
  | succ k ih =>
    have hk' : k < k1_t3_loop.trips := by rw [trips3]; omega
    rw [st_k1_t3_succ Variants.none c none i arg2 harg2 arg3 harg3 arg4 harg4 arg5 harg5 arg6 harg6 arg7 harg7 arg8 harg8 arg9 harg9 arg10 harg10 arg11 harg11 arg12 harg12 arg13 harg13 h1 X k1_pay12 ⟨k, hk'⟩, tripL3]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off3 ⟨k, hk'⟩) S256x512.size (k1_off3_inb i ⟨k, hk'⟩ h1)).set
      rw [Rect.mem_set_unit, off3']
      intro a
      fin_cases a
      · show 256 * 2 ≤ (y 0).val ∧ (y 0).val < 256 * 2 + 256
        omega
      · show 512 * k ≤ (y 1).val ∧ (y 1).val < 512 * k + 512
        omega

/-- Loop 4 makes ten trips. -/
theorem trips4 : k1_t4_loop.trips = 10 := by decide +kernel

/-- Where trip `k` of loop 4 reads and writes. -/
theorem off4' (k : Fin k1_t4_loop.trips) : k1_off4 k = ![256 * 3, 512 * k.val] := k1_off4_eq k

/-- What a trip of loop 4 carries on. -/
theorem rawR4 (X : BufTy.Contents (Elt F) arg4.view.ty) (k : Fin k1_t4_loop.trips) (acc) :
    tripR_k1_t4 (F := F) Variants.none c none i arg2 harg2 arg3 harg3 arg4 harg4 arg5 harg5 arg6 harg6 arg7 harg7 arg8 harg8 arg9 harg9 arg10 harg10 arg11 harg11 arg12 harg12 arg13 harg13 h1 X k acc = k1_pay20 (F := F) acc (arg4.view.readAt (Elt F) (Rect.unit (s := S1024x5120) (k1_off4 k) S256x512.size (k1_off4_inb i k h1)).toLoadRect X) := by
  unfold tripR_k1_t4 trip_k1_t4
  rfl

/-- What a trip of loop 4 stores. -/
theorem rawL4 (X : BufTy.Contents (Elt F) arg4.view.ty) (k : Fin k1_t4_loop.trips) (acc) :
    tripL_k1_t4 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off4 k) S256x512.size (k1_off4_inb i k h1), k1_pay19 (F := F) (arg4.view.readAt (Elt F) (Rect.unit (s := S1024x5120) (k1_off4 k) S256x512.size (k1_off4_inb i k h1)).toLoadRect X)⟩] := by
  unfold tripL_k1_t4 trip_k1_t4
  rfl

/-- The carried value of loop 4 is computed as in loop 1. -/
theorem payR4 : k1_pay20 (F := F) = k1_pay5 (F := F) := rfl
/-- The stored tile of loop 4 is computed as in loop 1. -/
theorem payL4 : k1_pay19 (F := F) = k1_pay4 (F := F) := rfl
/-- The row sums of loop 4 are computed as in loop 1. -/
theorem payS4 : k1_pay21 = k1_pay6 := rfl
/-- Loop 4 starts as loop 1 does. -/
theorem payI4 : k1_pay17 = k1_pay2 := rfl

/-- What a trip of loop 4 carries on, in terms of the tile. -/
theorem tripR4 (X : BufTy.Contents (Elt F) arg4.view.ty) (k : Fin k1_t4_loop.trips) (acc) :
    tripR_k1_t4 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 3 k.val) := by
  rw [rawR4, View.readAt_eq_ld, ld_chunk (F := F) (arg4.view.read (Elt F) X) (k1_off4 k) 3 k.val (off4' k) (k1_off4_inb i k h1), payR4]

/-- What a trip of loop 4 stores, in terms of the tile. -/
theorem tripL4 (X : BufTy.Contents (Elt F) arg4.view.ty) (k : Fin k1_t4_loop.trips) (acc) :
    tripL_k1_t4 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off4 k) S256x512.size (k1_off4_inb i k h1), k1_pay4 (F := F) (chunk (arg4.view.read (Elt F) X) 3 k.val)⟩] := by
  rw [rawL4, View.readAt_eq_ld, ld_chunk (F := F) (arg4.view.read (Elt F) X) (k1_off4 k) 3 k.val (off4' k) (k1_off4_inb i k h1), payL4]

/-- Loop 4's carried value before trip `k`. -/
theorem stR4 (X : BufTy.Contents (Elt F) arg4.view.ty) (k : ℕ) (hk : k ≤ 10) :
    (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 k).1 = accN (F := F) (arg4.view.read (Elt F) X) 3 k := by
  induction k with
  | zero => rfl
  | succ k ih =>
    have hk' : k < k1_t4_loop.trips := by rw [trips4]; omega
    rw [st_k1_t4_succ Variants.none c none i arg2 harg2 arg3 harg3 arg4 harg4 arg5 harg5 arg6 harg6 arg7 harg7 arg8 harg8 arg9 harg9 arg10 harg10 arg11 harg11 arg12 harg12 arg13 harg13 h1 X k1_pay17 ⟨k, hk'⟩]
    show tripR_k1_t4 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR4, ih (by omega)]
    rfl

/-- Every piece loop 4 has stored agrees with what is kept. -/
theorem stA4 (X : BufTy.Contents (Elt F) arg4.view.ty) (k : ℕ) (hk : k ≤ 10) :
    ∀ p ∈ (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 k).2, ∀ z : p.1.shape.Idx, p.2 z = XB (F := F) (arg4.view.read (Elt F) X) (p.1.emb z) := by
  induction k with
  | zero => exact fun p hp => absurd hp List.not_mem_nil
  | succ k ih =>
    have hk' : k < k1_t4_loop.trips := by rw [trips4]; omega
    rw [st_k1_t4_succ Variants.none c none i arg2 harg2 arg3 harg3 arg4 harg4 arg5 harg5 arg6 harg6 arg7 harg7 arg8 harg8 arg9 harg9 arg10 harg10 arg11 harg11 arg12 harg12 arg13 harg13 h1 X k1_pay17 ⟨k, hk'⟩]
    intro p hp
    rw [tripL4] at hp
    rcases List.mem_append.mp hp with h | h
    · obtain rfl := List.mem_singleton.mp h
      exact XB_emb (F := F) _ _ 3 k (off4' ⟨k, hk'⟩) (k1_off4_inb i ⟨k, hk'⟩ h1)
    · exact ih (by omega) p h

/-- The pieces loop 4 has stored cover the columns up to the trip. -/
theorem stC4 (X : BufTy.Contents (Elt F) arg4.view.ty) (k : ℕ) (hk : k ≤ 10) (y : S1024x5120.Idx)
    (hy0 : (y 0).val / 256 = 3) (hy1 : (y 1).val < 512 * k) :
    ∃ p ∈ (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 k).2, y ∈ p.1.set := by
  induction k with
  | zero => omega
  | succ k ih =>
    have hk' : k < k1_t4_loop.trips := by rw [trips4]; omega
    rw [st_k1_t4_succ Variants.none c none i arg2 harg2 arg3 harg3 arg4 harg4 arg5 harg5 arg6 harg6 arg7 harg7 arg8 harg8 arg9 harg9 arg10 harg10 arg11 harg11 arg12 harg12 arg13 harg13 h1 X k1_pay17 ⟨k, hk'⟩, tripL4]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off4 ⟨k, hk'⟩) S256x512.size (k1_off4_inb i ⟨k, hk'⟩ h1)).set
      rw [Rect.mem_set_unit, off4']
      intro a
      fin_cases a
      · show 256 * 3 ≤ (y 0).val ∧ (y 0).val < 256 * 3 + 256
        omega
      · show 512 * k ≤ (y 1).val ∧ (y 1).val < 512 * k + 512
        omega

end Trips

end Cert.Kernel.Own

end
-- ==== Proof.Kernel.Fill2.lean ====
module

public import proofs.«01_k».proof.Proof.Kernel.Fill

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Fill
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole)

/-- The conditional part of a grid step: at the first column block of a row block it converts the operand and sums its rows. -/
def fill : Prog (TpuEff nD τ sig (Elt F) Λ₀ .tc) PUnit := do
  if k1_h1 : k1_cond1 i = 1#1 then do
    let ⟨v437, c0_i32_175⟩ : Σ' (v437 : IVec S256x128 32), BitVec 32 ← k1_part1 (F := F) i arg2 harg2 arg3 harg3 arg4 harg4 arg5 harg5 arg6 harg6 arg7 harg7 arg8 harg8 arg9 harg9 arg10 harg10 arg11 harg11 arg12 harg12 arg13 harg13 k1_h1
    let v439 : IVec S256x128 32 ← Scf.Loop.for k1_t4_loop (k1_t4_ok i k1_h1) v437 (k1_t4_body (F := F) i arg2 harg2 arg3 harg3 arg4 harg4 arg5 harg5 arg6 harg6 arg7 harg7 arg8 harg8 arg9 harg9 arg10 harg10 arg11 harg11 arg12 harg12 arg13 harg13 k1_h1)
    let v444 : Vec F S256x128 .i32 ← Prog.lift (.load arg13 (Rect.unit (s := S1024x128) ![768, 0] S256x128.size inb_S1024x128_S256x128_768_0).toLoadRect (View.loadsAt_vmem h_S256x128))
    Prog.lift (.store arg13 (Rect.unit (s := S1024x128) ![768, 0] S256x128.size inb_S1024x128_S256x128_768_0) (k1_pay21 v439) Finset.univ (View.stores_vmem_bits_univ h_S256x128 rfl) (.inl rfl))
    pure ⟨⟩
  else do
    pure ⟨⟩

/-- The stores of the four loops leave the operand in the narrow float format. -/
theorem read12 (h1 : k1_cond1 i = 1#1) (X : BufTy.Contents (Elt F) arg4.view.ty) (G12 : BufTy.Contents (Elt F) arg12.view.ty) :
    arg12.view.read (Elt F) (arg12.view.writes (Elt F) G12 ((st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 (Scf.trips k1_t4_loop.lb k1_t4_loop.ub k1_t4_loop.st)).2 ++ ((st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 (Scf.trips k1_t3_loop.lb k1_t3_loop.ub k1_t3_loop.st)).2 ++ ((st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 (Scf.trips k1_t2_loop.lb k1_t2_loop.ub k1_t2_loop.st)).2 ++ (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 (Scf.trips k1_t1_loop.lb k1_t1_loop.ub k1_t1_loop.st)).2))))
      = XB (F := F) (arg4.view.read (Elt F) X) := by
  funext y
  apply View.read_writes_apply_of_pieces
  · intro p hp
    rcases List.mem_append.mp hp with h | h
    · exact stA4 c i arg2 harg2 arg3 harg3 arg4 harg4 arg5 harg5 arg6 harg6 arg7 harg7 arg8 harg8 arg9 harg9 arg10 harg10 arg11 harg11 arg12 harg12 arg13 harg13 h1 X 10 (le_refl _) p h
    rcases List.mem_append.mp h with h | h
    · exact stA3 c i arg2 harg2 arg3 harg3 arg4 harg4 arg5 harg5 arg6 harg6 arg7 harg7 arg8 harg8 arg9 harg9 arg10 harg10 arg11 harg11 arg12 harg12 arg13 harg13 h1 X 10 (le_refl _) p h
    rcases List.mem_append.mp h with h | h
    · exact stA2 c i arg2 harg2 arg3 harg3 arg4 harg4 arg5 harg5 arg6 harg6 arg7 harg7 arg8 harg8 arg9 harg9 arg10 harg10 arg11 harg11 arg12 harg12 arg13 harg13 h1 X 10 (le_refl _) p h
    · exact stA1 c i arg2 harg2 arg3 harg3 arg4 harg4 arg5 harg5 arg6 harg6 arg7 harg7 arg8 harg8 arg9 harg9 arg10 harg10 arg11 harg11 arg12 harg12 arg13 harg13 h1 X 10 (le_refl _) p h
  · have y0 : (y 0).val < 1024 := (y 0).isLt
    have y1 : (y 1).val < 5120 := (y 1).isLt
    have hr : (y 0).val / 256 = 0 ∨ (y 0).val / 256 = 1 ∨ (y 0).val / 256 = 2 ∨ (y 0).val / 256 = 3 := by omega
    rcases hr with hr | hr | hr | hr
    · obtain ⟨p, hp, hy⟩ := stC1 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_right _ (List.mem_append_right _ (List.mem_append_right _ hp)), hy⟩
    · obtain ⟨p, hp, hy⟩ := stC2 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_right _ (List.mem_append_right _ (List.mem_append_left _ hp)), hy⟩
    · obtain ⟨p, hp, hy⟩ := stC3 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_right _ (List.mem_append_left _ hp), hy⟩
    · obtain ⟨p, hp, hy⟩ := stC4 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_left _ hp, hy⟩

/-- A stripe of 256 rows of the row sums contains the rows it should. -/
theorem mem_stripe13 (y : S1024x128.Idx) (r : ℕ) (hr : (y 0).val / 256 = r) (inb : ∀ a, (![256 * r, 0] : Fin 2 → ℕ) a + S256x128.size a ≤ S1024x128.size a) :
    y ∈ (Rect.unit (s := S1024x128) ![256 * r, 0] S256x128.size inb).set := by
  rw [Rect.mem_set_unit]
  have y1 : (y 1).val < 128 := (y 1).isLt
  intro a
  fin_cases a
  · show 256 * r ≤ (y 0).val ∧ (y 0).val < 256 * r + 256
    omega
  · show 0 ≤ (y 1).val ∧ (y 1).val < 0 + 128
    omega

/-- The four stores of row sums leave the row sums. -/
theorem read13g (x : S1024x5120.Idx → Elt F .i8) (G13 : BufTy.Contents (Elt F) arg13.view.ty) (w0 w1 w2 w3 : S256x128.Idx → Elt F .i32)
    (h0 : w0 = k1_pay6 (accN (F := F) x 0 10)) (h1 : w1 = k1_pay6 (accN (F := F) x 1 10))
    (h2 : w2 = k1_pay6 (accN (F := F) x 2 10)) (h3 : w3 = k1_pay6 (accN (F := F) x 3 10)) :
    arg13.view.read (Elt F) (arg13.view.writes (Elt F) G13
      [⟨Rect.unit (s := S1024x128) ![768, 0] S256x128.size inb_S1024x128_S256x128_768_0, w3⟩,
       ⟨Rect.unit (s := S1024x128) ![512, 0] S256x128.size inb_S1024x128_S256x128_512_0, w2⟩,
       ⟨Rect.unit (s := S1024x128) ![256, 0] S256x128.size inb_S1024x128_S256x128_256_0, w1⟩,
       ⟨Rect.unit (s := S1024x128) ![0, 0] S256x128.size inb_S1024x128_S256x128_0_0, w0⟩])
      = SX (F := F) x := by
  have e0 : ∀ z, w0 z = _ := fun z => (congrFun h0 z).trans (SX_emb (F := F) x ![0, 0] 0 rfl inb_S1024x128_S256x128_0_0 z)
  have e1 : ∀ z, w1 z = _ := fun z => (congrFun h1 z).trans (SX_emb (F := F) x ![256, 0] 1 rfl inb_S1024x128_S256x128_256_0 z)
  have e2 : ∀ z, w2 z = _ := fun z => (congrFun h2 z).trans (SX_emb (F := F) x ![512, 0] 2 rfl inb_S1024x128_S256x128_512_0 z)
  have e3 : ∀ z, w3 z = _ := fun z => (congrFun h3 z).trans (SX_emb (F := F) x ![768, 0] 3 rfl inb_S1024x128_S256x128_768_0 z)
  clear h0 h1 h2 h3
  generalize SX (F := F) x = S at *
  funext y
  apply View.read_writes_apply_of_pieces
  · intro p hp
    simp only [List.mem_cons, List.not_mem_nil, or_false] at hp
    rcases hp with rfl | rfl | rfl | rfl
    · exact e3
    · exact e2
    · exact e1
    · exact e0
  · have y0 : (y 0).val < 1024 := (y 0).isLt
    have hr : (y 0).val / 256 = 0 ∨ (y 0).val / 256 = 1 ∨ (y 0).val / 256 = 2 ∨ (y 0).val / 256 = 3 := by omega
    rcases hr with hr | hr | hr | hr
    · exact ⟨_, List.mem_cons_of_mem _ (List.mem_cons_of_mem _ (List.mem_cons_of_mem _ List.mem_cons_self)), mem_stripe13 y 0 hr inb_S1024x128_S256x128_0_0⟩
    · exact ⟨_, List.mem_cons_of_mem _ (List.mem_cons_of_mem _ List.mem_cons_self), mem_stripe13 y 1 hr inb_S1024x128_S256x128_256_0⟩
    · exact ⟨_, List.mem_cons_of_mem _ List.mem_cons_self, mem_stripe13 y 2 hr inb_S1024x128_S256x128_512_0⟩
    · exact ⟨_, List.mem_cons_self, mem_stripe13 y 3 hr inb_S1024x128_S256x128_768_0⟩

/-- What the four stores of row sums leave in the buffer. -/
theorem read13 (h1 : k1_cond1 i = 1#1) (X : BufTy.Contents (Elt F) arg4.view.ty) (G13 : BufTy.Contents (Elt F) arg13.view.ty) :
    arg13.view.read (Elt F) (arg13.view.writes (Elt F) G13
      [⟨Rect.unit (s := S1024x128) ![768, 0] S256x128.size inb_S1024x128_S256x128_768_0, k1_pay21 (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 (Scf.trips k1_t4_loop.lb k1_t4_loop.ub k1_t4_loop.st)).1⟩,
       ⟨Rect.unit (s := S1024x128) ![512, 0] S256x128.size inb_S1024x128_S256x128_512_0, k1_pay16 (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 (Scf.trips k1_t3_loop.lb k1_t3_loop.ub k1_t3_loop.st)).1⟩,
       ⟨Rect.unit (s := S1024x128) ![256, 0] S256x128.size inb_S1024x128_S256x128_256_0, k1_pay11 (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 (Scf.trips k1_t2_loop.lb k1_t2_loop.ub k1_t2_loop.st)).1⟩,
       ⟨Rect.unit (s := S1024x128) ![0, 0] S256x128.size inb_S1024x128_S256x128_0_0, k1_pay6 (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 (Scf.trips k1_t1_loop.lb k1_t1_loop.ub k1_t1_loop.st)).1⟩])
      = SX (F := F) (arg4.view.read (Elt F) X) := by
  apply read13g
  · rw [show Scf.trips k1_t1_loop.lb k1_t1_loop.ub k1_t1_loop.st = 10 from trips1, stR1 c i arg2 harg2 arg3 harg3 arg4 harg4 arg5 harg5 arg6 harg6 arg7 harg7 arg8 harg8 arg9 harg9 arg10 harg10 arg11 harg11 arg12 harg12 arg13 harg13 h1 X 10 (le_refl _)]
  · rw [payS2, show Scf.trips k1_t2_loop.lb k1_t2_loop.ub k1_t2_loop.st = 10 from trips2, stR2 c i arg2 harg2 arg3 harg3 arg4 harg4 arg5 harg5 arg6 harg6 arg7 harg7 arg8 harg8 arg9 harg9 arg10 harg10 arg11 harg11 arg12 harg12 arg13 harg13 h1 X 10 (le_refl _)]
  · rw [payS3, show Scf.trips k1_t3_loop.lb k1_t3_loop.ub k1_t3_loop.st = 10 from trips3, stR3 c i arg2 harg2 arg3 harg3 arg4 harg4 arg5 harg5 arg6 harg6 arg7 harg7 arg8 harg8 arg9 harg9 arg10 harg10 arg11 harg11 arg12 harg12 arg13 harg13 h1 X 10 (le_refl _)]
  · rw [payS4, show Scf.trips k1_t4_loop.lb k1_t4_loop.ub k1_t4_loop.st = 10 from trips4, stR4 c i arg2 harg2 arg3 harg3 arg4 harg4 arg5 harg5 arg6 harg6 arg7 harg7 arg8 harg8 arg9 harg9 arg10 harg10 arg11 harg11 arg12 harg12 arg13 harg13 h1 X 10 (le_refl _)]

set_option maxHeartbeats 1000000 in
/-- The conditional part, when it runs, leaves the two scratch buffers at the converted operand and its row sums. -/
theorem fill_wp (h1 : k1_cond1 i = 1#1) (X : BufTy.Contents (Elt F) arg4.view.ty) (G12 : BufTy.Contents (Elt F) arg12.view.ty) (G13 : BufTy.Contents (Elt F) arg13.view.ty) :
    iprop((arg4.view.loc (c : Thread nD τ) ↦[arg4.view.set]{fullShare} X)
      ∗ (arg12.view.loc (c : Thread nD τ) ↦[arg12.view.set]{fullShare} G12)
      ∗ (arg13.view.loc (c : Thread nD τ) ↦[arg13.view.set]{fullShare} G13) : sProp 𝕄)
    ⊢ wp frame (wpE (defs₀ (F := F)) Variants.none (c : Thread nD τ) none) Set.univ (fill (F := F) i arg2 harg2 arg3 harg3 arg4 harg4 arg5 harg5 arg6 harg6 arg7 harg7 arg8 harg8 arg9 harg9 arg10 harg10 arg11 harg11 arg12 harg12 arg13 harg13)
      (fun _ => iprop((arg4.view.loc (c : Thread nD τ) ↦[arg4.view.set]{fullShare} X)
        ∗ owns (c : Thread nD τ) arg12 fullShare (XB (F := F) (arg4.view.read (Elt F) X))
        ∗ owns (c : Thread nD τ) arg13 fullShare (SX (F := F) (arg4.view.read (Elt F) X)))) := by
  unfold fill
  simp only [k1_part1_eq_skeleton]
  unfold owns
  iintro ⟨H4, H12, H13⟩
  sl_exec (disch := first | sl_exact h1)
  sl_step
  isplitl [H4]
  · iexact H4
  isplitl [H12]
  · iexists _
    isplitr [H12]
    rotate_left
    · iexact H12
    · ipureintro
      exact read12 c i arg2 harg2 arg3 harg3 arg4 harg4 arg5 harg5 arg6 harg6 arg7 harg7 arg8 harg8 arg9 harg9 arg10 harg10 arg11 harg11 arg12 harg12 arg13 harg13 h1 X G12
  · iexists _
    isplitr [H13]
    rotate_left
    · iexact H13
    · ipureintro
      exact read13 c i arg2 harg2 arg3 harg3 arg4 harg4 arg5 harg5 arg6 harg6 arg7 harg7 arg8 harg8 arg9 harg9 arg10 harg10 arg11 harg11 arg12 harg12 arg13 harg13 h1 X G13

end Fill

end Cert.Kernel.Own

end
-- ==== Proof.Kernel.Body.lean ====
module

public import proofs.«01_k».proof.Proof.Kernel.Fill2

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The piece of the kept operand at rows from `256 r` and columns from `1024 k`. -/
def xchunk (x : S1024x5120.Idx → Elt F .bf16) (r k : ℕ) : S256x1024.Idx → Elt F .bf16 :=
  fun z => x (ix (d := ![1024, 5120]) (by decide) (256 * r + (z 0).val) (1024 * k + (z 1).val))

/-- The piece of the kept row sums at rows from `256 r`. -/
def schunk (x : S1024x128.Idx → Elt F .i32) (r : ℕ) : S256x128.Idx → Elt F .i32 :=
  fun z => x (ix (d := ![1024, 128]) (by decide) (256 * r + (z 0).val) (z 1).val)

/-- What a grid step stores for one stripe of 256 rows, from the five pieces of the kept operand and the row sums. -/
def stripe (xzp yzp : Elt F .i32) (w : Vec F S5120x512 .i8) (b4 b5 b6 b7 b8 : Vec F S1x512 .i32)
    (a b c d e : Vec F S256x1024 .bf16) (s : Vec F S256x128 .i32) : Vec F S256x512 .i8 :=
  k1_pay32 (k1_pay31 yzp (k1_pay25 (F := F) b7) (k1_pay26 (F := F) b8)
    (k1_pay28 (F := F) (k1_pay23 (F := F) xzp b5 b4 b6) (k1_pay24 (F := F) b5) (k1_pay27 (F := F) w) 0#32 a b c d e s)
    (k1_pay29 (k1_pay25 (F := F) b7)) k1_pay30)

/-- The one index of a one-element array. -/
def zero1 : S1.Idx := fun a => ⟨0, by fin_cases a; decide⟩

/-- The output block of a grid step from its input blocks and the two kept buffers. -/
def outB (x0 x1 : S1.Idx → Elt F .i32) (w : Vec F S5120x512 .i8) (b4 b5 b6 b7 b8 : Vec F S1x512 .i32)
    (xb : S1024x5120.Idx → Elt F .bf16) (sx : S1024x128.Idx → Elt F .i32) : S1024x512.Idx → Elt F .i8 :=
  fun y => stripe (F := F) (x0 zero1) (x1 zero1) w b4 b5 b6 b7 b8
    (xchunk xb ((y 0).val / 256) 0) (xchunk xb ((y 0).val / 256) 1) (xchunk xb ((y 0).val / 256) 2)
    (xchunk xb ((y 0).val / 256) 3) (xchunk xb ((y 0).val / 256) 4) (schunk sx ((y 0).val / 256))
    (ix (d := ![256, 512]) (by decide) ((y 0).val % 256) (y 1).val)

/-- The loads of one grid step after its conditional part. -/
def part2r (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole) : Prog (TpuEff nD τ sig (Elt F) Λ₀ .tc) (Σ' (v4 : Elt F .i32) (v22 : IVec S1x512 32) (v24 : IVec S1x512 32) (v26 : IVec S1x512 32) (v28 : IVec S1x512 32) (v34 : FVec F S5120x512 .bf16), BitVec 32) := do
  let v3 : Elt F .i32 ← smemLoad arg2 (Rect.unit (s := S1) ![0] S1.size inb_S1_S1_0) numel1_S1 rfl
  let v4 : Elt F .i32 ← smemLoad arg3 (Rect.unit (s := S1) ![0] S1.size inb_S1_S1_0) numel1_S1 rfl
  let v5 : Vec F S1x512 .i32 ← Prog.lift (.load arg7 (Rect.unit (s := S1x512) ![0, 0] S1x512.size inb_S1x512_S1x512_0_0).toLoadRect (View.loadsAt_vmem h_S1x512))
  let v7 : Vec F S1x512 .i32 ← Prog.lift (.load arg6 (Rect.unit (s := S1x512) ![0, 0] S1x512.size inb_S1x512_S1x512_0_0).toLoadRect (View.loadsAt_vmem h_S1x512))
  let v12 : Vec F S1x512 .i32 ← Prog.lift (.load arg8 (Rect.unit (s := S1x512) ![0, 0] S1x512.size inb_S1x512_S1x512_0_0).toLoadRect (View.loadsAt_vmem h_S1x512))
  let v25 : Vec F S1x512 .i32 ← Prog.lift (.load arg9 (Rect.unit (s := S1x512) ![0, 0] S1x512.size inb_S1x512_S1x512_0_0).toLoadRect (View.loadsAt_vmem h_S1x512))
  let v27 : Vec F S1x512 .i32 ← Prog.lift (.load arg10 (Rect.unit (s := S1x512) ![0, 0] S1x512.size inb_S1x512_S1x512_0_0).toLoadRect (View.loadsAt_vmem h_S1x512))
  let v29 : Vec F S5120x512 .i8 ← Prog.lift (.load arg5 (Rect.unit (s := S5120x512) ![0, 0] S5120x512.size inb_S5120x512_S5120x512_0_0).toLoadRect (View.loadsAt_vmem h_S5120x512))
  pure ⟨v4, k1_pay23 v3 v5 v7 v12, k1_pay24 v5, k1_pay25 v25, k1_pay26 v27, k1_pay27 v29, 0#32⟩

/-- The output block, read in a stripe of 256 rows. -/
theorem outB_emb (x0 x1 : S1.Idx → Elt F .i32) (w : Vec F S5120x512 .i8) (b4 b5 b6 b7 b8 : Vec F S1x512 .i32)
    (xb : S1024x5120.Idx → Elt F .bf16) (sx : S1024x128.Idx → Elt F .i32) (off : Fin 2 → ℕ) (r : ℕ) (hoff : off = ![256 * r, 0])
    (inb : ∀ a, off a + S256x512.size a ≤ S1024x512.size a) (z : S256x512.Idx) :
    stripe (F := F) (x0 zero1) (x1 zero1) w b4 b5 b6 b7 b8 (xchunk xb r 0) (xchunk xb r 1) (xchunk xb r 2) (xchunk xb r 3) (xchunk xb r 4) (schunk sx r) z
      = outB (F := F) x0 x1 w b4 b5 b6 b7 b8 xb sx ((Rect.unit (s := S1024x512) off S256x512.size inb).emb z) := by
  subst hoff
  have z0 := (z 0).isLt
  have z1 := (z 1).isLt
  change (z 0).val < 256 at z0
  change (z 1).val < 512 at z1
  have e0 : ((((Rect.unit (s := S1024x512) ![256 * r, 0] S256x512.size inb).emb z) 0).val) = 256 * r + (z 0).val := by
    show 256 * r + 1 * (z 0).val = _
    omega
  have e1 : ((((Rect.unit (s := S1024x512) ![256 * r, 0] S256x512.size inb).emb z) 1).val) = (z 1).val := by
    show 0 + 1 * (z 1).val = _
    omega
  unfold outB
  rw [e0, e1, show (256 * r + (z 0).val) / 256 = r by omega, show (256 * r + (z 0).val) % 256 = (z 0).val by omega]
  congr 1
  funext a
  apply Fin.ext
  fin_cases a
  · exact (Nat.mod_eq_of_lt z0).symm
  · exact (Nat.mod_eq_of_lt z1).symm

/-- A stripe of 256 rows of the output contains the rows it should. -/
theorem mem_stripe11 (y : S1024x512.Idx) (r : ℕ) (hr : (y 0).val / 256 = r) (inb : ∀ a, (![256 * r, 0] : Fin 2 → ℕ) a + S256x512.size a ≤ S1024x512.size a) :
    y ∈ (Rect.unit (s := S1024x512) ![256 * r, 0] S256x512.size inb).set := by
  rw [Rect.mem_set_unit]
  have y1 : (y 1).val < 512 := (y 1).isLt
  intro a
  fin_cases a
  · show 256 * r ≤ (y 0).val ∧ (y 0).val < 256 * r + 256
    omega
  · show 0 ≤ (y 1).val ∧ (y 1).val < 0 + 512
    omega

/-- The four stores of stripes leave the output block. -/
theorem readOut (arg11 : Memref sig .tc .vmem S1024x512 .i8) (G : BufTy.Contents (Elt F) arg11.view.ty) (S : S1024x512.Idx → Elt F .i8) (w0 w1 w2 w3 : S256x512.Idx → Elt F .i8)
    (h0 : ∀ z, w0 z = S ((Rect.unit (s := S1024x512) ![0, 0] S256x512.size inb_S1024x512_S256x512_0_0).emb z))
    (h1 : ∀ z, w1 z = S ((Rect.unit (s := S1024x512) ![256, 0] S256x512.size inb_S1024x512_S256x512_256_0).emb z))
    (h2 : ∀ z, w2 z = S ((Rect.unit (s := S1024x512) ![512, 0] S256x512.size inb_S1024x512_S256x512_512_0).emb z))
    (h3 : ∀ z, w3 z = S ((Rect.unit (s := S1024x512) ![768, 0] S256x512.size inb_S1024x512_S256x512_768_0).emb z)) :
    arg11.view.read (Elt F) (arg11.view.writes (Elt F) G
      [⟨Rect.unit (s := S1024x512) ![768, 0] S256x512.size inb_S1024x512_S256x512_768_0, w3⟩,
       ⟨Rect.unit (s := S1024x512) ![512, 0] S256x512.size inb_S1024x512_S256x512_512_0, w2⟩,
       ⟨Rect.unit (s := S1024x512) ![256, 0] S256x512.size inb_S1024x512_S256x512_256_0, w1⟩,
       ⟨Rect.unit (s := S1024x512) ![0, 0] S256x512.size inb_S1024x512_S256x512_0_0, w0⟩]) = S := by
  funext y
  apply View.read_writes_apply_of_pieces
  · intro p hp
    simp only [List.mem_cons, List.not_mem_nil, or_false] at hp
    rcases hp with rfl | rfl | rfl | rfl
    · exact h3
    · exact h2
    · exact h1
    · exact h0
  · have y0 : (y 0).val < 1024 := (y 0).isLt
    have hr : (y 0).val / 256 = 0 ∨ (y 0).val / 256 = 1 ∨ (y 0).val / 256 = 2 ∨ (y 0).val / 256 = 3 := by omega
    rcases hr with hr | hr | hr | hr
    · exact ⟨_, List.mem_cons_of_mem _ (List.mem_cons_of_mem _ (List.mem_cons_of_mem _ List.mem_cons_self)), mem_stripe11 y 0 hr inb_S1024x512_S256x512_0_0⟩
    · exact ⟨_, List.mem_cons_of_mem _ (List.mem_cons_of_mem _ List.mem_cons_self), mem_stripe11 y 1 hr inb_S1024x512_S256x512_256_0⟩
    · exact ⟨_, List.mem_cons_of_mem _ List.mem_cons_self, mem_stripe11 y 2 hr inb_S1024x512_S256x512_512_0⟩
    · exact ⟨_, List.mem_cons_self, mem_stripe11 y 3 hr inb_S1024x512_S256x512_768_0⟩

/-- A load of 256 rows and 1024 columns of the operand. -/
theorem ld_xchunk (x : S1024x5120.Idx → Elt F .bf16) (off : Fin 2 → ℕ) (r k : ℕ) (hoff : off = ![256 * r, 1024 * k])
    (inb : ∀ a, off a + S256x1024.size a ≤ S1024x5120.size a) :
    View.ld x (Rect.unit (s := S1024x5120) off S256x1024.size inb) = xchunk x r k := by
  subst hoff
  funext z
  show x _ = x _
  congr 1
  funext a
  apply Fin.ext
  have h0 := inb 0
  have h1 := inb 1
  have z0 := (z 0).isLt
  have z1 := (z 1).isLt
  change 256 * r + 256 ≤ 1024 at h0
  change 1024 * k + 1024 ≤ 5120 at h1
  change (z 0).val < 256 at z0
  change (z 1).val < 1024 at z1
  fin_cases a
  · show 256 * r + 1 * (z 0).val = (256 * r + (z 0).val) % 1024
    omega
  · show 1024 * k + 1 * (z 1).val = (1024 * k + (z 1).val) % 5120
    omega

/-- A load of 256 rows of the row sums. -/
theorem ld_schunk (x : S1024x128.Idx → Elt F .i32) (off : Fin 2 → ℕ) (r : ℕ) (hoff : off = ![256 * r, 0])
    (inb : ∀ a, off a + S256x128.size a ≤ S1024x128.size a) :
    View.ld x (Rect.unit (s := S1024x128) off S256x128.size inb) = schunk x r := by
  subst hoff
  funext z
  show x _ = x _
  congr 1
  funext a
  apply Fin.ext
  have h0 := inb 0
  have z0 := (z 0).isLt
  have z1 := (z 1).isLt
  change 256 * r + 256 ≤ 1024 at h0
  change (z 0).val < 256 at z0
  change (z 1).val < 128 at z1
  fin_cases a
  · show 256 * r + 1 * (z 0).val = (256 * r + (z 0).val) % 1024
    omega
  · show 0 + 1 * (z 1).val = ((z 1).val) % 128
    omega

/-- A load of a whole row of per-column numbers. -/
theorem ld_b (x : S1x512.Idx → Elt F .i32) (inb : ∀ a, (![0, 0] : Fin 2 → ℕ) a + S1x512.size a ≤ S1x512.size a) :
    View.ld x (Rect.unit (s := S1x512) ![0, 0] S1x512.size inb) = x := by
  funext z
  show x _ = x _
  congr 1
  funext a
  apply Fin.ext
  fin_cases a
  · show 0 + 1 * (z 0).val = (z 0).val
    omega
  · show 0 + 1 * (z 1).val = (z 1).val
    omega

/-- A load of the whole weight block. -/
theorem ld_w (x : S5120x512.Idx → Elt F .i8) (inb : ∀ a, (![0, 0] : Fin 2 → ℕ) a + S5120x512.size a ≤ S5120x512.size a) :
    View.ld x (Rect.unit (s := S5120x512) ![0, 0] S5120x512.size inb) = x := by
  funext z
  show x _ = x _
  congr 1
  funext a
  apply Fin.ext
  fin_cases a
  · show 0 + 1 * (z 0).val = (z 0).val
    omega
  · show 0 + 1 * (z 1).val = (z 1).val
    omega

section Stripes
variable (v4 : Elt F .i32) (v22 v24 v26 v28 : IVec S1x512 32) (v34 : FVec F S5120x512 .bf16) (a b c d e : Vec F S256x1024 .bf16) (s : Vec F S256x128 .i32)

/-- The stripe's arithmetic as the kernel's second stripe spells it. -/
theorem stripe1_eq : k1_pay35 (F := F) v4 v28 (k1_pay34 (F := F) v22 v24 v26 (k1_pay33 (F := F) v34 a b c d e) s) 1#32
    = k1_pay32 (k1_pay31 v4 v26 v28 (k1_pay28 (F := F) v22 v24 v34 0#32 a b c d e s) (k1_pay29 v26) k1_pay30) := rfl

/-- The stripe's arithmetic as the kernel's third stripe spells it. -/
theorem stripe2_eq : k1_pay43 v4 v28 (k1_pay39 v26) (k1_pay40 (F := F) v22 v24 v34 (k1_pay36 (F := F) v34 a b c) (k1_pay37 (F := F) v34 d) e s)
      (k1_pay41 (F := F) v22 v24 v26 v34 (k1_pay36 (F := F) v34 a b c) (k1_pay37 (F := F) v34 d) e s) k1_pay42
    = k1_pay32 (k1_pay31 v4 v26 v28 (k1_pay28 (F := F) v22 v24 v34 0#32 a b c d e s) (k1_pay29 v26) k1_pay30) := rfl

/-- The stripe's arithmetic as the kernel's fourth stripe spells it. -/
theorem stripe3_eq : k1_pay1 v4 v28 (k1_pay48 v26)
      (k1_pay49 (F := F) v22 v24 v34 (k1_pay44 (F := F) v34 a b) c (k1_pay45 (F := F) v34) (constant S256x512 .f32 0x00000000#32) d e s)
      (k1_pay50 (F := F) v22 v24 v34 (k1_pay44 (F := F) v34 a b) c (k1_pay45 (F := F) v34) (constant S256x512 .f32 0x00000000#32) d e s)
      (k1_pay51 (F := F) v22 v24 v26 v34 (k1_pay44 (F := F) v34 a b) c (k1_pay45 (F := F) v34) (constant S256x512 .f32 0x00000000#32) d e s)
      (k1_pay52 (F := F) v22 v24 v26 v34 (k1_pay44 (F := F) v34 a b) c (k1_pay45 (F := F) v34) (constant S256x512 .f32 0x00000000#32) d e s)
    = k1_pay32 (k1_pay31 v4 v26 v28 (k1_pay28 (F := F) v22 v24 v34 0#32 a b c d e s) (k1_pay29 v26) k1_pay30) := rfl

end Stripes

section Body
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole)

/-- One grid step after its conditional part. -/
def step : Prog (TpuEff nD τ sig (Elt F) Λ₀ .tc) PUnit := do
  let ⟨v4, v22, v24, v26, v28, v34, c0_i32_15⟩ : Σ' (v4 : Elt F .i32) (v22 : IVec S1x512 32) (v24 : IVec S1x512 32) (v26 : IVec S1x512 32) (v28 : IVec S1x512 32) (v34 : FVec F S5120x512 .bf16), BitVec 32 ← part2r (F := F) i arg2 harg2 arg3 harg3 arg4 harg4 arg5 harg5 arg6 harg6 arg7 harg7 arg8 harg8 arg9 harg9 arg10 harg10 arg11 harg11 arg12 harg12 arg13 harg13
  let ⟨v72, v74, v75⟩ : Σ' (v72 : IVec S256x512 32) (v74 : IVec S1x512 32), IVec S1x512 32 ← k1_part3 i arg2 harg2 arg3 harg3 arg4 harg4 arg5 harg5 arg6 harg6 arg7 harg7 arg8 harg8 arg9 harg9 arg10 harg10 arg11 harg11 arg12 harg12 arg13 harg13 v22 v24 v26 v34 c0_i32_15
  let v121 : IVec S256x512 32 ← k1_part4 i arg2 harg2 arg3 harg3 arg4 harg4 arg5 harg5 arg6 harg6 arg7 harg7 arg8 harg8 arg9 harg9 arg10 harg10 arg11 harg11 arg12 harg12 arg13 harg13 v4 v26 v28 v72 v74 v75
  let v158 : IVec S256x512 32 ← k1_part5 i arg2 harg2 arg3 harg3 arg4 harg4 arg5 harg5 arg6 harg6 arg7 harg7 arg8 harg8 arg9 harg9 arg10 harg10 arg11 harg11 arg12 harg12 arg13 harg13 v34 v121
  let ⟨v204, c1_i32_70⟩ : Σ' (v204 : IVec S256x512 32), BitVec 32 ← k1_part6 i arg2 harg2 arg3 harg3 arg4 harg4 arg5 harg5 arg6 harg6 arg7 harg7 arg8 harg8 arg9 harg9 arg10 harg10 arg11 harg11 arg12 harg12 arg13 harg13 v22 v24 v26 v158
  let ⟨v239, v244⟩ : Σ' (v239 : IVec S256x512 32), IVec S256x512 32 ← k1_part7 i arg2 harg2 arg3 harg3 arg4 harg4 arg5 harg5 arg6 harg6 arg7 harg7 arg8 harg8 arg9 harg9 arg10 harg10 arg11 harg11 arg12 harg12 arg13 harg13 v4 v28 v34 v204 c1_i32_70
  let ⟨v269, v271, v287, v288⟩ : Σ' (v269 : IVec S1x512 32) (v271 : IVec S256x512 32) (v287 : IVec S256x512 32), IVec S1x512 32 ← k1_part8 i arg2 harg2 arg3 harg3 arg4 harg4 arg5 harg5 arg6 harg6 arg7 harg7 arg8 harg8 arg9 harg9 arg10 harg10 arg11 harg11 arg12 harg12 arg13 harg13 v22 v24 v26 v34 v239 v244
  let ⟨v326, v327, v328, cst_122⟩ : Σ' (v326 : IVec S256x512 32) (v327 : Vec F S256x1024 .bf16) (v328 : FVec F S1024x512 .bf16), FVec F S256x512 .f32 ← k1_part9 i arg2 harg2 arg3 harg3 arg4 harg4 arg5 harg5 arg6 harg6 arg7 harg7 arg8 harg8 arg9 harg9 arg10 harg10 arg11 harg11 arg12 harg12 arg13 harg13 v4 v28 v34 v269 v271 v287 v288
  let ⟨v362, v364, v366, v370, v372⟩ : Σ' (v362 : IVec S1x512 32) (v364 : IVec S256x512 32) (v366 : IVec S256x512 32) (v370 : IVec S256x512 32), IVec S256x512 32 ← k1_part10 i arg2 harg2 arg3 harg3 arg4 harg4 arg5 harg5 arg6 harg6 arg7 harg7 arg8 harg8 arg9 harg9 arg10 harg10 arg11 harg11 arg12 harg12 arg13 harg13 v22 v24 v26 v34 v326 v327 v328 cst_122
  let v406 : Vec F S256x512 .i8 ← Prog.lift (.load arg11 (Rect.unit (s := S1024x512) ![768, 0] S256x512.size inb_S1024x512_S256x512_768_0).toLoadRect (View.loadsAt_vmem h_S256x512))
  Prog.lift (.store arg11 (Rect.unit (s := S1024x512) ![768, 0] S256x512.size inb_S1024x512_S256x512_768_0) (k1_pay1 v4 v28 v362 v364 v366 v370 v372) Finset.univ (View.stores_vmem h_S256x512 (harg11.storeExact_slice rfl _ packedi8_S1024x512_S256x512_768_0) (fun _ => rfl)) (.inl rfl))
  pure ⟨⟩

/-- The second part of the body is the filling of the scratch buffers and then the rest. -/
theorem part2_split : k1_part2 (F := F) i arg2 harg2 arg3 harg3 arg4 harg4 arg5 harg5 arg6 harg6 arg7 harg7 arg8 harg8 arg9 harg9 arg10 harg10 arg11 harg11 arg12 harg12 arg13 harg13 = (fill (F := F) i arg2 harg2 arg3 harg3 arg4 harg4 arg5 harg5 arg6 harg6 arg7 harg7 arg8 harg8 arg9 harg9 arg10 harg10 arg11 harg11 arg12 harg12 arg13 harg13 >>= fun _ => part2r (F := F) i arg2 harg2 arg3 harg3 arg4 harg4 arg5 harg5 arg6 harg6 arg7 harg7 arg8 harg8 arg9 harg9 arg10 harg10 arg11 harg11 arg12 harg12 arg13 harg13) := by
  rw [k1_part2_eq_skeleton]
  unfold k1_part2_skel fill part2r
  by_cases h : k1_cond1 i = 1#1
  · simp only [dif_pos h]
    simp only [Prog.bind_assoc]
    rfl
  · simp only [dif_neg h]
    rfl

/-- A grid step is its conditional part, then the rest. -/
theorem main_split : cc1_main (F := F) i arg2 harg2 arg3 harg3 arg4 harg4 arg5 harg5 arg6 harg6 arg7 harg7 arg8 harg8 arg9 harg9 arg10 harg10 arg11 harg11 arg12 harg12 arg13 harg13 = (fill (F := F) i arg2 harg2 arg3 harg3 arg4 harg4 arg5 harg5 arg6 harg6 arg7 harg7 arg8 harg8 arg9 harg9 arg10 harg10 arg11 harg11 arg12 harg12 arg13 harg13 >>= fun _ => step (F := F) i arg2 harg2 arg3 harg3 arg4 harg4 arg5 harg5 arg6 harg6 arg7 harg7 arg8 harg8 arg9 harg9 arg10 harg10 arg11 harg11 arg12 harg12 arg13 harg13) := by
  rw [cc1_main_eq_skeleton]
  unfold cc1_main_skel step
  rw [part2_split, Prog.bind_assoc]

set_option maxHeartbeats 1000000 in
/-- One grid step after its conditional part, run: the inputs and the kept buffers stay, the output block is the stripes. -/
theorem step_wp (X2 : BufTy.Contents (Elt F) arg2.view.ty) (X3 : BufTy.Contents (Elt F) arg3.view.ty) (X5 : BufTy.Contents (Elt F) arg5.view.ty)
    (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) :
    iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) : sProp 𝕄)
    ⊢ wp frame (wpE (defs₀ (F := F)) Variants.none (c : Thread nD τ) none) Set.univ (step (F := F) i arg2 harg2 arg3 harg3 arg4 harg4 arg5 harg5 arg6 harg6 arg7 harg7 arg8 harg8 arg9 harg9 arg10 harg10 arg11 harg11 arg12 harg12 arg13 harg13)
      (fun _ => iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10)
        ∗ owns (c : Thread nD τ) arg11 fullShare (outB (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13))
        ∗ (arg12.view.loc (c : Thread nD τ) ↦[arg12.view.set]{fullShare} X12)
        ∗ (arg13.view.loc (c : Thread nD τ) ↦[arg13.view.set]{fullShare} X13))) := by
  unfold step owns
  simp only [k1_part3_eq_skeleton, k1_part4_eq_skeleton, k1_part5_eq_skeleton, k1_part6_eq_skeleton, k1_part7_eq_skeleton, k1_part8_eq_skeleton, k1_part9_eq_skeleton, k1_part10_eq_skeleton]
  unfold part2r
  iintro ⟨H2, H3, H5, H6, H7, H8, H9, H10, H11, H12, H13⟩
  sl_exec
  sl_step
  iframe
  iexists _
  isplitr [H11]
  rotate_left
  · iexact H11
  · ipureintro
    have E12 : ∀ (off : Fin 2 → ℕ) (r k : ℕ) (hoff : off = ![256 * r, 1024 * k]) (inb : ∀ a, off a + S256x1024.size a ≤ S1024x5120.size a),
        arg12.view.readAt (Elt F) (Rect.unit (s := S1024x5120) off S256x1024.size inb).toLoadRect X12 = xchunk (F := F) (arg12.view.read (Elt F) X12) r k :=
      fun off r k hoff inb => ld_xchunk (F := F) _ off r k hoff inb
    have E13 : ∀ (off : Fin 2 → ℕ) (r : ℕ) (hoff : off = ![256 * r, 0]) (inb : ∀ a, off a + S256x128.size a ≤ S1024x128.size a),
        arg13.view.readAt (Elt F) (Rect.unit (s := S1024x128) off S256x128.size inb).toLoadRect X13 = schunk (F := F) (arg13.view.read (Elt F) X13) r :=
      fun off r hoff inb => ld_schunk (F := F) _ off r hoff inb
    have B2 : step_wp.sl.r (F := F) arg2 X2 = arg2.view.read (Elt F) X2 zero1 := by
      show arg2.view.read (Elt F) X2 _ = _
      congr 1
      funext a
      apply Fin.ext
      fin_cases a
      rfl
    have B3 : step_wp.sl.r_1 (F := F) arg3 X3 = arg3.view.read (Elt F) X3 zero1 := by
      show arg3.view.read (Elt F) X3 _ = _
      congr 1
      funext a
      apply Fin.ext
      fin_cases a
      rfl
    have B5 : arg5.view.readAt (Elt F) (Rect.unit (s := S5120x512) ![0, 0] S5120x512.size inb_S5120x512_S5120x512_0_0).toLoadRect X5 = arg5.view.read (Elt F) X5 :=
      ld_w (F := F) _ _
    have B6 : arg6.view.readAt (Elt F) (Rect.unit (s := S1x512) ![0, 0] S1x512.size inb_S1x512_S1x512_0_0).toLoadRect X6 = arg6.view.read (Elt F) X6 :=
      ld_b (F := F) _ _
    have B7 : arg7.view.readAt (Elt F) (Rect.unit (s := S1x512) ![0, 0] S1x512.size inb_S1x512_S1x512_0_0).toLoadRect X7 = arg7.view.read (Elt F) X7 :=
      ld_b (F := F) _ _
    have B8 : arg8.view.readAt (Elt F) (Rect.unit (s := S1x512) ![0, 0] S1x512.size inb_S1x512_S1x512_0_0).toLoadRect X8 = arg8.view.read (Elt F) X8 :=
      ld_b (F := F) _ _
    have B9 : arg9.view.readAt (Elt F) (Rect.unit (s := S1x512) ![0, 0] S1x512.size inb_S1x512_S1x512_0_0).toLoadRect X9 = arg9.view.read (Elt F) X9 :=
      ld_b (F := F) _ _
    have B10 : arg10.view.readAt (Elt F) (Rect.unit (s := S1x512) ![0, 0] S1x512.size inb_S1x512_S1x512_0_0).toLoadRect X10 = arg10.view.read (Elt F) X10 :=
      ld_b (F := F) _ _
    refine readOut arg11 X11 _ _ _ _ _ ?_ ?_ ?_ ?_
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![0, 0] 0 rfl inb_S1024x512_S256x512_0_0 z)
      refine congrFun ?_ z
      rw [← E12 ![0, 0] 0 0 rfl inb_S1024x5120_S256x1024_0_0, ← E12 ![0, 1024] 0 1 rfl inb_S1024x5120_S256x1024_0_1024, ← E12 ![0, 2048] 0 2 rfl inb_S1024x5120_S256x1024_0_2048, ← E12 ![0, 3072] 0 3 rfl inb_S1024x5120_S256x1024_0_3072, ← E12 ![0, 4096] 0 4 rfl inb_S1024x5120_S256x1024_0_4096,
        ← E13 ![0, 0] 0 rfl inb_S1024x128_S256x128_0_0, ← B2, ← B3, ← B5, ← B6, ← B7, ← B8, ← B9, ← B10]
      unfold stripe
      rfl
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![256, 0] 1 rfl inb_S1024x512_S256x512_256_0 z)
      refine congrFun ?_ z
      rw [← E12 ![256, 0] 1 0 rfl inb_S1024x5120_S256x1024_256_0, ← E12 ![256, 1024] 1 1 rfl inb_S1024x5120_S256x1024_256_1024, ← E12 ![256, 2048] 1 2 rfl inb_S1024x5120_S256x1024_256_2048, ← E12 ![256, 3072] 1 3 rfl inb_S1024x5120_S256x1024_256_3072, ← E12 ![256, 4096] 1 4 rfl inb_S1024x5120_S256x1024_256_4096,
        ← E13 ![256, 0] 1 rfl inb_S1024x128_S256x128_256_0, ← B2, ← B3, ← B5, ← B6, ← B7, ← B8, ← B9, ← B10]
      unfold stripe
      exact stripe1_eq (F := F) _ _ _ _ _ _ _ _ _ _ _ _
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![512, 0] 2 rfl inb_S1024x512_S256x512_512_0 z)
      refine congrFun ?_ z
      rw [← E12 ![512, 0] 2 0 rfl inb_S1024x5120_S256x1024_512_0, ← E12 ![512, 1024] 2 1 rfl inb_S1024x5120_S256x1024_512_1024, ← E12 ![512, 2048] 2 2 rfl inb_S1024x5120_S256x1024_512_2048, ← E12 ![512, 3072] 2 3 rfl inb_S1024x5120_S256x1024_512_3072, ← E12 ![512, 4096] 2 4 rfl inb_S1024x5120_S256x1024_512_4096,
        ← E13 ![512, 0] 2 rfl inb_S1024x128_S256x128_512_0, ← B2, ← B3, ← B5, ← B6, ← B7, ← B8, ← B9, ← B10]
      unfold stripe
      exact stripe2_eq (F := F) _ _ _ _ _ _ _ _ _ _ _ _
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![768, 0] 3 rfl inb_S1024x512_S256x512_768_0 z)
      refine congrFun ?_ z
      rw [← E12 ![768, 0] 3 0 rfl inb_S1024x5120_S256x1024_768_0, ← E12 ![768, 1024] 3 1 rfl inb_S1024x5120_S256x1024_768_1024, ← E12 ![768, 2048] 3 2 rfl inb_S1024x5120_S256x1024_768_2048, ← E12 ![768, 3072] 3 3 rfl inb_S1024x5120_S256x1024_768_3072, ← E12 ![768, 4096] 3 4 rfl inb_S1024x5120_S256x1024_768_4096,
        ← E13 ![768, 0] 3 rfl inb_S1024x128_S256x128_768_0, ← B2, ← B3, ← B5, ← B6, ← B7, ← B8, ← B9, ← B10]
      unfold stripe
      exact stripe3_eq (F := F) _ _ _ _ _ _ _ _ _ _ _ _

end Body

end Cert.Kernel.Own

end
-- ==== Proof.Kernel.Point.lean ====
module

public import proofs.«01_k».proof.Proof.Kernel.Body

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Point
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole)
  (x2 : S1.Idx → Elt F .i32) (x3 : S1.Idx → Elt F .i32) (x4 : S1024x5120.Idx → Elt F .i8) (x5 : S5120x512.Idx → Elt F .i8) (x6 : S1x512.Idx → Elt F .i32) (x7 : S1x512.Idx → Elt F .i32) (x8 : S1x512.Idx → Elt F .i32) (x9 : S1x512.Idx → Elt F .i32) (x10 : S1x512.Idx → Elt F .i32) (d12 : S1024x5120.Idx → Elt F .bf16) (d13 : S1024x128.Idx → Elt F .i32)

/-- One grid step after its conditional part, at owned contents. -/
theorem step_owns :
    (iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare d12 ∗ owns (c : Thread nD τ) arg13 fullShare d13) : sProp 𝕄)
    ⊢ wp frame (wpE (defs₀ (F := F)) Variants.none (c : Thread nD τ) none) Set.univ (step (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB (F := F) x2 x3 x5 x6 x7 x8 x9 x10 d12 d13) ∗ owns (c : Thread nD τ) arg12 fullShare d12 ∗ owns (c : Thread nD τ) arg13 fullShare d13)) := by
  unfold owns
  iintro ⟨⟨%f2, %h2, H2⟩, ⟨%f3, %h3, H3⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%f12, %h12, H12⟩, ⟨%f13, %h13, H13⟩⟩
  subst h2
  subst h3
  subst h5
  subst h6
  subst h7
  subst h8
  subst h9
  subst h10
  subst h12
  subst h13
  iapply (wp_wand_r frame _ Set.univ)
  isplitl [H2 H3 H5 H6 H7 H8 H9 H10 H11 H12 H13]
  · iapply (step_wp (F := F) c i arg2 harg2 arg3 harg3 arg4 harg4 arg5 harg5 arg6 harg6 arg7 harg7 arg8 harg8 arg9 harg9 arg10 harg10 arg11 harg11 arg12 harg12 arg13 harg13 f2 f3 f5 f6 f7 f8 f9 f10 f11 f12 f13)
    iframe
  · iintro %_ ⟨H2, H3, H5, H6, H7, H8, H9, H10, H11, H12, H13⟩
    isplitl [H2]
    · iexists _; isplitr
      swap; · iexact H2
      ipureintro; rfl
    isplitl [H3]
    · iexists _; isplitr
      swap; · iexact H3
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; isplitr
      swap; · iexact H10
      ipureintro; rfl
    unfold owns
    isplitl [H11]; · iexact H11
    isplitl [H12]
    · iexists _; isplitr
      swap; · iexact H12
      ipureintro; rfl
    iexists _; isplitr
    swap; · iexact H13
    ipureintro; rfl

/-- The conditional part at owned contents. -/
theorem fill_owns (h1 : k1_cond1 i = 1#1) :
    (iprop(owns (c : Thread nD τ) arg4 fullShare x4 ∗ owns (c : Thread nD τ) arg12 fullShare d12 ∗ owns (c : Thread nD τ) arg13 fullShare d13) : sProp 𝕄)
    ⊢ wp frame (wpE (defs₀ (F := F)) Variants.none (c : Thread nD τ) none) Set.univ (fill (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg4 fullShare x4 ∗ owns (c : Thread nD τ) arg12 fullShare (XB (F := F) x4) ∗ owns (c : Thread nD τ) arg13 fullShare (SX (F := F) x4))) := by
  unfold owns
  iintro ⟨⟨%f4, %h4, H4⟩, ⟨%f12, %h12, H12⟩, ⟨%f13, %h13, H13⟩⟩
  subst h4
  iapply (wp_wand_r frame _ Set.univ)
  isplitl [H4 H12 H13]
  · iapply (fill_wp (F := F) c i arg2 harg2 arg3 harg3 arg4 harg4 arg5 harg5 arg6 harg6 arg7 harg7 arg8 harg8 arg9 harg9 arg10 harg10 arg11 harg11 arg12 harg12 arg13 harg13 h1 f4 f12 f13)
    iframe
  · iintro %_ ⟨H4, H12, H13⟩
    isplitl [H4]
    · iexists _; isplitr
      swap; · iexact H4
      ipureintro; rfl
    unfold owns
    isplitl [H12]; · iexact H12
    iexact H13

/-- A grid step at the first column block of a row block. -/
theorem main_first (h1 : k1_cond1 i = 1#1) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare d12 ∗ owns (c : Thread nD τ) arg13 fullShare d13) : sProp 𝕄)
    ⊢ wp frame (wpE (defs₀ (F := F)) Variants.none (c : Thread nD τ) none) Set.univ (cc1_main (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB (F := F) x2 x3 x5 x6 x7 x8 x9 x10 (XB (F := F) x4) (SX (F := F) x4)) ∗ owns (c : Thread nD τ) arg12 fullShare (XB (F := F) x4) ∗ owns (c : Thread nD τ) arg13 fullShare (SX (F := F) x4))) := by
  rw [main_split, wp_bind]
  iintro ⟨H2, H3, H4, H5, H6, H7, H8, H9, H10, H11, H12, H13⟩
  iapply (wp_wand_r frame _ Set.univ)
  isplitl [H4 H12 H13]
  · iapply (fill_owns (F := F) c i arg2 harg2 arg3 harg3 arg4 harg4 arg5 harg5 arg6 harg6 arg7 harg7 arg8 harg8 arg9 harg9 arg10 harg10 arg11 harg11 arg12 harg12 arg13 harg13 x4 d12 d13 h1)
    iframe
  · iintro %_ ⟨H4, H12, H13⟩
    iapply (wp_wand_r frame _ Set.univ)
    isplitl [H2 H3 H5 H6 H7 H8 H9 H10 H11 H12 H13]
    · iapply (step_owns (F := F) c i arg2 harg2 arg3 harg3 arg4 harg4 arg5 harg5 arg6 harg6 arg7 harg7 arg8 harg8 arg9 harg9 arg10 harg10 arg11 harg11 arg12 harg12 arg13 harg13 x2 x3 x5 x6 x7 x8 x9 x10 (XB (F := F) x4) (SX (F := F) x4))
      iframe
    · iintro %_ ⟨H2, H3, H5, H6, H7, H8, H9, H10, H11, H12, H13⟩
      iframe

/-- A grid step at a later column block: the kept buffers are as the first one left them. -/
theorem main_later (h1 : ¬ k1_cond1 i = 1#1) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare d12 ∗ owns (c : Thread nD τ) arg13 fullShare d13) : sProp 𝕄)
    ⊢ wp frame (wpE (defs₀ (F := F)) Variants.none (c : Thread nD τ) none) Set.univ (cc1_main (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB (F := F) x2 x3 x5 x6 x7 x8 x9 x10 d12 d13) ∗ owns (c : Thread nD τ) arg12 fullShare d12 ∗ owns (c : Thread nD τ) arg13 fullShare d13)) := by
  have hf : fill (F := F) i arg2 harg2 arg3 harg3 arg4 harg4 arg5 harg5 arg6 harg6 arg7 harg7 arg8 harg8 arg9 harg9 arg10 harg10 arg11 harg11 arg12 harg12 arg13 harg13 = pure ⟨⟩ := by
    unfold fill
    simp only [dif_neg h1]
  rw [main_split, hf]
  show _ ⊢ wp frame (wpE (defs₀ (F := F)) Variants.none (c : Thread nD τ) none) Set.univ (step (F := F) i arg2 harg2 arg3 harg3 arg4 harg4 arg5 harg5 arg6 harg6 arg7 harg7 arg8 harg8 arg9 harg9 arg10 harg10 arg11 harg11 arg12 harg12 arg13 harg13) _
  iintro ⟨H2, H3, H4, H5, H6, H7, H8, H9, H10, H11, H12, H13⟩
  iapply (wp_wand_r frame _ Set.univ)
  isplitl [H2 H3 H5 H6 H7 H8 H9 H10 H11 H12 H13]
  · iapply (step_owns (F := F) c i arg2 harg2 arg3 harg3 arg4 harg4 arg5 harg5 arg6 harg6 arg7 harg7 arg8 harg8 arg9 harg9 arg10 harg10 arg11 harg11 arg12 harg12 arg13 harg13 x2 x3 x5 x6 x7 x8 x9 x10 d12 d13)
    iframe
  · iintro %_ ⟨H2, H3, H5, H6, H7, H8, H9, H10, H11, H12, H13⟩
    iframe

end Point

end Cert.Kernel.Own

end
-- ==== Proof.Kernel.Region.lean ====
module

public import proofs.«01_k».proof.Proof.Gen.Kernel.Launch
public import proofs.«01_k».proof.Proof.Gen.Kernel.Skeleton
public import proofs.«01_k».proof.Proof.Gen.Kernel.Points
public import proofs.«01_k».proof.Proof.Kernel.Point
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_wsum` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5120x512 := Rect.unit (s := S5120x512) ![0, 0] S128x512.size inb_S5120x512_S128x512_0_0
abbrev r0_1 : Rect S5120x512 := Rect.unit (s := S5120x512) ![128, 0] S128x512.size inb_S5120x512_S128x512_128_0
abbrev r0_2 : Rect S5120x512 := Rect.unit (s := S5120x512) ![256, 0] S128x512.size inb_S5120x512_S128x512_256_0
abbrev r0_3 : Rect S5120x512 := Rect.unit (s := S5120x512) ![384, 0] S128x512.size inb_S5120x512_S128x512_384_0
abbrev r0_4 : Rect S5120x512 := Rect.unit (s := S5120x512) ![512, 0] S128x512.size inb_S5120x512_S128x512_512_0
abbrev r0_5 : Rect S5120x512 := Rect.unit (s := S5120x512) ![640, 0] S128x512.size inb_S5120x512_S128x512_640_0
abbrev r0_6 : Rect S5120x512 := Rect.unit (s := S5120x512) ![768, 0] S128x512.size inb_S5120x512_S128x512_768_0
abbrev r0_7 : Rect S5120x512 := Rect.unit (s := S5120x512) ![896, 0] S128x512.size inb_S5120x512_S128x512_896_0
abbrev r0_8 : Rect S5120x512 := Rect.unit (s := S5120x512) ![1024, 0] S128x512.size inb_S5120x512_S128x512_1024_0
abbrev r0_9 : Rect S5120x512 := Rect.unit (s := S5120x512) ![1152, 0] S128x512.size inb_S5120x512_S128x512_1152_0
abbrev r0_10 : Rect S5120x512 := Rect.unit (s := S5120x512) ![1280, 0] S128x512.size inb_S5120x512_S128x512_1280_0
abbrev r0_11 : Rect S5120x512 := Rect.unit (s := S5120x512) ![1408, 0] S128x512.size inb_S5120x512_S128x512_1408_0
abbrev r0_12 : Rect S5120x512 := Rect.unit (s := S5120x512) ![1536, 0] S128x512.size inb_S5120x512_S128x512_1536_0
abbrev r0_13 : Rect S5120x512 := Rect.unit (s := S5120x512) ![1664, 0] S128x512.size inb_S5120x512_S128x512_1664_0
abbrev r0_14 : Rect S5120x512 := Rect.unit (s := S5120x512) ![1792, 0] S128x512.size inb_S5120x512_S128x512_1792_0
abbrev r0_15 : Rect S5120x512 := Rect.unit (s := S5120x512) ![1920, 0] S128x512.size inb_S5120x512_S128x512_1920_0
abbrev r0_16 : Rect S5120x512 := Rect.unit (s := S5120x512) ![2048, 0] S128x512.size inb_S5120x512_S128x512_2048_0
abbrev r0_17 : Rect S5120x512 := Rect.unit (s := S5120x512) ![2176, 0] S128x512.size inb_S5120x512_S128x512_2176_0
abbrev r0_18 : Rect S5120x512 := Rect.unit (s := S5120x512) ![2304, 0] S128x512.size inb_S5120x512_S128x512_2304_0
abbrev r0_19 : Rect S5120x512 := Rect.unit (s := S5120x512) ![2432, 0] S128x512.size inb_S5120x512_S128x512_2432_0
abbrev r0_20 : Rect S5120x512 := Rect.unit (s := S5120x512) ![2560, 0] S128x512.size inb_S5120x512_S128x512_2560_0
abbrev r0_21 : Rect S5120x512 := Rect.unit (s := S5120x512) ![2688, 0] S128x512.size inb_S5120x512_S128x512_2688_0
abbrev r0_22 : Rect S5120x512 := Rect.unit (s := S5120x512) ![2816, 0] S128x512.size inb_S5120x512_S128x512_2816_0
abbrev r0_23 : Rect S5120x512 := Rect.unit (s := S5120x512) ![2944, 0] S128x512.size inb_S5120x512_S128x512_2944_0
abbrev r0_24 : Rect S5120x512 := Rect.unit (s := S5120x512) ![3072, 0] S128x512.size inb_S5120x512_S128x512_3072_0
abbrev r0_25 : Rect S5120x512 := Rect.unit (s := S5120x512) ![3200, 0] S128x512.size inb_S5120x512_S128x512_3200_0
abbrev r0_26 : Rect S5120x512 := Rect.unit (s := S5120x512) ![3328, 0] S128x512.size inb_S5120x512_S128x512_3328_0
abbrev r0_27 : Rect S5120x512 := Rect.unit (s := S5120x512) ![3456, 0] S128x512.size inb_S5120x512_S128x512_3456_0
abbrev r0_28 : Rect S5120x512 := Rect.unit (s := S5120x512) ![3584, 0] S128x512.size inb_S5120x512_S128x512_3584_0
abbrev r0_29 : Rect S5120x512 := Rect.unit (s := S5120x512) ![3712, 0] S128x512.size inb_S5120x512_S128x512_3712_0
abbrev r0_30 : Rect S5120x512 := Rect.unit (s := S5120x512) ![3840, 0] S128x512.size inb_S5120x512_S128x512_3840_0
abbrev r0_31 : Rect S5120x512 := Rect.unit (s := S5120x512) ![3968, 0] S128x512.size inb_S5120x512_S128x512_3968_0
abbrev r0_32 : Rect S5120x512 := Rect.unit (s := S5120x512) ![4096, 0] S128x512.size inb_S5120x512_S128x512_4096_0
abbrev r0_33 : Rect S5120x512 := Rect.unit (s := S5120x512) ![4224, 0] S128x512.size inb_S5120x512_S128x512_4224_0
abbrev r0_34 : Rect S5120x512 := Rect.unit (s := S5120x512) ![4352, 0] S128x512.size inb_S5120x512_S128x512_4352_0
abbrev r0_35 : Rect S5120x512 := Rect.unit (s := S5120x512) ![4480, 0] S128x512.size inb_S5120x512_S128x512_4480_0
abbrev r0_36 : Rect S5120x512 := Rect.unit (s := S5120x512) ![4608, 0] S128x512.size inb_S5120x512_S128x512_4608_0
abbrev r0_37 : Rect S5120x512 := Rect.unit (s := S5120x512) ![4736, 0] S128x512.size inb_S5120x512_S128x512_4736_0
abbrev r0_38 : Rect S5120x512 := Rect.unit (s := S5120x512) ![4864, 0] S128x512.size inb_S5120x512_S128x512_4864_0
abbrev r0_39 : Rect S5120x512 := Rect.unit (s := S5120x512) ![4992, 0] S128x512.size inb_S5120x512_S128x512_4992_0
abbrev r0_40 : Rect S1x512 := Rect.unit (s := S1x512) ![0, 0] S1x512.size inb_S1x512_S1x512_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S5120x512 .i8) : Vec F S1x512 .i32 :=
  View.canon [⟨r0_40, k0_pay1 (k0_pay4 (k0_pay3 (k0_pay2 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9) (View.ld x0 r0_10)) (View.ld x0 r0_11) (View.ld x0 r0_12) (View.ld x0 r0_13) (View.ld x0 r0_14) (View.ld x0 r0_15) (View.ld x0 r0_16) (View.ld x0 r0_17) (View.ld x0 r0_18) (View.ld x0 r0_19) (View.ld x0 r0_20) (View.ld x0 r0_21) (View.ld x0 r0_22)) (View.ld x0 r0_23) (View.ld x0 r0_24) (View.ld x0 r0_25) (View.ld x0 r0_26) (View.ld x0 r0_27) (View.ld x0 r0_28) (View.ld x0 r0_29) (View.ld x0 r0_30) (View.ld x0 r0_31) (View.ld x0 r0_32) (View.ld x0 r0_33) (View.ld x0 r0_34)) (View.ld x0 r0_35) (View.ld x0 r0_36) (View.ld x0 r0_37) (View.ld x0 r0_38) (View.ld x0 r0_39)⟩]

/-- Its stores tile the buffer (checked by evaluation), so they cover it. -/
theorem cover0_1 (p0 : Vec F S1x512 .i32) (y : S1x512.Idx) :
    ∃ pc ∈ ([⟨r0_40, p0⟩] : List (View.Piece (Elt F) S1x512 .i32)), y ∈ pc.1.set :=
  View.cover_of_tiled [⟨r0_40, p0⟩] S1x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S5120x512 .i8) (harg1 : arg1.IsWhole) (arg2 : Memref sig .tc .vmem S1x512 .i32) (harg2 : arg2.IsWhole)
    (x0 : Vec F S5120x512 .i8) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_wsum i arg1 harg1 arg2 harg2) K := by
  simp only [cc0_wsum_eq_skeleton]; unfold cc0_wsum_skel
  simp only [k0_part1_eq_skeleton, k0_part2_eq_skeleton, k0_part3_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body of region 0 leaves in the block of window 1. -/
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_main` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Each window's current staging memref at point `t`, spelled as the pipeline passes it (`bodyAt1`), and its wholeness. -/
abbrev ms1_0 (t : Fin cfg1.N) : Memref sig .tc .smem S1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x5120 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5120x512 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .i32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512 .i32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x512 .i8 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S1024x5120 .bf16 := Memref.whole cc1_scratch0
abbrev scM1_1 : Memref sig .tc .vmem S1024x128 .i32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The second kernel's branch condition holds at the points at the start of a row block. -/
theorem hcond1 : ∀ t : Fin cfg1.N, k1_cond1 (grid1.coords t) = 1#1 ↔ t.val % 54 = 0 :=
  (fun t => by
    have ht : t.val < 864 := Nat.lt_of_lt_of_eq t.isLt N_1
    have e0 : (grid1.coords t 0).val = t.val / 54 % 16 := Pipeline.Grid.coords_val t 0 (by decide) rfl
    have e1 : (grid1.coords t 1).val = t.val / 1 % 54 := Pipeline.Grid.coords_val t 1 (by decide) rfl
    simp only [k1_cond1, e0, e1]
    word_cmp
   : ∀ t : Fin grid1.N, k1_cond1 (grid1.coords t) = 1#1 ↔ t.val % 54 = 0)

/-- What the second kernel leaves in its output block at a point. -/
def outsAt1 (c : Dev nD) (t : Fin cfg1.N) : Vec F S1024x512 .i8 :=
  outB (F := F) (iblk1 V c 0 t) (iblk1 V c 1 t) (iblk1 V c 3 t) (iblk1 V c 4 t) (iblk1 V c 5 t) (iblk1 V c 6 t) (iblk1 V c 7 t) (iblk1 V c 8 t)
    (XB (F := F) (iblk1 V c 2 t)) (SX (F := F) (iblk1 V c 2 t))

/-- What is kept between points: the kept buffers hold what the previous point's block of the left operand gives. -/
def Phi1 (c : Dev nD) (s : Fin (cfg1.N + 1)) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ (a : S1024x5120.Idx → Elt F .bf16) (b : S1024x128.Idx → Elt F .i32), ⌜∀ t : Fin cfg1.N, t.val + 1 = s.val → a = XB (F := F) (iblk1 V c 2 t) ∧ b = SX (F := F) (iblk1 V c 2 t)⌝
        ∗ owns (c : Thread nD τ) scM1_0 fullShare a ∗ owns (c : Thread nD τ) scM1_1 fullShare b)) ∗ (∃ r, prngReg c r))

/-- The kept invariant at the first point follows from the buffers at any contents. -/
theorem Phi1_in (c : Dev nD) : (Pipeline.ΦA spec1 c : sProp 𝕄) ⊢ Phi1 V c 0 := by
  rw [PhiA1_eq]; unfold Phi1
  iintro ⟨⟨HR0, HR1, HR2, HR3, ⟨%a, HS0⟩, ⟨%b, HS1⟩⟩, Hg⟩
  isplitl [HR0 HR1 HR2 HR3 HS0 HS1]
  · isplitl [HR0]; · iexact HR0
    isplitl [HR1]; · iexact HR1
    isplitl [HR2]; · iexact HR2
    isplitl [HR3]; · iexact HR3
    iexists a, b
    isplitr
    · ipureintro
      intro t ht
      exact absurd ht (Nat.succ_ne_zero _)
    isplitl [HS0]; · iexact HS0
    iexact HS1
  iexact Hg

/-- The kept invariant gives the buffers back at some contents. -/
theorem Phi1_out (c : Dev nD) (s : Fin (cfg1.N + 1)) : Phi1 V c s ⊢ (Pipeline.ΦA spec1 c : sProp 𝕄) := by
  rw [PhiA1_eq]; unfold Phi1
  iintro ⟨⟨HR0, HR1, HR2, HR3, ⟨%a, %b, -, HS0, HS1⟩⟩, Hg⟩
  isplitl [HR0 HR1 HR2 HR3 HS0 HS1]
  · isplitl [HR0]; · iexact HR0
    isplitl [HR1]; · iexact HR1
    isplitl [HR2]; · iexact HR2
    isplitl [HR3]; · iexact HR3
    isplitl [HS0]; · iexists a; iexact HS0
    iexists b; iexact HS1
  iexact Hg

/-- The second pipeline's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t)
  Φ s := Phi1 V c s
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the body of region 1 leaves in the block of window 1. -/
theorem after1_1 (c : Dev nD) (t : Fin cfg1.N) : (dat1 V c).after 1 t = iblk1 V c 1 t := by dsimp only [dat1]
/-- What the body of region 1 leaves in the block of window 2. -/
theorem after1_2 (c : Dev nD) (t : Fin cfg1.N) : (dat1 V c).after 2 t = iblk1 V c 2 t := by dsimp only [dat1]
/-- What the body of region 1 leaves in the block of window 3. -/
theorem after1_3 (c : Dev nD) (t : Fin cfg1.N) : (dat1 V c).after 3 t = iblk1 V c 3 t := by dsimp only [dat1]
/-- What the body of region 1 leaves in the block of window 4. -/
theorem after1_4 (c : Dev nD) (t : Fin cfg1.N) : (dat1 V c).after 4 t = iblk1 V c 4 t := by dsimp only [dat1]
/-- What the body of region 1 leaves in the block of window 5. -/
theorem after1_5 (c : Dev nD) (t : Fin cfg1.N) : (dat1 V c).after 5 t = iblk1 V c 5 t := by dsimp only [dat1]
/-- What the body of region 1 leaves in the block of window 6. -/
theorem after1_6 (c : Dev nD) (t : Fin cfg1.N) : (dat1 V c).after 6 t = iblk1 V c 6 t := by dsimp only [dat1]
/-- What the body of region 1 leaves in the block of window 7. -/
theorem after1_7 (c : Dev nD) (t : Fin cfg1.N) : (dat1 V c).after 7 t = iblk1 V c 7 t := by dsimp only [dat1]
/-- What the body of region 1 leaves in the block of window 8. -/
theorem after1_8 (c : Dev nD) (t : Fin cfg1.N) : (dat1 V c).after 8 t = iblk1 V c 8 t := by dsimp only [dat1]
/-- What the body of region 1 leaves in the block of window 9. -/
theorem after1_9 (c : Dev nD) (t : Fin cfg1.N) : (dat1 V c).after 9 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body of region 1 finds in the block of window 1. -/
theorem before1_1 (c : Dev nD) (t : Fin cfg1.N) (d) : (dat1 V c).before 1 t d = iblk1 V c 1 t :=
  before1_1_of V (dat1 V c) (A_eq1 V c 1) (after1_1 V c) t d
/-- What the body of region 1 finds in the block of window 2. -/
theorem before1_2 (c : Dev nD) (t : Fin cfg1.N) (d) : (dat1 V c).before 2 t d = iblk1 V c 2 t :=
  before1_2_of V (dat1 V c) (A_eq1 V c 2) (after1_2 V c) t d
/-- What the body of region 1 finds in the block of window 3. -/
theorem before1_3 (c : Dev nD) (t : Fin cfg1.N) (d) : (dat1 V c).before 3 t d = iblk1 V c 3 t :=
  before1_3_of V (dat1 V c) (A_eq1 V c 3) (after1_3 V c) t d
/-- What the body of region 1 finds in the block of window 4. -/
theorem before1_4 (c : Dev nD) (t : Fin cfg1.N) (d) : (dat1 V c).before 4 t d = iblk1 V c 4 t :=
  before1_4_of V (dat1 V c) (A_eq1 V c 4) (after1_4 V c) t d
/-- What the body of region 1 finds in the block of window 5. -/
theorem before1_5 (c : Dev nD) (t : Fin cfg1.N) (d) : (dat1 V c).before 5 t d = iblk1 V c 5 t :=
  before1_5_of V (dat1 V c) (A_eq1 V c 5) (after1_5 V c) t d
/-- What the body of region 1 finds in the block of window 6. -/
theorem before1_6 (c : Dev nD) (t : Fin cfg1.N) (d) : (dat1 V c).before 6 t d = iblk1 V c 6 t :=
  before1_6_of V (dat1 V c) (A_eq1 V c 6) (after1_6 V c) t d
/-- What the body of region 1 finds in the block of window 7. -/
theorem before1_7 (c : Dev nD) (t : Fin cfg1.N) (d) : (dat1 V c).before 7 t d = iblk1 V c 7 t :=
  before1_7_of V (dat1 V c) (A_eq1 V c 7) (after1_7 V c) t d
/-- What the body of region 1 finds in the block of window 8. -/
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

/-- Away from the start of a row block the left operand's block is the previous point's. -/
theorem iblk1_2_prev (c : Dev nD) (t : Fin cfg1.N) (h : t.val % 54 ≠ 0) : ∃ t' : Fin cfg1.N, t'.val + 1 = t.val ∧ iblk1 V c 2 t' = iblk1 V c 2 t := by
  have hf : (cfg1.win 2).fetch t = false := by
    rw [← Bool.not_eq_true]
    exact fun e => h ((fetch1_2 t).mp e)
  obtain ⟨h0, hix⟩ := (cfg1.win 2).index_eq_of_fetch rfl t hf
  have h1 : ∀ t : Fin cfg1.N, ∀ d, (dat1 V c).fetched 2 t d = iblk1 V c 2 t := fun t d => by
    unfold Dat.fetched Dat.blockOf iblk1; rw [A_eq1]; try rfl
  refine ⟨⟨t.val - 1, Nat.lt_of_le_of_lt (Nat.sub_le _ _) t.isLt⟩, by show t.val - 1 + 1 = t.val; omega, ?_⟩
  have d : S1024x5120.Idx → Elt F .i8 := (iblk1 V c 2 t)
  exact (h1 _ d).symm.trans (((dat1 V c).fetched_congr 2 hix.symm rfl d).trans (h1 t d))

set_option maxHeartbeats 1200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl,
    after1_0, after1_1, after1_2, after1_3, after1_4, after1_5, after1_6, after1_7, after1_8, after1_9]
  rw [show (dat1 V c).Φ t.castSucc = Phi1 V c t.castSucc from rfl, show (dat1 V c).Φ t.succ = Phi1 V c t.succ from rfl]
  unfold Phi1 outsAt1
  iintro ⟨⟨⟨HR0, HR1, HR2, HR3, ⟨%a, %b, %hab, HS0, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hnext : ∀ t' : Fin cfg1.N, t'.val + 1 = (t.succ : Fin (cfg1.N + 1)).val → XB (F := F) (iblk1 V c 2 t) = XB (F := F) (iblk1 V c 2 t') ∧ SX (F := F) (iblk1 V c 2 t) = SX (F := F) (iblk1 V c 2 t') := by
    intro t' ht'
    have : t' = t := Fin.ext (by have : t'.val + 1 = t.val + 1 := ht'; omega)
    subst this
    exact ⟨rfl, rfl⟩
  by_cases h1 : k1_cond1 (grid1.coords t) = 1#1
  · iapply (wp_wand_r frame _ Set.univ)
    isplitl [H0 H1 H2 H3 H4 H5 H6 H7 H8 H9 HS0 HS1]
    · iapply (main_first (F := F) c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) a b h1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iexact HS1
    iintro %_ ⟨H0, H1, H2, H3, H4, H5, H6, H7, H8, H9, HS0, HS1⟩
    isplitl [HR0 HR1 HR2 HR3 HS0 HS1 Hg]
    · isplitl [HR0 HR1 HR2 HR3 HS0 HS1]
      · isplitl [HR0]; · iexact HR0
        isplitl [HR1]; · iexact HR1
        isplitl [HR2]; · iexact HR2
        isplitl [HR3]; · iexact HR3
        iexists _, _
        isplitr
        · ipureintro; exact hnext
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨t', ht', he⟩ := iblk1_2_prev V c t (fun e => h1 ((hcond1 t).mpr e))
    obtain ⟨rfl, rfl⟩ := hab t' ht'
    rw [he]
    iapply (wp_wand_r frame _ Set.univ)
    isplitl [H0 H1 H2 H3 H4 H5 H6 H7 H8 H9 HS0 HS1]
    · iapply (main_later (F := F) c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (XB (F := F) (iblk1 V c 2 t)) (SX (F := F) (iblk1 V c 2 t)) h1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iexact HS1
    iintro %_ ⟨H0, H1, H2, H3, H4, H5, H6, H7, H8, H9, HS0, HS1⟩
    isplitl [HR0 HR1 HR2 HR3 HS0 HS1 Hg]
    · isplitl [HR0 HR1 HR2 HR3 HS0 HS1]
      · isplitl [HR0]; · iexact HR0
        isplitl [HR1]; · iexact HR1
        isplitl [HR2]; · iexact HR2
        isplitl [HR3]; · iexact HR3
        iexists _, _
        isplitr
        · ipureintro; exact hnext
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Own

end
-- ==== Proof.Kernel.Run.lean ====
module

public import proofs.«01_k».proof.Proof.Kernel.Region

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- `hostOps0` writes only the references listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5, main_v6, main_v7]
/-- `hostOps1` writes only the references listed. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9]
/-- `hostOps2` writes only the references listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are unchanged at stage 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are unchanged at stage 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- An array of region 0 at its exit. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of region 0 keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are unchanged at stage 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Every buffer that is none of region 0's arrays is as it was at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are unchanged at stage 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- An array of region 1 at its exit. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is no array of region 1 keeps its contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are unchanged at stage 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Every buffer that is none of region 1's arrays is as it was at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are unchanged at stage 5. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- Argument 0 is unchanged at the end. -/
theorem W5_main_arg0 (c : Dev nD) : W5 m ρ c (Proc.devRef .tc main_arg0) = m ((c : Thread nD τ).loc main_arg0) :=
  W5_args m ρ c main_arg0 (by decide)
/-- Argument 1 is unchanged at the end. -/
theorem W5_main_arg1 (c : Dev nD) : W5 m ρ c (Proc.devRef .tc main_arg1) = m ((c : Thread nD τ).loc main_arg1) :=
  W5_args m ρ c main_arg1 (by decide)
/-- Argument 2 is unchanged at the end. -/
theorem W5_main_arg2 (c : Dev nD) : W5 m ρ c (Proc.devRef .tc main_arg2) = m ((c : Thread nD τ).loc main_arg2) :=
  W5_args m ρ c main_arg2 (by decide)
/-- Argument 3 is unchanged at the end. -/
theorem W5_main_arg3 (c : Dev nD) : W5 m ρ c (Proc.devRef .tc main_arg3) = m ((c : Thread nD τ).loc main_arg3) :=
  W5_args m ρ c main_arg3 (by decide)
/-- Argument 4 is unchanged at the end. -/
theorem W5_main_arg4 (c : Dev nD) : W5 m ρ c (Proc.devRef .tc main_arg4) = m ((c : Thread nD τ).loc main_arg4) :=
  W5_args m ρ c main_arg4 (by decide)
/-- Argument 5 is unchanged at the end. -/
theorem W5_main_arg5 (c : Dev nD) : W5 m ρ c (Proc.devRef .tc main_arg5) = m ((c : Thread nD τ).loc main_arg5) :=
  W5_args m ρ c main_arg5 (by decide)
/-- Argument 6 is unchanged at the end. -/
theorem W5_main_arg6 (c : Dev nD) : W5 m ρ c (Proc.devRef .tc main_arg6) = m ((c : Thread nD τ).loc main_arg6) :=
  W5_args m ρ c main_arg6 (by decide)
/-- Argument 7 is unchanged at the end. -/
theorem W5_main_arg7 (c : Dev nD) : W5 m ρ c (Proc.devRef .tc main_arg7) = m ((c : Thread nD τ).loc main_arg7) :=
  W5_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (V3 m ρ) c)
    unfold Pipeline.ΦA
    iintro ⟨Hp, -, Hr⟩
    isplitl [Hr]; · iexact Hr
    iexact Hp
  hout c := by
    rw [Pipeline.ownSems0_none]
    refine BIBase.Entails.trans (Phi1_out (V3 m ρ) c (Fin.last _)) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of @main: every execution ends, the result buffer at the last boundary's contents, the arguments as launched, every counter at zero. -/
theorem run_main : θ_run defs (onTc (τ := τ) (main (F := F))) ⟨m, fun _ => 0, ρ⟩ (fun r => (∀ c : Dev nD,
      r.2.mem ((c.tc : Thread nD τ).loc main_v9) = W5 m ρ c (Proc.devRef .tc main_v9) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v9 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩), funext fun g => hz g (.inr (no_unscoped g.2))⟩)

/-- The frame: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_main m ρ)

end Cert.Kernel.Own

end
-- ==== Proof.KernelIdeal.Fill.lean ====
module

public import proofs.«01_k».proof.Proof.Gen.KernelIdeal.Loops
public import Idealize.ShloMosaic.Lib.Pipeline.FrameBody
public import Idealize.ShloMosaic.Lib.Ring
public import Idealize.ShloMosaic.Lib.Writes

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The index of row `p`, column `q` of a matrix with sizes `d` (both taken within the sizes). -/
def ix {d : Fin 2 → ℕ} (h : ∀ a, 0 < d a) (p q : ℕ) : (⟨2, d⟩ : Shape).Idx :=
  fun a => ⟨(![p, q] a) % d a, Nat.mod_lt _ (h a)⟩

/-- The tile of the operand at rows from `256 r` and columns from `512 k`. -/
def chunk {Val : EltTy → Type} (x : S1024x5120.Idx → Val .i8) (r k : ℕ) : S256x512.Idx → Val .i8 :=
  fun z => x (ix (d := ![1024, 5120]) (by decide) (256 * r + (z 0).val) (512 * k + (z 1).val))

/-- What the kernel keeps of the operand between grid steps: the operand in the narrow float format. -/
def XB (x : S1024x5120.Idx → Elt F .i8) : S1024x5120.Idx → Elt F .bf16 :=
  fun y => k1_pay4 (F := F) (chunk x ((y 0).val / 256) ((y 1).val / 512))
    (ix (d := ![256, 512]) (by decide) ((y 0).val % 256) ((y 1).val % 512))

/-- The row sums' running value after `n` tiles of stripe `r`. -/
def accN (x : S1024x5120.Idx → Elt F .i8) (r : ℕ) : ℕ → IVec S256x128 32
  | 0 => k1_pay2
  | n + 1 => k1_pay5 (F := F) (accN x r n) (chunk x r n)

/-- The row sums the kernel keeps between grid steps. -/
def SX (x : S1024x5120.Idx → Elt F .i8) : S1024x128.Idx → Elt F .i32 :=
  fun y => k1_pay6 (accN (F := F) x ((y 0).val / 256) 10) (ix (d := ![256, 128]) (by decide) ((y 0).val % 256) (y 1).val)

/-- A load of the tile is the tile. -/
theorem ld_chunk (x : S1024x5120.Idx → Elt F .i8) (off : Fin 2 → ℕ) (r k : ℕ) (hoff : off = ![256 * r, 512 * k])
    (inb : ∀ a, off a + S256x512.size a ≤ S1024x5120.size a) :
    View.ld x (Rect.unit (s := S1024x5120) off S256x512.size inb) = chunk x r k := by
  subst hoff
  funext z
  show x _ = x _
  congr 1
  funext a
  apply Fin.ext
  have h0 := inb 0
  have h1 := inb 1
  have z0 := (z 0).isLt
  have z1 := (z 1).isLt
  show _ + 1 * (z a).val = (![256 * r + (z 0).val, 512 * k + (z 1).val] a) % (![1024, 5120] a)
  change 256 * r + 256 ≤ 1024 at h0
  change 512 * k + 512 ≤ 5120 at h1
  change (z 0).val < 256 at z0
  change (z 1).val < 512 at z1
  fin_cases a
  · show 256 * r + 1 * (z 0).val = (256 * r + (z 0).val) % 1024
    omega
  · show 512 * k + 1 * (z 1).val = (512 * k + (z 1).val) % 5120
    omega

/-- The tile at the place a kept element lies in is what the tile's store puts there. -/
theorem XB_emb (x : S1024x5120.Idx → Elt F .i8) (off : Fin 2 → ℕ) (r k : ℕ) (hoff : off = ![256 * r, 512 * k])
    (inb : ∀ a, off a + S256x512.size a ≤ S1024x5120.size a) (z : S256x512.Idx) :
    k1_pay4 (F := F) (chunk x r k) z = XB x ((Rect.unit (s := S1024x5120) off S256x512.size inb).emb z) := by
  subst hoff
  have z0 := (z 0).isLt
  have z1 := (z 1).isLt
  change (z 0).val < 256 at z0
  change (z 1).val < 512 at z1
  have e0 : ((((Rect.unit (s := S1024x5120) ![256 * r, 512 * k] S256x512.size inb).emb z) 0).val) = 256 * r + (z 0).val := by
    show 256 * r + 1 * (z 0).val = _
    omega
  have e1 : ((((Rect.unit (s := S1024x5120) ![256 * r, 512 * k] S256x512.size inb).emb z) 1).val) = 512 * k + (z 1).val := by
    show 512 * k + 1 * (z 1).val = _
    omega
  unfold XB
  rw [e0, e1, show (256 * r + (z 0).val) / 256 = r by omega, show (512 * k + (z 1).val) / 512 = k by omega,
    show (256 * r + (z 0).val) % 256 = (z 0).val by omega, show (512 * k + (z 1).val) % 512 = (z 1).val by omega]
  congr 1
  funext a
  apply Fin.ext
  fin_cases a
  · exact (Nat.mod_eq_of_lt z0).symm
  · exact (Nat.mod_eq_of_lt z1).symm

/-- The same for the row sums. -/
theorem SX_emb (x : S1024x5120.Idx → Elt F .i8) (off : Fin 2 → ℕ) (r : ℕ) (hoff : off = ![256 * r, 0])
    (inb : ∀ a, off a + S256x128.size a ≤ S1024x128.size a) (z : S256x128.Idx) :
    k1_pay6 (accN (F := F) x r 10) z = SX x ((Rect.unit (s := S1024x128) off S256x128.size inb).emb z) := by
  subst hoff
  have z0 := (z 0).isLt
  have z1 := (z 1).isLt
  change (z 0).val < 256 at z0
  change (z 1).val < 128 at z1
  have e0 : ((((Rect.unit (s := S1024x128) ![256 * r, 0] S256x128.size inb).emb z) 0).val) = 256 * r + (z 0).val := by
    show 256 * r + 1 * (z 0).val = _
    omega
  have e1 : ((((Rect.unit (s := S1024x128) ![256 * r, 0] S256x128.size inb).emb z) 1).val) = (z 1).val := by
    show 0 + 1 * (z 1).val = _
    omega
  unfold SX
  rw [e0, e1, show (256 * r + (z 0).val) / 256 = r by omega,
    show (256 * r + (z 0).val) % 256 = (z 0).val by omega]
  congr 1
  funext a
  apply Fin.ext
  fin_cases a
  · exact (Nat.mod_eq_of_lt z0).symm
  · exact (Nat.mod_eq_of_lt z1).symm

section Trips
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole) (h1 : k1_cond1 i = 1#1)

/-- Loop 1 makes ten trips. -/
theorem trips1 : k1_t1_loop.trips = 10 := by decide +kernel

/-- Where trip `k` of loop 1 reads and writes. -/
theorem off1' (k : Fin k1_t1_loop.trips) : k1_off1 k = ![256 * 0, 512 * k.val] := k1_off1_eq k

/-- What a trip of loop 1 carries on. -/
theorem rawR1 (X : BufTy.Contents (Elt F) arg4.view.ty) (k : Fin k1_t1_loop.trips) (acc) :
    tripR_k1_t1 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (arg4.view.readAt (Elt F) (Rect.unit (s := S1024x5120) (k1_off1 k) S256x512.size (k1_off1_inb i k h1)).toLoadRect X) := by
  unfold tripR_k1_t1 trip_k1_t1
  rfl

/-- What a trip of loop 1 stores. -/
theorem rawL1 (X : BufTy.Contents (Elt F) arg4.view.ty) (k : Fin k1_t1_loop.trips) (acc) :
    tripL_k1_t1 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off1 k) S256x512.size (k1_off1_inb i k h1), k1_pay4 (F := F) (arg4.view.readAt (Elt F) (Rect.unit (s := S1024x5120) (k1_off1 k) S256x512.size (k1_off1_inb i k h1)).toLoadRect X)⟩] := by
  unfold tripL_k1_t1 trip_k1_t1
  rfl

/-- The carried value of loop 1 is computed as in loop 1. -/
theorem payR1 : k1_pay5 (F := F) = k1_pay5 (F := F) := rfl
/-- The stored tile of loop 1 is computed as in loop 1. -/
theorem payL1 : k1_pay4 (F := F) = k1_pay4 (F := F) := rfl
/-- The row sums of loop 1 are computed as in loop 1. -/
theorem payS1 : k1_pay6 = k1_pay6 := rfl
/-- Loop 1 starts as loop 1 does. -/
theorem payI1 : k1_pay2 = k1_pay2 := rfl

/-- What a trip of loop 1 carries on, in terms of the tile. -/
theorem tripR1 (X : BufTy.Contents (Elt F) arg4.view.ty) (k : Fin k1_t1_loop.trips) (acc) :
    tripR_k1_t1 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 0 k.val) := by
  rw [rawR1, View.readAt_eq_ld, ld_chunk (F := F) (arg4.view.read (Elt F) X) (k1_off1 k) 0 k.val (off1' k) (k1_off1_inb i k h1), payR1]

/-- What a trip of loop 1 stores, in terms of the tile. -/
theorem tripL1 (X : BufTy.Contents (Elt F) arg4.view.ty) (k : Fin k1_t1_loop.trips) (acc) :
    tripL_k1_t1 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off1 k) S256x512.size (k1_off1_inb i k h1), k1_pay4 (F := F) (chunk (arg4.view.read (Elt F) X) 0 k.val)⟩] := by
  rw [rawL1, View.readAt_eq_ld, ld_chunk (F := F) (arg4.view.read (Elt F) X) (k1_off1 k) 0 k.val (off1' k) (k1_off1_inb i k h1), payL1]

/-- Loop 1's carried value before trip `k`. -/
theorem stR1 (X : BufTy.Contents (Elt F) arg4.view.ty) (k : ℕ) (hk : k ≤ 10) :
    (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 k).1 = accN (F := F) (arg4.view.read (Elt F) X) 0 k := by
  induction k with
  | zero => rfl
  | succ k ih =>
    have hk' : k < k1_t1_loop.trips := by rw [trips1]; omega
    rw [st_k1_t1_succ Variants.none c none i arg2 harg2 arg3 harg3 arg4 harg4 arg5 harg5 arg6 harg6 arg7 harg7 arg8 harg8 arg9 harg9 arg10 harg10 arg11 harg11 arg12 harg12 arg13 harg13 h1 X k1_pay2 ⟨k, hk'⟩]
    show tripR_k1_t1 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR1, ih (by omega)]
    rfl

/-- Every piece loop 1 has stored agrees with what is kept. -/
theorem stA1 (X : BufTy.Contents (Elt F) arg4.view.ty) (k : ℕ) (hk : k ≤ 10) :
    ∀ p ∈ (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 k).2, ∀ z : p.1.shape.Idx, p.2 z = XB (F := F) (arg4.view.read (Elt F) X) (p.1.emb z) := by
  induction k with
  | zero => exact fun p hp => absurd hp List.not_mem_nil
  | succ k ih =>
    have hk' : k < k1_t1_loop.trips := by rw [trips1]; omega
    rw [st_k1_t1_succ Variants.none c none i arg2 harg2 arg3 harg3 arg4 harg4 arg5 harg5 arg6 harg6 arg7 harg7 arg8 harg8 arg9 harg9 arg10 harg10 arg11 harg11 arg12 harg12 arg13 harg13 h1 X k1_pay2 ⟨k, hk'⟩]
    intro p hp
    rw [tripL1] at hp
    rcases List.mem_append.mp hp with h | h
    · obtain rfl := List.mem_singleton.mp h
      exact XB_emb (F := F) _ _ 0 k (off1' ⟨k, hk'⟩) (k1_off1_inb i ⟨k, hk'⟩ h1)
    · exact ih (by omega) p h

/-- The pieces loop 1 has stored cover the columns up to the trip. -/
theorem stC1 (X : BufTy.Contents (Elt F) arg4.view.ty) (k : ℕ) (hk : k ≤ 10) (y : S1024x5120.Idx)
    (hy0 : (y 0).val / 256 = 0) (hy1 : (y 1).val < 512 * k) :
    ∃ p ∈ (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 k).2, y ∈ p.1.set := by
  induction k with
  | zero => omega
  | succ k ih =>
    have hk' : k < k1_t1_loop.trips := by rw [trips1]; omega
    rw [st_k1_t1_succ Variants.none c none i arg2 harg2 arg3 harg3 arg4 harg4 arg5 harg5 arg6 harg6 arg7 harg7 arg8 harg8 arg9 harg9 arg10 harg10 arg11 harg11 arg12 harg12 arg13 harg13 h1 X k1_pay2 ⟨k, hk'⟩, tripL1]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off1 ⟨k, hk'⟩) S256x512.size (k1_off1_inb i ⟨k, hk'⟩ h1)).set
      rw [Rect.mem_set_unit, off1']
      intro a
      fin_cases a
      · show 256 * 0 ≤ (y 0).val ∧ (y 0).val < 256 * 0 + 256
        omega
      · show 512 * k ≤ (y 1).val ∧ (y 1).val < 512 * k + 512
        omega

/-- Loop 2 makes ten trips. -/
theorem trips2 : k1_t2_loop.trips = 10 := by decide +kernel

/-- Where trip `k` of loop 2 reads and writes. -/
theorem off2' (k : Fin k1_t2_loop.trips) : k1_off2 k = ![256 * 1, 512 * k.val] := k1_off2_eq k

/-- What a trip of loop 2 carries on. -/
theorem rawR2 (X : BufTy.Contents (Elt F) arg4.view.ty) (k : Fin k1_t2_loop.trips) (acc) :
    tripR_k1_t2 (F := F) Variants.none c none i arg2 harg2 arg3 harg3 arg4 harg4 arg5 harg5 arg6 harg6 arg7 harg7 arg8 harg8 arg9 harg9 arg10 harg10 arg11 harg11 arg12 harg12 arg13 harg13 h1 X k acc = k1_pay10 (F := F) acc (arg4.view.readAt (Elt F) (Rect.unit (s := S1024x5120) (k1_off2 k) S256x512.size (k1_off2_inb i k h1)).toLoadRect X) := by
  unfold tripR_k1_t2 trip_k1_t2
  rfl

/-- What a trip of loop 2 stores. -/
theorem rawL2 (X : BufTy.Contents (Elt F) arg4.view.ty) (k : Fin k1_t2_loop.trips) (acc) :
    tripL_k1_t2 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off2 k) S256x512.size (k1_off2_inb i k h1), k1_pay9 (F := F) (arg4.view.readAt (Elt F) (Rect.unit (s := S1024x5120) (k1_off2 k) S256x512.size (k1_off2_inb i k h1)).toLoadRect X)⟩] := by
  unfold tripL_k1_t2 trip_k1_t2
  rfl

/-- The carried value of loop 2 is computed as in loop 1. -/
theorem payR2 : k1_pay10 (F := F) = k1_pay5 (F := F) := rfl
/-- The stored tile of loop 2 is computed as in loop 1. -/
theorem payL2 : k1_pay9 (F := F) = k1_pay4 (F := F) := rfl
/-- The row sums of loop 2 are computed as in loop 1. -/
theorem payS2 : k1_pay11 = k1_pay6 := rfl
/-- Loop 2 starts as loop 1 does. -/
theorem payI2 : k1_pay7 = k1_pay2 := rfl

/-- What a trip of loop 2 carries on, in terms of the tile. -/
theorem tripR2 (X : BufTy.Contents (Elt F) arg4.view.ty) (k : Fin k1_t2_loop.trips) (acc) :
    tripR_k1_t2 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 1 k.val) := by
  rw [rawR2, View.readAt_eq_ld, ld_chunk (F := F) (arg4.view.read (Elt F) X) (k1_off2 k) 1 k.val (off2' k) (k1_off2_inb i k h1), payR2]

/-- What a trip of loop 2 stores, in terms of the tile. -/
theorem tripL2 (X : BufTy.Contents (Elt F) arg4.view.ty) (k : Fin k1_t2_loop.trips) (acc) :
    tripL_k1_t2 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off2 k) S256x512.size (k1_off2_inb i k h1), k1_pay4 (F := F) (chunk (arg4.view.read (Elt F) X) 1 k.val)⟩] := by
  rw [rawL2, View.readAt_eq_ld, ld_chunk (F := F) (arg4.view.read (Elt F) X) (k1_off2 k) 1 k.val (off2' k) (k1_off2_inb i k h1), payL2]

/-- Loop 2's carried value before trip `k`. -/
theorem stR2 (X : BufTy.Contents (Elt F) arg4.view.ty) (k : ℕ) (hk : k ≤ 10) :
    (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 k).1 = accN (F := F) (arg4.view.read (Elt F) X) 1 k := by
  induction k with
  | zero => rfl
  | succ k ih =>
    have hk' : k < k1_t2_loop.trips := by rw [trips2]; omega
    rw [st_k1_t2_succ Variants.none c none i arg2 harg2 arg3 harg3 arg4 harg4 arg5 harg5 arg6 harg6 arg7 harg7 arg8 harg8 arg9 harg9 arg10 harg10 arg11 harg11 arg12 harg12 arg13 harg13 h1 X k1_pay7 ⟨k, hk'⟩]
    show tripR_k1_t2 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR2, ih (by omega)]
    rfl

/-- Every piece loop 2 has stored agrees with what is kept. -/
theorem stA2 (X : BufTy.Contents (Elt F) arg4.view.ty) (k : ℕ) (hk : k ≤ 10) :
    ∀ p ∈ (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 k).2, ∀ z : p.1.shape.Idx, p.2 z = XB (F := F) (arg4.view.read (Elt F) X) (p.1.emb z) := by
  induction k with
  | zero => exact fun p hp => absurd hp List.not_mem_nil
  | succ k ih =>
    have hk' : k < k1_t2_loop.trips := by rw [trips2]; omega
    rw [st_k1_t2_succ Variants.none c none i arg2 harg2 arg3 harg3 arg4 harg4 arg5 harg5 arg6 harg6 arg7 harg7 arg8 harg8 arg9 harg9 arg10 harg10 arg11 harg11 arg12 harg12 arg13 harg13 h1 X k1_pay7 ⟨k, hk'⟩]
    intro p hp
    rw [tripL2] at hp
    rcases List.mem_append.mp hp with h | h
    · obtain rfl := List.mem_singleton.mp h
      exact XB_emb (F := F) _ _ 1 k (off2' ⟨k, hk'⟩) (k1_off2_inb i ⟨k, hk'⟩ h1)
    · exact ih (by omega) p h

/-- The pieces loop 2 has stored cover the columns up to the trip. -/
theorem stC2 (X : BufTy.Contents (Elt F) arg4.view.ty) (k : ℕ) (hk : k ≤ 10) (y : S1024x5120.Idx)
    (hy0 : (y 0).val / 256 = 1) (hy1 : (y 1).val < 512 * k) :
    ∃ p ∈ (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 k).2, y ∈ p.1.set := by
  induction k with
  | zero => omega
  | succ k ih =>
    have hk' : k < k1_t2_loop.trips := by rw [trips2]; omega
    rw [st_k1_t2_succ Variants.none c none i arg2 harg2 arg3 harg3 arg4 harg4 arg5 harg5 arg6 harg6 arg7 harg7 arg8 harg8 arg9 harg9 arg10 harg10 arg11 harg11 arg12 harg12 arg13 harg13 h1 X k1_pay7 ⟨k, hk'⟩, tripL2]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off2 ⟨k, hk'⟩) S256x512.size (k1_off2_inb i ⟨k, hk'⟩ h1)).set
      rw [Rect.mem_set_unit, off2']
      intro a
      fin_cases a
      · show 256 * 1 ≤ (y 0).val ∧ (y 0).val < 256 * 1 + 256
        omega
      · show 512 * k ≤ (y 1).val ∧ (y 1).val < 512 * k + 512
        omega

/-- Loop 3 makes ten trips. -/
theorem trips3 : k1_t3_loop.trips = 10 := by decide +kernel

/-- Where trip `k` of loop 3 reads and writes. -/
theorem off3' (k : Fin k1_t3_loop.trips) : k1_off3 k = ![256 * 2, 512 * k.val] := k1_off3_eq k

/-- What a trip of loop 3 carries on. -/
theorem rawR3 (X : BufTy.Contents (Elt F) arg4.view.ty) (k : Fin k1_t3_loop.trips) (acc) :
    tripR_k1_t3 (F := F) Variants.none c none i arg2 harg2 arg3 harg3 arg4 harg4 arg5 harg5 arg6 harg6 arg7 harg7 arg8 harg8 arg9 harg9 arg10 harg10 arg11 harg11 arg12 harg12 arg13 harg13 h1 X k acc = k1_pay15 (F := F) acc (arg4.view.readAt (Elt F) (Rect.unit (s := S1024x5120) (k1_off3 k) S256x512.size (k1_off3_inb i k h1)).toLoadRect X) := by
  unfold tripR_k1_t3 trip_k1_t3
  rfl

/-- What a trip of loop 3 stores. -/
theorem rawL3 (X : BufTy.Contents (Elt F) arg4.view.ty) (k : Fin k1_t3_loop.trips) (acc) :
    tripL_k1_t3 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off3 k) S256x512.size (k1_off3_inb i k h1), k1_pay14 (F := F) (arg4.view.readAt (Elt F) (Rect.unit (s := S1024x5120) (k1_off3 k) S256x512.size (k1_off3_inb i k h1)).toLoadRect X)⟩] := by
  unfold tripL_k1_t3 trip_k1_t3
  rfl

/-- The carried value of loop 3 is computed as in loop 1. -/
theorem payR3 : k1_pay15 (F := F) = k1_pay5 (F := F) := rfl
/-- The stored tile of loop 3 is computed as in loop 1. -/
theorem payL3 : k1_pay14 (F := F) = k1_pay4 (F := F) := rfl
/-- The row sums of loop 3 are computed as in loop 1. -/
theorem payS3 : k1_pay16 = k1_pay6 := rfl
/-- Loop 3 starts as loop 1 does. -/
theorem payI3 : k1_pay12 = k1_pay2 := rfl

/-- What a trip of loop 3 carries on, in terms of the tile. -/
theorem tripR3 (X : BufTy.Contents (Elt F) arg4.view.ty) (k : Fin k1_t3_loop.trips) (acc) :
    tripR_k1_t3 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 2 k.val) := by
  rw [rawR3, View.readAt_eq_ld, ld_chunk (F := F) (arg4.view.read (Elt F) X) (k1_off3 k) 2 k.val (off3' k) (k1_off3_inb i k h1), payR3]

/-- What a trip of loop 3 stores, in terms of the tile. -/
theorem tripL3 (X : BufTy.Contents (Elt F) arg4.view.ty) (k : Fin k1_t3_loop.trips) (acc) :
    tripL_k1_t3 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off3 k) S256x512.size (k1_off3_inb i k h1), k1_pay4 (F := F) (chunk (arg4.view.read (Elt F) X) 2 k.val)⟩] := by
  rw [rawL3, View.readAt_eq_ld, ld_chunk (F := F) (arg4.view.read (Elt F) X) (k1_off3 k) 2 k.val (off3' k) (k1_off3_inb i k h1), payL3]

/-- Loop 3's carried value before trip `k`. -/
theorem stR3 (X : BufTy.Contents (Elt F) arg4.view.ty) (k : ℕ) (hk : k ≤ 10) :
    (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 k).1 = accN (F := F) (arg4.view.read (Elt F) X) 2 k := by
  induction k with
  | zero => rfl
  | succ k ih =>
    have hk' : k < k1_t3_loop.trips := by rw [trips3]; omega
    rw [st_k1_t3_succ Variants.none c none i arg2 harg2 arg3 harg3 arg4 harg4 arg5 harg5 arg6 harg6 arg7 harg7 arg8 harg8 arg9 harg9 arg10 harg10 arg11 harg11 arg12 harg12 arg13 harg13 h1 X k1_pay12 ⟨k, hk'⟩]
    show tripR_k1_t3 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR3, ih (by omega)]
    rfl

/-- Every piece loop 3 has stored agrees with what is kept. -/
theorem stA3 (X : BufTy.Contents (Elt F) arg4.view.ty) (k : ℕ) (hk : k ≤ 10) :
    ∀ p ∈ (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 k).2, ∀ z : p.1.shape.Idx, p.2 z = XB (F := F) (arg4.view.read (Elt F) X) (p.1.emb z) := by
  induction k with
  | zero => exact fun p hp => absurd hp List.not_mem_nil
  | succ k ih =>
    have hk' : k < k1_t3_loop.trips := by rw [trips3]; omega
    rw [st_k1_t3_succ Variants.none c none i arg2 harg2 arg3 harg3 arg4 harg4 arg5 harg5 arg6 harg6 arg7 harg7 arg8 harg8 arg9 harg9 arg10 harg10 arg11 harg11 arg12 harg12 arg13 harg13 h1 X k1_pay12 ⟨k, hk'⟩]
    intro p hp
    rw [tripL3] at hp
    rcases List.mem_append.mp hp with h | h
    · obtain rfl := List.mem_singleton.mp h
      exact XB_emb (F := F) _ _ 2 k (off3' ⟨k, hk'⟩) (k1_off3_inb i ⟨k, hk'⟩ h1)
    · exact ih (by omega) p h

/-- The pieces loop 3 has stored cover the columns up to the trip. -/
theorem stC3 (X : BufTy.Contents (Elt F) arg4.view.ty) (k : ℕ) (hk : k ≤ 10) (y : S1024x5120.Idx)
    (hy0 : (y 0).val / 256 = 2) (hy1 : (y 1).val < 512 * k) :
    ∃ p ∈ (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 k).2, y ∈ p.1.set := by
  induction k with
  | zero => omega
  | succ k ih =>
    have hk' : k < k1_t3_loop.trips := by rw [trips3]; omega
    rw [st_k1_t3_succ Variants.none c none i arg2 harg2 arg3 harg3 arg4 harg4 arg5 harg5 arg6 harg6 arg7 harg7 arg8 harg8 arg9 harg9 arg10 harg10 arg11 harg11 arg12 harg12 arg13 harg13 h1 X k1_pay12 ⟨k, hk'⟩, tripL3]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off3 ⟨k, hk'⟩) S256x512.size (k1_off3_inb i ⟨k, hk'⟩ h1)).set
      rw [Rect.mem_set_unit, off3']
      intro a
      fin_cases a
      · show 256 * 2 ≤ (y 0).val ∧ (y 0).val < 256 * 2 + 256
        omega
      · show 512 * k ≤ (y 1).val ∧ (y 1).val < 512 * k + 512
        omega

/-- Loop 4 makes ten trips. -/
theorem trips4 : k1_t4_loop.trips = 10 := by decide +kernel

/-- Where trip `k` of loop 4 reads and writes. -/
theorem off4' (k : Fin k1_t4_loop.trips) : k1_off4 k = ![256 * 3, 512 * k.val] := k1_off4_eq k

/-- What a trip of loop 4 carries on. -/
theorem rawR4 (X : BufTy.Contents (Elt F) arg4.view.ty) (k : Fin k1_t4_loop.trips) (acc) :
    tripR_k1_t4 (F := F) Variants.none c none i arg2 harg2 arg3 harg3 arg4 harg4 arg5 harg5 arg6 harg6 arg7 harg7 arg8 harg8 arg9 harg9 arg10 harg10 arg11 harg11 arg12 harg12 arg13 harg13 h1 X k acc = k1_pay20 (F := F) acc (arg4.view.readAt (Elt F) (Rect.unit (s := S1024x5120) (k1_off4 k) S256x512.size (k1_off4_inb i k h1)).toLoadRect X) := by
  unfold tripR_k1_t4 trip_k1_t4
  rfl

/-- What a trip of loop 4 stores. -/
theorem rawL4 (X : BufTy.Contents (Elt F) arg4.view.ty) (k : Fin k1_t4_loop.trips) (acc) :
    tripL_k1_t4 (F := F) Variants.none c none i arg2 harg2 arg3 harg3 arg4 harg4 arg5 harg5 arg6 harg6 arg7 harg7 arg8 harg8 arg9 harg9 arg10 harg10 arg11 harg11 arg12 harg12 arg13 harg13 h1 X k acc = [⟨Rect.unit (s := S1024x5120) (k1_off4 k) S256x512.size (k1_off4_inb i k h1), k1_pay19 (F := F) (arg4.view.readAt (Elt F) (Rect.unit (s := S1024x5120) (k1_off4 k) S256x512.size (k1_off4_inb i k h1)).toLoadRect X)⟩] := by
  unfold tripL_k1_t4 trip_k1_t4
  rfl

/-- The carried value of loop 4 is computed as in loop 1. -/
theorem payR4 : k1_pay20 (F := F) = k1_pay5 (F := F) := rfl
/-- The stored tile of loop 4 is computed as in loop 1. -/
theorem payL4 : k1_pay19 (F := F) = k1_pay4 (F := F) := rfl
/-- The row sums of loop 4 are computed as in loop 1. -/
theorem payS4 : k1_pay21 = k1_pay6 := rfl
/-- Loop 4 starts as loop 1 does. -/
theorem payI4 : k1_pay17 = k1_pay2 := rfl

/-- What a trip of loop 4 carries on, in terms of the tile. -/
theorem tripR4 (X : BufTy.Contents (Elt F) arg4.view.ty) (k : Fin k1_t4_loop.trips) (acc) :
    tripR_k1_t4 (F := F) Variants.none c none i arg2 harg2 arg3 harg3 arg4 harg4 arg5 harg5 arg6 harg6 arg7 harg7 arg8 harg8 arg9 harg9 arg10 harg10 arg11 harg11 arg12 harg12 arg13 harg13 h1 X k acc = k1_pay5 (F := F) acc (chunk (arg4.view.read (Elt F) X) 3 k.val) := by
  rw [rawR4, View.readAt_eq_ld, ld_chunk (F := F) (arg4.view.read (Elt F) X) (k1_off4 k) 3 k.val (off4' k) (k1_off4_inb i k h1), payR4]

/-- What a trip of loop 4 stores, in terms of the tile. -/
theorem tripL4 (X : BufTy.Contents (Elt F) arg4.view.ty) (k : Fin k1_t4_loop.trips) (acc) :
    tripL_k1_t4 (F := F) Variants.none c none i arg2 harg2 arg3 harg3 arg4 harg4 arg5 harg5 arg6 harg6 arg7 harg7 arg8 harg8 arg9 harg9 arg10 harg10 arg11 harg11 arg12 harg12 arg13 harg13 h1 X k acc
      = [⟨Rect.unit (s := S1024x5120) (k1_off4 k) S256x512.size (k1_off4_inb i k h1), k1_pay4 (F := F) (chunk (arg4.view.read (Elt F) X) 3 k.val)⟩] := by
  rw [rawL4, View.readAt_eq_ld, ld_chunk (F := F) (arg4.view.read (Elt F) X) (k1_off4 k) 3 k.val (off4' k) (k1_off4_inb i k h1), payL4]

/-- Loop 4's carried value before trip `k`. -/
theorem stR4 (X : BufTy.Contents (Elt F) arg4.view.ty) (k : ℕ) (hk : k ≤ 10) :
    (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 k).1 = accN (F := F) (arg4.view.read (Elt F) X) 3 k := by
  induction k with
  | zero => rfl
  | succ k ih =>
    have hk' : k < k1_t4_loop.trips := by rw [trips4]; omega
    rw [st_k1_t4_succ Variants.none c none i arg2 harg2 arg3 harg3 arg4 harg4 arg5 harg5 arg6 harg6 arg7 harg7 arg8 harg8 arg9 harg9 arg10 harg10 arg11 harg11 arg12 harg12 arg13 harg13 h1 X k1_pay17 ⟨k, hk'⟩]
    show tripR_k1_t4 (F := F) Variants.none c none i arg2 harg2 arg3 harg3 arg4 harg4 arg5 harg5 arg6 harg6 arg7 harg7 arg8 harg8 arg9 harg9 arg10 harg10 arg11 harg11 arg12 harg12 arg13 harg13 h1 X ⟨k, hk'⟩ _ = _
    rw [tripR4, ih (by omega)]
    rfl

/-- Every piece loop 4 has stored agrees with what is kept. -/
theorem stA4 (X : BufTy.Contents (Elt F) arg4.view.ty) (k : ℕ) (hk : k ≤ 10) :
    ∀ p ∈ (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 k).2, ∀ z : p.1.shape.Idx, p.2 z = XB (F := F) (arg4.view.read (Elt F) X) (p.1.emb z) := by
  induction k with
  | zero => exact fun p hp => absurd hp List.not_mem_nil
  | succ k ih =>
    have hk' : k < k1_t4_loop.trips := by rw [trips4]; omega
    rw [st_k1_t4_succ Variants.none c none i arg2 harg2 arg3 harg3 arg4 harg4 arg5 harg5 arg6 harg6 arg7 harg7 arg8 harg8 arg9 harg9 arg10 harg10 arg11 harg11 arg12 harg12 arg13 harg13 h1 X k1_pay17 ⟨k, hk'⟩]
    intro p hp
    rw [tripL4] at hp
    rcases List.mem_append.mp hp with h | h
    · obtain rfl := List.mem_singleton.mp h
      exact XB_emb (F := F) _ _ 3 k (off4' ⟨k, hk'⟩) (k1_off4_inb i ⟨k, hk'⟩ h1)
    · exact ih (by omega) p h

/-- The pieces loop 4 has stored cover the columns up to the trip. -/
theorem stC4 (X : BufTy.Contents (Elt F) arg4.view.ty) (k : ℕ) (hk : k ≤ 10) (y : S1024x5120.Idx)
    (hy0 : (y 0).val / 256 = 3) (hy1 : (y 1).val < 512 * k) :
    ∃ p ∈ (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 k).2, y ∈ p.1.set := by
  induction k with
  | zero => omega
  | succ k ih =>
    have hk' : k < k1_t4_loop.trips := by rw [trips4]; omega
    rw [st_k1_t4_succ Variants.none c none i arg2 harg2 arg3 harg3 arg4 harg4 arg5 harg5 arg6 harg6 arg7 harg7 arg8 harg8 arg9 harg9 arg10 harg10 arg11 harg11 arg12 harg12 arg13 harg13 h1 X k1_pay17 ⟨k, hk'⟩, tripL4]
    by_cases h : (y 1).val < 512 * k
    · obtain ⟨p, hp, hy⟩ := ih (by omega) h
      exact ⟨p, List.mem_append_right _ hp, hy⟩
    · refine ⟨_, List.mem_append_left _ (List.mem_singleton.mpr rfl), ?_⟩
      show y ∈ (Rect.unit (s := S1024x5120) (k1_off4 ⟨k, hk'⟩) S256x512.size (k1_off4_inb i ⟨k, hk'⟩ h1)).set
      rw [Rect.mem_set_unit, off4']
      intro a
      fin_cases a
      · show 256 * 3 ≤ (y 0).val ∧ (y 0).val < 256 * 3 + 256
        omega
      · show 512 * k ≤ (y 1).val ∧ (y 1).val < 512 * k + 512
        omega

end Trips

end Cert.KernelIdeal.Own

end
-- ==== Proof.KernelIdeal.Fill2.lean ====
module

public import proofs.«01_k».proof.Proof.KernelIdeal.Fill

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Fill
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole)

/-- The conditional part of a grid step: at the first column block of a row block it converts the operand and sums its rows. -/
def fill : Prog (TpuEff nD τ sig (Elt F) Λ₀ .tc) PUnit := do
  if k1_h1 : k1_cond1 i = 1#1 then do
    let ⟨v437, c0_i32_175⟩ : Σ' (v437 : IVec S256x128 32), BitVec 32 ← k1_part1 (F := F) i arg2 harg2 arg3 harg3 arg4 harg4 arg5 harg5 arg6 harg6 arg7 harg7 arg8 harg8 arg9 harg9 arg10 harg10 arg11 harg11 arg12 harg12 arg13 harg13 k1_h1
    let v439 : IVec S256x128 32 ← Scf.Loop.for k1_t4_loop (k1_t4_ok i k1_h1) v437 (k1_t4_body (F := F) i arg2 harg2 arg3 harg3 arg4 harg4 arg5 harg5 arg6 harg6 arg7 harg7 arg8 harg8 arg9 harg9 arg10 harg10 arg11 harg11 arg12 harg12 arg13 harg13 k1_h1)
    let v444 : Vec F S256x128 .i32 ← Prog.lift (.load arg13 (Rect.unit (s := S1024x128) ![768, 0] S256x128.size inb_S1024x128_S256x128_768_0).toLoadRect (View.loadsAt_vmem h_S256x128))
    Prog.lift (.store arg13 (Rect.unit (s := S1024x128) ![768, 0] S256x128.size inb_S1024x128_S256x128_768_0) (k1_pay21 v439) Finset.univ (View.stores_vmem_bits_univ h_S256x128 rfl) (.inl rfl))
    pure ⟨⟩
  else do
    pure ⟨⟩

/-- The stores of the four loops leave the operand in the narrow float format. -/
theorem read12 (h1 : k1_cond1 i = 1#1) (X : BufTy.Contents (Elt F) arg4.view.ty) (G12 : BufTy.Contents (Elt F) arg12.view.ty) :
    arg12.view.read (Elt F) (arg12.view.writes (Elt F) G12 ((st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 (Scf.trips k1_t4_loop.lb k1_t4_loop.ub k1_t4_loop.st)).2 ++ ((st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 (Scf.trips k1_t3_loop.lb k1_t3_loop.ub k1_t3_loop.st)).2 ++ ((st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 (Scf.trips k1_t2_loop.lb k1_t2_loop.ub k1_t2_loop.st)).2 ++ (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 (Scf.trips k1_t1_loop.lb k1_t1_loop.ub k1_t1_loop.st)).2))))
      = XB (F := F) (arg4.view.read (Elt F) X) := by
  funext y
  apply View.read_writes_apply_of_pieces
  · intro p hp
    rcases List.mem_append.mp hp with h | h
    · exact stA4 c i arg2 harg2 arg3 harg3 arg4 harg4 arg5 harg5 arg6 harg6 arg7 harg7 arg8 harg8 arg9 harg9 arg10 harg10 arg11 harg11 arg12 harg12 arg13 harg13 h1 X 10 (le_refl _) p h
    rcases List.mem_append.mp h with h | h
    · exact stA3 c i arg2 harg2 arg3 harg3 arg4 harg4 arg5 harg5 arg6 harg6 arg7 harg7 arg8 harg8 arg9 harg9 arg10 harg10 arg11 harg11 arg12 harg12 arg13 harg13 h1 X 10 (le_refl _) p h
    rcases List.mem_append.mp h with h | h
    · exact stA2 c i arg2 harg2 arg3 harg3 arg4 harg4 arg5 harg5 arg6 harg6 arg7 harg7 arg8 harg8 arg9 harg9 arg10 harg10 arg11 harg11 arg12 harg12 arg13 harg13 h1 X 10 (le_refl _) p h
    · exact stA1 c i arg2 harg2 arg3 harg3 arg4 harg4 arg5 harg5 arg6 harg6 arg7 harg7 arg8 harg8 arg9 harg9 arg10 harg10 arg11 harg11 arg12 harg12 arg13 harg13 h1 X 10 (le_refl _) p h
  · have y0 : (y 0).val < 1024 := (y 0).isLt
    have y1 : (y 1).val < 5120 := (y 1).isLt
    have hr : (y 0).val / 256 = 0 ∨ (y 0).val / 256 = 1 ∨ (y 0).val / 256 = 2 ∨ (y 0).val / 256 = 3 := by omega
    rcases hr with hr | hr | hr | hr
    · obtain ⟨p, hp, hy⟩ := stC1 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_right _ (List.mem_append_right _ (List.mem_append_right _ hp)), hy⟩
    · obtain ⟨p, hp, hy⟩ := stC2 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_right _ (List.mem_append_right _ (List.mem_append_left _ hp)), hy⟩
    · obtain ⟨p, hp, hy⟩ := stC3 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_right _ (List.mem_append_left _ hp), hy⟩
    · obtain ⟨p, hp, hy⟩ := stC4 (F := F) c i arg2 harg2 arg3 harg3 arg4 harg4 arg5 harg5 arg6 harg6 arg7 harg7 arg8 harg8 arg9 harg9 arg10 harg10 arg11 harg11 arg12 harg12 arg13 harg13 h1 X 10 (le_refl _) y hr (by omega)
      exact ⟨p, List.mem_append_left _ hp, hy⟩

/-- A stripe of 256 rows of the row sums contains the rows it should. -/
theorem mem_stripe13 (y : S1024x128.Idx) (r : ℕ) (hr : (y 0).val / 256 = r) (inb : ∀ a, (![256 * r, 0] : Fin 2 → ℕ) a + S256x128.size a ≤ S1024x128.size a) :
    y ∈ (Rect.unit (s := S1024x128) ![256 * r, 0] S256x128.size inb).set := by
  rw [Rect.mem_set_unit]
  have y1 : (y 1).val < 128 := (y 1).isLt
  intro a
  fin_cases a
  · show 256 * r ≤ (y 0).val ∧ (y 0).val < 256 * r + 256
    omega
  · show 0 ≤ (y 1).val ∧ (y 1).val < 0 + 128
    omega

/-- The four stores of row sums leave the row sums. -/
theorem read13g (x : S1024x5120.Idx → Elt F .i8) (G13 : BufTy.Contents (Elt F) arg13.view.ty) (w0 w1 w2 w3 : S256x128.Idx → Elt F .i32)
    (h0 : w0 = k1_pay6 (accN (F := F) x 0 10)) (h1 : w1 = k1_pay6 (accN (F := F) x 1 10))
    (h2 : w2 = k1_pay6 (accN (F := F) x 2 10)) (h3 : w3 = k1_pay6 (accN (F := F) x 3 10)) :
    arg13.view.read (Elt F) (arg13.view.writes (Elt F) G13
      [⟨Rect.unit (s := S1024x128) ![768, 0] S256x128.size inb_S1024x128_S256x128_768_0, w3⟩,
       ⟨Rect.unit (s := S1024x128) ![512, 0] S256x128.size inb_S1024x128_S256x128_512_0, w2⟩,
       ⟨Rect.unit (s := S1024x128) ![256, 0] S256x128.size inb_S1024x128_S256x128_256_0, w1⟩,
       ⟨Rect.unit (s := S1024x128) ![0, 0] S256x128.size inb_S1024x128_S256x128_0_0, w0⟩])
      = SX (F := F) x := by
  have e0 : ∀ z, w0 z = _ := fun z => (congrFun h0 z).trans (SX_emb (F := F) x ![0, 0] 0 rfl inb_S1024x128_S256x128_0_0 z)
  have e1 : ∀ z, w1 z = _ := fun z => (congrFun h1 z).trans (SX_emb (F := F) x ![256, 0] 1 rfl inb_S1024x128_S256x128_256_0 z)
  have e2 : ∀ z, w2 z = _ := fun z => (congrFun h2 z).trans (SX_emb (F := F) x ![512, 0] 2 rfl inb_S1024x128_S256x128_512_0 z)
  have e3 : ∀ z, w3 z = _ := fun z => (congrFun h3 z).trans (SX_emb (F := F) x ![768, 0] 3 rfl inb_S1024x128_S256x128_768_0 z)
  clear h0 h1 h2 h3
  generalize SX (F := F) x = S at *
  funext y
  apply View.read_writes_apply_of_pieces
  · intro p hp
    simp only [List.mem_cons, List.not_mem_nil, or_false] at hp
    rcases hp with rfl | rfl | rfl | rfl
    · exact e3
    · exact e2
    · exact e1
    · exact e0
  · have y0 : (y 0).val < 1024 := (y 0).isLt
    have hr : (y 0).val / 256 = 0 ∨ (y 0).val / 256 = 1 ∨ (y 0).val / 256 = 2 ∨ (y 0).val / 256 = 3 := by omega
    rcases hr with hr | hr | hr | hr
    · exact ⟨_, List.mem_cons_of_mem _ (List.mem_cons_of_mem _ (List.mem_cons_of_mem _ List.mem_cons_self)), mem_stripe13 y 0 hr inb_S1024x128_S256x128_0_0⟩
    · exact ⟨_, List.mem_cons_of_mem _ (List.mem_cons_of_mem _ List.mem_cons_self), mem_stripe13 y 1 hr inb_S1024x128_S256x128_256_0⟩
    · exact ⟨_, List.mem_cons_of_mem _ List.mem_cons_self, mem_stripe13 y 2 hr inb_S1024x128_S256x128_512_0⟩
    · exact ⟨_, List.mem_cons_self, mem_stripe13 y 3 hr inb_S1024x128_S256x128_768_0⟩

/-- What the four stores of row sums leave in the buffer. -/
theorem read13 (h1 : k1_cond1 i = 1#1) (X : BufTy.Contents (Elt F) arg4.view.ty) (G13 : BufTy.Contents (Elt F) arg13.view.ty) :
    arg13.view.read (Elt F) (arg13.view.writes (Elt F) G13
      [⟨Rect.unit (s := S1024x128) ![768, 0] S256x128.size inb_S1024x128_S256x128_768_0, k1_pay21 (st_k1_t4 (F := F) Variants.none c none i arg2 harg2 arg3 harg3 arg4 harg4 arg5 harg5 arg6 harg6 arg7 harg7 arg8 harg8 arg9 harg9 arg10 harg10 arg11 harg11 arg12 harg12 arg13 harg13 h1 X k1_pay17 (Scf.trips k1_t4_loop.lb k1_t4_loop.ub k1_t4_loop.st)).1⟩,
       ⟨Rect.unit (s := S1024x128) ![512, 0] S256x128.size inb_S1024x128_S256x128_512_0, k1_pay16 (st_k1_t3 (F := F) Variants.none c none i arg2 harg2 arg3 harg3 arg4 harg4 arg5 harg5 arg6 harg6 arg7 harg7 arg8 harg8 arg9 harg9 arg10 harg10 arg11 harg11 arg12 harg12 arg13 harg13 h1 X k1_pay12 (Scf.trips k1_t3_loop.lb k1_t3_loop.ub k1_t3_loop.st)).1⟩,
       ⟨Rect.unit (s := S1024x128) ![256, 0] S256x128.size inb_S1024x128_S256x128_256_0, k1_pay11 (st_k1_t2 (F := F) Variants.none c none i arg2 harg2 arg3 harg3 arg4 harg4 arg5 harg5 arg6 harg6 arg7 harg7 arg8 harg8 arg9 harg9 arg10 harg10 arg11 harg11 arg12 harg12 arg13 harg13 h1 X k1_pay7 (Scf.trips k1_t2_loop.lb k1_t2_loop.ub k1_t2_loop.st)).1⟩,
       ⟨Rect.unit (s := S1024x128) ![0, 0] S256x128.size inb_S1024x128_S256x128_0_0, k1_pay6 (st_k1_t1 (F := F) Variants.none c none i arg2 harg2 arg3 harg3 arg4 harg4 arg5 harg5 arg6 harg6 arg7 harg7 arg8 harg8 arg9 harg9 arg10 harg10 arg11 harg11 arg12 harg12 arg13 harg13 h1 X k1_pay2 (Scf.trips k1_t1_loop.lb k1_t1_loop.ub k1_t1_loop.st)).1⟩])
      = SX (F := F) (arg4.view.read (Elt F) X) := by
  apply read13g
  · rw [show Scf.trips k1_t1_loop.lb k1_t1_loop.ub k1_t1_loop.st = 10 from trips1, stR1 c i arg2 harg2 arg3 harg3 arg4 harg4 arg5 harg5 arg6 harg6 arg7 harg7 arg8 harg8 arg9 harg9 arg10 harg10 arg11 harg11 arg12 harg12 arg13 harg13 h1 X 10 (le_refl _)]
  · rw [payS2, show Scf.trips k1_t2_loop.lb k1_t2_loop.ub k1_t2_loop.st = 10 from trips2, stR2 c i arg2 harg2 arg3 harg3 arg4 harg4 arg5 harg5 arg6 harg6 arg7 harg7 arg8 harg8 arg9 harg9 arg10 harg10 arg11 harg11 arg12 harg12 arg13 harg13 h1 X 10 (le_refl _)]
  · rw [payS3, show Scf.trips k1_t3_loop.lb k1_t3_loop.ub k1_t3_loop.st = 10 from trips3, stR3 c i arg2 harg2 arg3 harg3 arg4 harg4 arg5 harg5 arg6 harg6 arg7 harg7 arg8 harg8 arg9 harg9 arg10 harg10 arg11 harg11 arg12 harg12 arg13 harg13 h1 X 10 (le_refl _)]
  · rw [payS4, show Scf.trips k1_t4_loop.lb k1_t4_loop.ub k1_t4_loop.st = 10 from trips4, stR4 c i arg2 harg2 arg3 harg3 arg4 harg4 arg5 harg5 arg6 harg6 arg7 harg7 arg8 harg8 arg9 harg9 arg10 harg10 arg11 harg11 arg12 harg12 arg13 harg13 h1 X 10 (le_refl _)]

set_option maxHeartbeats 1000000 in
/-- The conditional part, when it runs, leaves the two scratch buffers at the converted operand and its row sums. -/
theorem fill_wp (h1 : k1_cond1 i = 1#1) (X : BufTy.Contents (Elt F) arg4.view.ty) (G12 : BufTy.Contents (Elt F) arg12.view.ty) (G13 : BufTy.Contents (Elt F) arg13.view.ty) :
    iprop((arg4.view.loc (c : Thread nD τ) ↦[arg4.view.set]{fullShare} X)
      ∗ (arg12.view.loc (c : Thread nD τ) ↦[arg12.view.set]{fullShare} G12)
      ∗ (arg13.view.loc (c : Thread nD τ) ↦[arg13.view.set]{fullShare} G13) : sProp 𝕄)
    ⊢ wp frame (wpE (defs₀ (F := F)) Variants.none (c : Thread nD τ) none) Set.univ (fill (F := F) i arg2 harg2 arg3 harg3 arg4 harg4 arg5 harg5 arg6 harg6 arg7 harg7 arg8 harg8 arg9 harg9 arg10 harg10 arg11 harg11 arg12 harg12 arg13 harg13)
      (fun _ => iprop((arg4.view.loc (c : Thread nD τ) ↦[arg4.view.set]{fullShare} X)
        ∗ owns (c : Thread nD τ) arg12 fullShare (XB (F := F) (arg4.view.read (Elt F) X))
        ∗ owns (c : Thread nD τ) arg13 fullShare (SX (F := F) (arg4.view.read (Elt F) X)))) := by
  unfold fill
  simp only [k1_part1_eq_skeleton]
  unfold owns
  iintro ⟨H4, H12, H13⟩
  sl_exec (disch := first | sl_exact h1)
  sl_step
  isplitl [H4]
  · iexact H4
  isplitl [H12]
  · iexists _
    isplitr [H12]
    rotate_left
    · iexact H12
    · ipureintro
      exact read12 c i arg2 harg2 arg3 harg3 arg4 harg4 arg5 harg5 arg6 harg6 arg7 harg7 arg8 harg8 arg9 harg9 arg10 harg10 arg11 harg11 arg12 harg12 arg13 harg13 h1 X G12
  · iexists _
    isplitr [H13]
    rotate_left
    · iexact H13
    · ipureintro
      exact read13 c i arg2 harg2 arg3 harg3 arg4 harg4 arg5 harg5 arg6 harg6 arg7 harg7 arg8 harg8 arg9 harg9 arg10 harg10 arg11 harg11 arg12 harg12 arg13 harg13 h1 X G13

end Fill

end Cert.KernelIdeal.Own

end
-- ==== Proof.KernelIdeal.Body.lean ====
module

public import proofs.«01_k».proof.Proof.KernelIdeal.Fill2

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The piece of the kept operand at rows from `256 r` and columns from `1024 k`. -/
def xchunk (x : S1024x5120.Idx → Elt F .bf16) (r k : ℕ) : S256x1024.Idx → Elt F .bf16 :=
  fun z => x (ix (d := ![1024, 5120]) (by decide) (256 * r + (z 0).val) (1024 * k + (z 1).val))

/-- The piece of the kept row sums at rows from `256 r`. -/
def schunk (x : S1024x128.Idx → Elt F .i32) (r : ℕ) : S256x128.Idx → Elt F .i32 :=
  fun z => x (ix (d := ![1024, 128]) (by decide) (256 * r + (z 0).val) (z 1).val)

/-- What a grid step stores for one stripe of 256 rows, from the five pieces of the kept operand and the row sums. -/
def stripe (xzp yzp : Elt F .i32) (w : Vec F S5120x512 .i8) (b4 b5 b6 b7 b8 : Vec F S1x512 .i32)
    (a b c d e : Vec F S256x1024 .bf16) (s : Vec F S256x128 .i32) : Vec F S256x512 .i8 :=
  k1_pay32 (k1_pay31 yzp (k1_pay25 (F := F) b7) (k1_pay26 (F := F) b8)
    (k1_pay28 (F := F) (k1_pay23 (F := F) xzp b5 b4 b6) (k1_pay24 (F := F) b5) (k1_pay27 (F := F) w) 0#32 a b c d e s)
    (k1_pay29 (k1_pay25 (F := F) b7)) k1_pay30)

/-- The one index of a one-element array. -/
def zero1 : S1.Idx := fun a => ⟨0, by fin_cases a; decide⟩

/-- The output block of a grid step from its input blocks and the two kept buffers. -/
def outB (x0 x1 : S1.Idx → Elt F .i32) (w : Vec F S5120x512 .i8) (b4 b5 b6 b7 b8 : Vec F S1x512 .i32)
    (xb : S1024x5120.Idx → Elt F .bf16) (sx : S1024x128.Idx → Elt F .i32) : S1024x512.Idx → Elt F .i8 :=
  fun y => stripe (F := F) (x0 zero1) (x1 zero1) w b4 b5 b6 b7 b8
    (xchunk xb ((y 0).val / 256) 0) (xchunk xb ((y 0).val / 256) 1) (xchunk xb ((y 0).val / 256) 2)
    (xchunk xb ((y 0).val / 256) 3) (xchunk xb ((y 0).val / 256) 4) (schunk sx ((y 0).val / 256))
    (ix (d := ![256, 512]) (by decide) ((y 0).val % 256) (y 1).val)

/-- The loads of one grid step after its conditional part. -/
def part2r (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole) : Prog (TpuEff nD τ sig (Elt F) Λ₀ .tc) (Σ' (v4 : Elt F .i32) (v22 : IVec S1x512 32) (v24 : IVec S1x512 32) (v26 : IVec S1x512 32) (v28 : IVec S1x512 32) (v34 : FVec F S5120x512 .bf16), BitVec 32) := do
  let v3 : Elt F .i32 ← smemLoad arg2 (Rect.unit (s := S1) ![0] S1.size inb_S1_S1_0) numel1_S1 rfl
  let v4 : Elt F .i32 ← smemLoad arg3 (Rect.unit (s := S1) ![0] S1.size inb_S1_S1_0) numel1_S1 rfl
  let v5 : Vec F S1x512 .i32 ← Prog.lift (.load arg7 (Rect.unit (s := S1x512) ![0, 0] S1x512.size inb_S1x512_S1x512_0_0).toLoadRect (View.loadsAt_vmem h_S1x512))
  let v7 : Vec F S1x512 .i32 ← Prog.lift (.load arg6 (Rect.unit (s := S1x512) ![0, 0] S1x512.size inb_S1x512_S1x512_0_0).toLoadRect (View.loadsAt_vmem h_S1x512))
  let v12 : Vec F S1x512 .i32 ← Prog.lift (.load arg8 (Rect.unit (s := S1x512) ![0, 0] S1x512.size inb_S1x512_S1x512_0_0).toLoadRect (View.loadsAt_vmem h_S1x512))
  let v25 : Vec F S1x512 .i32 ← Prog.lift (.load arg9 (Rect.unit (s := S1x512) ![0, 0] S1x512.size inb_S1x512_S1x512_0_0).toLoadRect (View.loadsAt_vmem h_S1x512))
  let v27 : Vec F S1x512 .i32 ← Prog.lift (.load arg10 (Rect.unit (s := S1x512) ![0, 0] S1x512.size inb_S1x512_S1x512_0_0).toLoadRect (View.loadsAt_vmem h_S1x512))
  let v29 : Vec F S5120x512 .i8 ← Prog.lift (.load arg5 (Rect.unit (s := S5120x512) ![0, 0] S5120x512.size inb_S5120x512_S5120x512_0_0).toLoadRect (View.loadsAt_vmem h_S5120x512))
  pure ⟨v4, k1_pay23 v3 v5 v7 v12, k1_pay24 v5, k1_pay25 v25, k1_pay26 v27, k1_pay27 v29, 0#32⟩

/-- The output block, read in a stripe of 256 rows. -/
theorem outB_emb (x0 x1 : S1.Idx → Elt F .i32) (w : Vec F S5120x512 .i8) (b4 b5 b6 b7 b8 : Vec F S1x512 .i32)
    (xb : S1024x5120.Idx → Elt F .bf16) (sx : S1024x128.Idx → Elt F .i32) (off : Fin 2 → ℕ) (r : ℕ) (hoff : off = ![256 * r, 0])
    (inb : ∀ a, off a + S256x512.size a ≤ S1024x512.size a) (z : S256x512.Idx) :
    stripe (F := F) (x0 zero1) (x1 zero1) w b4 b5 b6 b7 b8 (xchunk xb r 0) (xchunk xb r 1) (xchunk xb r 2) (xchunk xb r 3) (xchunk xb r 4) (schunk sx r) z
      = outB (F := F) x0 x1 w b4 b5 b6 b7 b8 xb sx ((Rect.unit (s := S1024x512) off S256x512.size inb).emb z) := by
  subst hoff
  have z0 := (z 0).isLt
  have z1 := (z 1).isLt
  change (z 0).val < 256 at z0
  change (z 1).val < 512 at z1
  have e0 : ((((Rect.unit (s := S1024x512) ![256 * r, 0] S256x512.size inb).emb z) 0).val) = 256 * r + (z 0).val := by
    show 256 * r + 1 * (z 0).val = _
    omega
  have e1 : ((((Rect.unit (s := S1024x512) ![256 * r, 0] S256x512.size inb).emb z) 1).val) = (z 1).val := by
    show 0 + 1 * (z 1).val = _
    omega
  unfold outB
  rw [e0, e1, show (256 * r + (z 0).val) / 256 = r by omega, show (256 * r + (z 0).val) % 256 = (z 0).val by omega]
  congr 1
  funext a
  apply Fin.ext
  fin_cases a
  · exact (Nat.mod_eq_of_lt z0).symm
  · exact (Nat.mod_eq_of_lt z1).symm

/-- A stripe of 256 rows of the output contains the rows it should. -/
theorem mem_stripe11 (y : S1024x512.Idx) (r : ℕ) (hr : (y 0).val / 256 = r) (inb : ∀ a, (![256 * r, 0] : Fin 2 → ℕ) a + S256x512.size a ≤ S1024x512.size a) :
    y ∈ (Rect.unit (s := S1024x512) ![256 * r, 0] S256x512.size inb).set := by
  rw [Rect.mem_set_unit]
  have y1 : (y 1).val < 512 := (y 1).isLt
  intro a
  fin_cases a
  · show 256 * r ≤ (y 0).val ∧ (y 0).val < 256 * r + 256
    omega
  · show 0 ≤ (y 1).val ∧ (y 1).val < 0 + 512
    omega

/-- The four stores of stripes leave the output block. -/
theorem readOut (arg11 : Memref sig .tc .vmem S1024x512 .i8) (G : BufTy.Contents (Elt F) arg11.view.ty) (S : S1024x512.Idx → Elt F .i8) (w0 w1 w2 w3 : S256x512.Idx → Elt F .i8)
    (h0 : ∀ z, w0 z = S ((Rect.unit (s := S1024x512) ![0, 0] S256x512.size inb_S1024x512_S256x512_0_0).emb z))
    (h1 : ∀ z, w1 z = S ((Rect.unit (s := S1024x512) ![256, 0] S256x512.size inb_S1024x512_S256x512_256_0).emb z))
    (h2 : ∀ z, w2 z = S ((Rect.unit (s := S1024x512) ![512, 0] S256x512.size inb_S1024x512_S256x512_512_0).emb z))
    (h3 : ∀ z, w3 z = S ((Rect.unit (s := S1024x512) ![768, 0] S256x512.size inb_S1024x512_S256x512_768_0).emb z)) :
    arg11.view.read (Elt F) (arg11.view.writes (Elt F) G
      [⟨Rect.unit (s := S1024x512) ![768, 0] S256x512.size inb_S1024x512_S256x512_768_0, w3⟩,
       ⟨Rect.unit (s := S1024x512) ![512, 0] S256x512.size inb_S1024x512_S256x512_512_0, w2⟩,
       ⟨Rect.unit (s := S1024x512) ![256, 0] S256x512.size inb_S1024x512_S256x512_256_0, w1⟩,
       ⟨Rect.unit (s := S1024x512) ![0, 0] S256x512.size inb_S1024x512_S256x512_0_0, w0⟩]) = S := by
  funext y
  apply View.read_writes_apply_of_pieces
  · intro p hp
    simp only [List.mem_cons, List.not_mem_nil, or_false] at hp
    rcases hp with rfl | rfl | rfl | rfl
    · exact h3
    · exact h2
    · exact h1
    · exact h0
  · have y0 : (y 0).val < 1024 := (y 0).isLt
    have hr : (y 0).val / 256 = 0 ∨ (y 0).val / 256 = 1 ∨ (y 0).val / 256 = 2 ∨ (y 0).val / 256 = 3 := by omega
    rcases hr with hr | hr | hr | hr
    · exact ⟨_, List.mem_cons_of_mem _ (List.mem_cons_of_mem _ (List.mem_cons_of_mem _ List.mem_cons_self)), mem_stripe11 y 0 hr inb_S1024x512_S256x512_0_0⟩
    · exact ⟨_, List.mem_cons_of_mem _ (List.mem_cons_of_mem _ List.mem_cons_self), mem_stripe11 y 1 hr inb_S1024x512_S256x512_256_0⟩
    · exact ⟨_, List.mem_cons_of_mem _ List.mem_cons_self, mem_stripe11 y 2 hr inb_S1024x512_S256x512_512_0⟩
    · exact ⟨_, List.mem_cons_self, mem_stripe11 y 3 hr inb_S1024x512_S256x512_768_0⟩

/-- A load of 256 rows and 1024 columns of the operand. -/
theorem ld_xchunk (x : S1024x5120.Idx → Elt F .bf16) (off : Fin 2 → ℕ) (r k : ℕ) (hoff : off = ![256 * r, 1024 * k])
    (inb : ∀ a, off a + S256x1024.size a ≤ S1024x5120.size a) :
    View.ld x (Rect.unit (s := S1024x5120) off S256x1024.size inb) = xchunk x r k := by
  subst hoff
  funext z
  show x _ = x _
  congr 1
  funext a
  apply Fin.ext
  have h0 := inb 0
  have h1 := inb 1
  have z0 := (z 0).isLt
  have z1 := (z 1).isLt
  change 256 * r + 256 ≤ 1024 at h0
  change 1024 * k + 1024 ≤ 5120 at h1
  change (z 0).val < 256 at z0
  change (z 1).val < 1024 at z1
  fin_cases a
  · show 256 * r + 1 * (z 0).val = (256 * r + (z 0).val) % 1024
    omega
  · show 1024 * k + 1 * (z 1).val = (1024 * k + (z 1).val) % 5120
    omega

/-- A load of 256 rows of the row sums. -/
theorem ld_schunk (x : S1024x128.Idx → Elt F .i32) (off : Fin 2 → ℕ) (r : ℕ) (hoff : off = ![256 * r, 0])
    (inb : ∀ a, off a + S256x128.size a ≤ S1024x128.size a) :
    View.ld x (Rect.unit (s := S1024x128) off S256x128.size inb) = schunk x r := by
  subst hoff
  funext z
  show x _ = x _
  congr 1
  funext a
  apply Fin.ext
  have h0 := inb 0
  have z0 := (z 0).isLt
  have z1 := (z 1).isLt
  change 256 * r + 256 ≤ 1024 at h0
  change (z 0).val < 256 at z0
  change (z 1).val < 128 at z1
  fin_cases a
  · show 256 * r + 1 * (z 0).val = (256 * r + (z 0).val) % 1024
    omega
  · show 0 + 1 * (z 1).val = ((z 1).val) % 128
    omega

/-- A load of a whole row of per-column numbers. -/
theorem ld_b (x : S1x512.Idx → Elt F .i32) (inb : ∀ a, (![0, 0] : Fin 2 → ℕ) a + S1x512.size a ≤ S1x512.size a) :
    View.ld x (Rect.unit (s := S1x512) ![0, 0] S1x512.size inb) = x := by
  funext z
  show x _ = x _
  congr 1
  funext a
  apply Fin.ext
  fin_cases a
  · show 0 + 1 * (z 0).val = (z 0).val
    omega
  · show 0 + 1 * (z 1).val = (z 1).val
    omega

/-- A load of the whole weight block. -/
theorem ld_w (x : S5120x512.Idx → Elt F .i8) (inb : ∀ a, (![0, 0] : Fin 2 → ℕ) a + S5120x512.size a ≤ S5120x512.size a) :
    View.ld x (Rect.unit (s := S5120x512) ![0, 0] S5120x512.size inb) = x := by
  funext z
  show x _ = x _
  congr 1
  funext a
  apply Fin.ext
  fin_cases a
  · show 0 + 1 * (z 0).val = (z 0).val
    omega
  · show 0 + 1 * (z 1).val = (z 1).val
    omega

section Stripes
variable (v4 : Elt F .i32) (v22 v24 v26 v28 : IVec S1x512 32) (v34 : FVec F S5120x512 .bf16) (a b c d e : Vec F S256x1024 .bf16) (s : Vec F S256x128 .i32)

/-- The stripe's arithmetic as the kernel's second stripe spells it. -/
theorem stripe1_eq : k1_pay35 (F := F) v4 v28 (k1_pay34 (F := F) v22 v24 v26 (k1_pay33 (F := F) v34 a b c d e) s) 1#32
    = k1_pay32 (k1_pay31 v4 v26 v28 (k1_pay28 (F := F) v22 v24 v34 0#32 a b c d e s) (k1_pay29 v26) k1_pay30) := rfl

/-- The stripe's arithmetic as the kernel's third stripe spells it. -/
theorem stripe2_eq : k1_pay43 v4 v28 (k1_pay39 v26) (k1_pay40 (F := F) v22 v24 v34 (k1_pay36 (F := F) v34 a b c) (k1_pay37 (F := F) v34 d) e s)
      (k1_pay41 (F := F) v22 v24 v26 v34 (k1_pay36 (F := F) v34 a b c) (k1_pay37 (F := F) v34 d) e s) k1_pay42
    = k1_pay32 (k1_pay31 v4 v26 v28 (k1_pay28 (F := F) v22 v24 v34 0#32 a b c d e s) (k1_pay29 v26) k1_pay30) := rfl

/-- The stripe's arithmetic as the kernel's fourth stripe spells it. -/
theorem stripe3_eq : k1_pay1 v4 v28 (k1_pay48 v26)
      (k1_pay49 (F := F) v22 v24 v34 (k1_pay44 (F := F) v34 a b) c (k1_pay45 (F := F) v34) (constant S256x512 .f32 0x00000000#32) d e s)
      (k1_pay50 (F := F) v22 v24 v34 (k1_pay44 (F := F) v34 a b) c (k1_pay45 (F := F) v34) (constant S256x512 .f32 0x00000000#32) d e s)
      (k1_pay51 (F := F) v22 v24 v26 v34 (k1_pay44 (F := F) v34 a b) c (k1_pay45 (F := F) v34) (constant S256x512 .f32 0x00000000#32) d e s)
      (k1_pay52 (F := F) v22 v24 v26 v34 (k1_pay44 (F := F) v34 a b) c (k1_pay45 (F := F) v34) (constant S256x512 .f32 0x00000000#32) d e s)
    = k1_pay32 (k1_pay31 v4 v26 v28 (k1_pay28 (F := F) v22 v24 v34 0#32 a b c d e s) (k1_pay29 v26) k1_pay30) := rfl

end Stripes

section Body
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole)

/-- One grid step after its conditional part. -/
def step : Prog (TpuEff nD τ sig (Elt F) Λ₀ .tc) PUnit := do
  let ⟨v4, v22, v24, v26, v28, v34, c0_i32_15⟩ : Σ' (v4 : Elt F .i32) (v22 : IVec S1x512 32) (v24 : IVec S1x512 32) (v26 : IVec S1x512 32) (v28 : IVec S1x512 32) (v34 : FVec F S5120x512 .bf16), BitVec 32 ← part2r (F := F) i arg2 harg2 arg3 harg3 arg4 harg4 arg5 harg5 arg6 harg6 arg7 harg7 arg8 harg8 arg9 harg9 arg10 harg10 arg11 harg11 arg12 harg12 arg13 harg13
  let ⟨v72, v74, v75⟩ : Σ' (v72 : IVec S256x512 32) (v74 : IVec S1x512 32), IVec S1x512 32 ← k1_part3 i arg2 harg2 arg3 harg3 arg4 harg4 arg5 harg5 arg6 harg6 arg7 harg7 arg8 harg8 arg9 harg9 arg10 harg10 arg11 harg11 arg12 harg12 arg13 harg13 v22 v24 v26 v34 c0_i32_15
  let v121 : IVec S256x512 32 ← k1_part4 i arg2 harg2 arg3 harg3 arg4 harg4 arg5 harg5 arg6 harg6 arg7 harg7 arg8 harg8 arg9 harg9 arg10 harg10 arg11 harg11 arg12 harg12 arg13 harg13 v4 v26 v28 v72 v74 v75
  let v158 : IVec S256x512 32 ← k1_part5 i arg2 harg2 arg3 harg3 arg4 harg4 arg5 harg5 arg6 harg6 arg7 harg7 arg8 harg8 arg9 harg9 arg10 harg10 arg11 harg11 arg12 harg12 arg13 harg13 v34 v121
  let ⟨v204, c1_i32_70⟩ : Σ' (v204 : IVec S256x512 32), BitVec 32 ← k1_part6 i arg2 harg2 arg3 harg3 arg4 harg4 arg5 harg5 arg6 harg6 arg7 harg7 arg8 harg8 arg9 harg9 arg10 harg10 arg11 harg11 arg12 harg12 arg13 harg13 v22 v24 v26 v158
  let ⟨v239, v244⟩ : Σ' (v239 : IVec S256x512 32), IVec S256x512 32 ← k1_part7 i arg2 harg2 arg3 harg3 arg4 harg4 arg5 harg5 arg6 harg6 arg7 harg7 arg8 harg8 arg9 harg9 arg10 harg10 arg11 harg11 arg12 harg12 arg13 harg13 v4 v28 v34 v204 c1_i32_70
  let ⟨v269, v271, v287, v288⟩ : Σ' (v269 : IVec S1x512 32) (v271 : IVec S256x512 32) (v287 : IVec S256x512 32), IVec S1x512 32 ← k1_part8 i arg2 harg2 arg3 harg3 arg4 harg4 arg5 harg5 arg6 harg6 arg7 harg7 arg8 harg8 arg9 harg9 arg10 harg10 arg11 harg11 arg12 harg12 arg13 harg13 v22 v24 v26 v34 v239 v244
  let ⟨v326, v327, v328, cst_122⟩ : Σ' (v326 : IVec S256x512 32) (v327 : Vec F S256x1024 .bf16) (v328 : FVec F S1024x512 .bf16), FVec F S256x512 .f32 ← k1_part9 i arg2 harg2 arg3 harg3 arg4 harg4 arg5 harg5 arg6 harg6 arg7 harg7 arg8 harg8 arg9 harg9 arg10 harg10 arg11 harg11 arg12 harg12 arg13 harg13 v4 v28 v34 v269 v271 v287 v288
  let ⟨v362, v364, v366, v370, v372⟩ : Σ' (v362 : IVec S1x512 32) (v364 : IVec S256x512 32) (v366 : IVec S256x512 32) (v370 : IVec S256x512 32), IVec S256x512 32 ← k1_part10 i arg2 harg2 arg3 harg3 arg4 harg4 arg5 harg5 arg6 harg6 arg7 harg7 arg8 harg8 arg9 harg9 arg10 harg10 arg11 harg11 arg12 harg12 arg13 harg13 v22 v24 v26 v34 v326 v327 v328 cst_122
  let v406 : Vec F S256x512 .i8 ← Prog.lift (.load arg11 (Rect.unit (s := S1024x512) ![768, 0] S256x512.size inb_S1024x512_S256x512_768_0).toLoadRect (View.loadsAt_vmem h_S256x512))
  Prog.lift (.store arg11 (Rect.unit (s := S1024x512) ![768, 0] S256x512.size inb_S1024x512_S256x512_768_0) (k1_pay1 v4 v28 v362 v364 v366 v370 v372) Finset.univ (View.stores_vmem h_S256x512 (harg11.storeExact_slice rfl _ packedi8_S1024x512_S256x512_768_0) (fun _ => rfl)) (.inl rfl))
  pure ⟨⟩

/-- The second part of the body is the filling of the scratch buffers and then the rest. -/
theorem part2_split : k1_part2 (F := F) i arg2 harg2 arg3 harg3 arg4 harg4 arg5 harg5 arg6 harg6 arg7 harg7 arg8 harg8 arg9 harg9 arg10 harg10 arg11 harg11 arg12 harg12 arg13 harg13 = (fill (F := F) i arg2 harg2 arg3 harg3 arg4 harg4 arg5 harg5 arg6 harg6 arg7 harg7 arg8 harg8 arg9 harg9 arg10 harg10 arg11 harg11 arg12 harg12 arg13 harg13 >>= fun _ => part2r (F := F) i arg2 harg2 arg3 harg3 arg4 harg4 arg5 harg5 arg6 harg6 arg7 harg7 arg8 harg8 arg9 harg9 arg10 harg10 arg11 harg11 arg12 harg12 arg13 harg13) := by
  rw [k1_part2_eq_skeleton]
  unfold k1_part2_skel fill part2r
  by_cases h : k1_cond1 i = 1#1
  · simp only [dif_pos h]
    simp only [Prog.bind_assoc]
    rfl
  · simp only [dif_neg h]
    rfl

/-- A grid step is its conditional part, then the rest. -/
theorem main_split : cc1_main (F := F) i arg2 harg2 arg3 harg3 arg4 harg4 arg5 harg5 arg6 harg6 arg7 harg7 arg8 harg8 arg9 harg9 arg10 harg10 arg11 harg11 arg12 harg12 arg13 harg13 = (fill (F := F) i arg2 harg2 arg3 harg3 arg4 harg4 arg5 harg5 arg6 harg6 arg7 harg7 arg8 harg8 arg9 harg9 arg10 harg10 arg11 harg11 arg12 harg12 arg13 harg13 >>= fun _ => step (F := F) i arg2 harg2 arg3 harg3 arg4 harg4 arg5 harg5 arg6 harg6 arg7 harg7 arg8 harg8 arg9 harg9 arg10 harg10 arg11 harg11 arg12 harg12 arg13 harg13) := by
  rw [cc1_main_eq_skeleton]
  unfold cc1_main_skel step
  rw [part2_split, Prog.bind_assoc]

set_option maxHeartbeats 1000000 in
/-- One grid step after its conditional part, run: the inputs and the kept buffers stay, the output block is the stripes. -/
theorem step_wp (X2 : BufTy.Contents (Elt F) arg2.view.ty) (X3 : BufTy.Contents (Elt F) arg3.view.ty) (X5 : BufTy.Contents (Elt F) arg5.view.ty)
    (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) :
    iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) : sProp 𝕄)
    ⊢ wp frame (wpE (defs₀ (F := F)) Variants.none (c : Thread nD τ) none) Set.univ (step (F := F) i arg2 harg2 arg3 harg3 arg4 harg4 arg5 harg5 arg6 harg6 arg7 harg7 arg8 harg8 arg9 harg9 arg10 harg10 arg11 harg11 arg12 harg12 arg13 harg13)
      (fun _ => iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10)
        ∗ owns (c : Thread nD τ) arg11 fullShare (outB (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13))
        ∗ (arg12.view.loc (c : Thread nD τ) ↦[arg12.view.set]{fullShare} X12)
        ∗ (arg13.view.loc (c : Thread nD τ) ↦[arg13.view.set]{fullShare} X13))) := by
  unfold step owns
  simp only [k1_part3_eq_skeleton, k1_part4_eq_skeleton, k1_part5_eq_skeleton, k1_part6_eq_skeleton, k1_part7_eq_skeleton, k1_part8_eq_skeleton, k1_part9_eq_skeleton, k1_part10_eq_skeleton]
  unfold part2r
  iintro ⟨H2, H3, H5, H6, H7, H8, H9, H10, H11, H12, H13⟩
  sl_exec
  sl_step
  iframe
  iexists _
  isplitr [H11]
  rotate_left
  · iexact H11
  · ipureintro
    have E12 : ∀ (off : Fin 2 → ℕ) (r k : ℕ) (hoff : off = ![256 * r, 1024 * k]) (inb : ∀ a, off a + S256x1024.size a ≤ S1024x5120.size a),
        arg12.view.readAt (Elt F) (Rect.unit (s := S1024x5120) off S256x1024.size inb).toLoadRect X12 = xchunk (F := F) (arg12.view.read (Elt F) X12) r k :=
      fun off r k hoff inb => ld_xchunk (F := F) _ off r k hoff inb
    have E13 : ∀ (off : Fin 2 → ℕ) (r : ℕ) (hoff : off = ![256 * r, 0]) (inb : ∀ a, off a + S256x128.size a ≤ S1024x128.size a),
        arg13.view.readAt (Elt F) (Rect.unit (s := S1024x128) off S256x128.size inb).toLoadRect X13 = schunk (F := F) (arg13.view.read (Elt F) X13) r :=
      fun off r hoff inb => ld_schunk (F := F) _ off r hoff inb
    have B2 : step_wp.sl.r (F := F) arg2 X2 = arg2.view.read (Elt F) X2 zero1 := by
      show arg2.view.read (Elt F) X2 _ = _
      congr 1
      funext a
      apply Fin.ext
      fin_cases a
      rfl
    have B3 : step_wp.sl.r_1 (F := F) arg3 X3 = arg3.view.read (Elt F) X3 zero1 := by
      show arg3.view.read (Elt F) X3 _ = _
      congr 1
      funext a
      apply Fin.ext
      fin_cases a
      rfl
    have B5 : arg5.view.readAt (Elt F) (Rect.unit (s := S5120x512) ![0, 0] S5120x512.size inb_S5120x512_S5120x512_0_0).toLoadRect X5 = arg5.view.read (Elt F) X5 :=
      ld_w (F := F) _ _
    have B6 : arg6.view.readAt (Elt F) (Rect.unit (s := S1x512) ![0, 0] S1x512.size inb_S1x512_S1x512_0_0).toLoadRect X6 = arg6.view.read (Elt F) X6 :=
      ld_b (F := F) _ _
    have B7 : arg7.view.readAt (Elt F) (Rect.unit (s := S1x512) ![0, 0] S1x512.size inb_S1x512_S1x512_0_0).toLoadRect X7 = arg7.view.read (Elt F) X7 :=
      ld_b (F := F) _ _
    have B8 : arg8.view.readAt (Elt F) (Rect.unit (s := S1x512) ![0, 0] S1x512.size inb_S1x512_S1x512_0_0).toLoadRect X8 = arg8.view.read (Elt F) X8 :=
      ld_b (F := F) _ _
    have B9 : arg9.view.readAt (Elt F) (Rect.unit (s := S1x512) ![0, 0] S1x512.size inb_S1x512_S1x512_0_0).toLoadRect X9 = arg9.view.read (Elt F) X9 :=
      ld_b (F := F) _ _
    have B10 : arg10.view.readAt (Elt F) (Rect.unit (s := S1x512) ![0, 0] S1x512.size inb_S1x512_S1x512_0_0).toLoadRect X10 = arg10.view.read (Elt F) X10 :=
      ld_b (F := F) _ _
    refine readOut arg11 X11 _ _ _ _ _ ?_ ?_ ?_ ?_
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![0, 0] 0 rfl inb_S1024x512_S256x512_0_0 z)
      refine congrFun ?_ z
      rw [← E12 ![0, 0] 0 0 rfl inb_S1024x5120_S256x1024_0_0, ← E12 ![0, 1024] 0 1 rfl inb_S1024x5120_S256x1024_0_1024, ← E12 ![0, 2048] 0 2 rfl inb_S1024x5120_S256x1024_0_2048, ← E12 ![0, 3072] 0 3 rfl inb_S1024x5120_S256x1024_0_3072, ← E12 ![0, 4096] 0 4 rfl inb_S1024x5120_S256x1024_0_4096,
        ← E13 ![0, 0] 0 rfl inb_S1024x128_S256x128_0_0, ← B2, ← B3, ← B5, ← B6, ← B7, ← B8, ← B9, ← B10]
      unfold stripe
      rfl
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![256, 0] 1 rfl inb_S1024x512_S256x512_256_0 z)
      refine congrFun ?_ z
      rw [← E12 ![256, 0] 1 0 rfl inb_S1024x5120_S256x1024_256_0, ← E12 ![256, 1024] 1 1 rfl inb_S1024x5120_S256x1024_256_1024, ← E12 ![256, 2048] 1 2 rfl inb_S1024x5120_S256x1024_256_2048, ← E12 ![256, 3072] 1 3 rfl inb_S1024x5120_S256x1024_256_3072, ← E12 ![256, 4096] 1 4 rfl inb_S1024x5120_S256x1024_256_4096,
        ← E13 ![256, 0] 1 rfl inb_S1024x128_S256x128_256_0, ← B2, ← B3, ← B5, ← B6, ← B7, ← B8, ← B9, ← B10]
      unfold stripe
      exact stripe1_eq (F := F) _ _ _ _ _ _ _ _ _ _ _ _
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![512, 0] 2 rfl inb_S1024x512_S256x512_512_0 z)
      refine congrFun ?_ z
      rw [← E12 ![512, 0] 2 0 rfl inb_S1024x5120_S256x1024_512_0, ← E12 ![512, 1024] 2 1 rfl inb_S1024x5120_S256x1024_512_1024, ← E12 ![512, 2048] 2 2 rfl inb_S1024x5120_S256x1024_512_2048, ← E12 ![512, 3072] 2 3 rfl inb_S1024x5120_S256x1024_512_3072, ← E12 ![512, 4096] 2 4 rfl inb_S1024x5120_S256x1024_512_4096,
        ← E13 ![512, 0] 2 rfl inb_S1024x128_S256x128_512_0, ← B2, ← B3, ← B5, ← B6, ← B7, ← B8, ← B9, ← B10]
      unfold stripe
      exact stripe2_eq (F := F) _ _ _ _ _ _ _ _ _ _ _ _
    · intro z
      refine Eq.trans ?_ (outB_emb (F := F) (arg2.view.read (Elt F) X2) (arg3.view.read (Elt F) X3) (arg5.view.read (Elt F) X5) (arg6.view.read (Elt F) X6) (arg7.view.read (Elt F) X7) (arg8.view.read (Elt F) X8) (arg9.view.read (Elt F) X9) (arg10.view.read (Elt F) X10) (arg12.view.read (Elt F) X12) (arg13.view.read (Elt F) X13) ![768, 0] 3 rfl inb_S1024x512_S256x512_768_0 z)
      refine congrFun ?_ z
      rw [← E12 ![768, 0] 3 0 rfl inb_S1024x5120_S256x1024_768_0, ← E12 ![768, 1024] 3 1 rfl inb_S1024x5120_S256x1024_768_1024, ← E12 ![768, 2048] 3 2 rfl inb_S1024x5120_S256x1024_768_2048, ← E12 ![768, 3072] 3 3 rfl inb_S1024x5120_S256x1024_768_3072, ← E12 ![768, 4096] 3 4 rfl inb_S1024x5120_S256x1024_768_4096,
        ← E13 ![768, 0] 3 rfl inb_S1024x128_S256x128_768_0, ← B2, ← B3, ← B5, ← B6, ← B7, ← B8, ← B9, ← B10]
      unfold stripe
      exact stripe3_eq (F := F) _ _ _ _ _ _ _ _ _ _ _ _

end Body

end Cert.KernelIdeal.Own

end
-- ==== Proof.KernelIdeal.Point.lean ====
module

public import proofs.«01_k».proof.Proof.KernelIdeal.Body

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Point
variable (c : Dev nD) (i : grid1.Coords) (arg2 : Memref sig .tc .smem S1 .i32) (harg2 : arg2.IsWhole) (arg3 : Memref sig .tc .smem S1 .i32) (harg3 : arg3.IsWhole) (arg4 : Memref sig .tc .vmem S1024x5120 .i8) (harg4 : arg4.IsWhole) (arg5 : Memref sig .tc .vmem S5120x512 .i8) (harg5 : arg5.IsWhole)
  (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole)
  (arg10 : Memref sig .tc .vmem S1x512 .i32) (harg10 : arg10.IsWhole) (arg11 : Memref sig .tc .vmem S1024x512 .i8) (harg11 : arg11.IsWhole) (arg12 : Memref sig .tc .vmem S1024x5120 .bf16) (harg12 : arg12.IsWhole) (arg13 : Memref sig .tc .vmem S1024x128 .i32) (harg13 : arg13.IsWhole)
  (x2 : S1.Idx → Elt F .i32) (x3 : S1.Idx → Elt F .i32) (x4 : S1024x5120.Idx → Elt F .i8) (x5 : S5120x512.Idx → Elt F .i8) (x6 : S1x512.Idx → Elt F .i32) (x7 : S1x512.Idx → Elt F .i32) (x8 : S1x512.Idx → Elt F .i32) (x9 : S1x512.Idx → Elt F .i32) (x10 : S1x512.Idx → Elt F .i32) (d12 : S1024x5120.Idx → Elt F .bf16) (d13 : S1024x128.Idx → Elt F .i32)

/-- One grid step after its conditional part, at owned contents. -/
theorem step_owns :
    (iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare d12 ∗ owns (c : Thread nD τ) arg13 fullShare d13) : sProp 𝕄)
    ⊢ wp frame (wpE (defs₀ (F := F)) Variants.none (c : Thread nD τ) none) Set.univ (step (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB (F := F) x2 x3 x5 x6 x7 x8 x9 x10 d12 d13) ∗ owns (c : Thread nD τ) arg12 fullShare d12 ∗ owns (c : Thread nD τ) arg13 fullShare d13)) := by
  unfold owns
  iintro ⟨⟨%f2, %h2, H2⟩, ⟨%f3, %h3, H3⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%f12, %h12, H12⟩, ⟨%f13, %h13, H13⟩⟩
  subst h2
  subst h3
  subst h5
  subst h6
  subst h7
  subst h8
  subst h9
  subst h10
  subst h12
  subst h13
  iapply (wp_wand_r frame _ Set.univ)
  isplitl [H2 H3 H5 H6 H7 H8 H9 H10 H11 H12 H13]
  · iapply (step_wp (F := F) c i arg2 harg2 arg3 harg3 arg4 harg4 arg5 harg5 arg6 harg6 arg7 harg7 arg8 harg8 arg9 harg9 arg10 harg10 arg11 harg11 arg12 harg12 arg13 harg13 f2 f3 f5 f6 f7 f8 f9 f10 f11 f12 f13)
    iframe
  · iintro %_ ⟨H2, H3, H5, H6, H7, H8, H9, H10, H11, H12, H13⟩
    isplitl [H2]
    · iexists _; isplitr
      swap; · iexact H2
      ipureintro; rfl
    isplitl [H3]
    · iexists _; isplitr
      swap; · iexact H3
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; isplitr
      swap; · iexact H10
      ipureintro; rfl
    unfold owns
    isplitl [H11]; · iexact H11
    isplitl [H12]
    · iexists _; isplitr
      swap; · iexact H12
      ipureintro; rfl
    iexists _; isplitr
    swap; · iexact H13
    ipureintro; rfl

/-- The conditional part at owned contents. -/
theorem fill_owns (h1 : k1_cond1 i = 1#1) :
    (iprop(owns (c : Thread nD τ) arg4 fullShare x4 ∗ owns (c : Thread nD τ) arg12 fullShare d12 ∗ owns (c : Thread nD τ) arg13 fullShare d13) : sProp 𝕄)
    ⊢ wp frame (wpE (defs₀ (F := F)) Variants.none (c : Thread nD τ) none) Set.univ (fill (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg4 fullShare x4 ∗ owns (c : Thread nD τ) arg12 fullShare (XB (F := F) x4) ∗ owns (c : Thread nD τ) arg13 fullShare (SX (F := F) x4))) := by
  unfold owns
  iintro ⟨⟨%f4, %h4, H4⟩, ⟨%f12, %h12, H12⟩, ⟨%f13, %h13, H13⟩⟩
  subst h4
  iapply (wp_wand_r frame _ Set.univ)
  isplitl [H4 H12 H13]
  · iapply (fill_wp (F := F) c i arg2 harg2 arg3 harg3 arg4 harg4 arg5 harg5 arg6 harg6 arg7 harg7 arg8 harg8 arg9 harg9 arg10 harg10 arg11 harg11 arg12 harg12 arg13 harg13 h1 f4 f12 f13)
    iframe
  · iintro %_ ⟨H4, H12, H13⟩
    isplitl [H4]
    · iexists _; isplitr
      swap; · iexact H4
      ipureintro; rfl
    unfold owns
    isplitl [H12]; · iexact H12
    iexact H13

/-- A grid step at the first column block of a row block. -/
theorem main_first (h1 : k1_cond1 i = 1#1) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare d12 ∗ owns (c : Thread nD τ) arg13 fullShare d13) : sProp 𝕄)
    ⊢ wp frame (wpE (defs₀ (F := F)) Variants.none (c : Thread nD τ) none) Set.univ (cc1_main (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB (F := F) x2 x3 x5 x6 x7 x8 x9 x10 (XB (F := F) x4) (SX (F := F) x4)) ∗ owns (c : Thread nD τ) arg12 fullShare (XB (F := F) x4) ∗ owns (c : Thread nD τ) arg13 fullShare (SX (F := F) x4))) := by
  rw [main_split, wp_bind]
  iintro ⟨H2, H3, H4, H5, H6, H7, H8, H9, H10, H11, H12, H13⟩
  iapply (wp_wand_r frame _ Set.univ)
  isplitl [H4 H12 H13]
  · iapply (fill_owns (F := F) c i arg2 harg2 arg3 harg3 arg4 harg4 arg5 harg5 arg6 harg6 arg7 harg7 arg8 harg8 arg9 harg9 arg10 harg10 arg11 harg11 arg12 harg12 arg13 harg13 x4 d12 d13 h1)
    iframe
  · iintro %_ ⟨H4, H12, H13⟩
    iapply (wp_wand_r frame _ Set.univ)
    isplitl [H2 H3 H5 H6 H7 H8 H9 H10 H11 H12 H13]
    · iapply (step_owns (F := F) c i arg2 harg2 arg3 harg3 arg4 harg4 arg5 harg5 arg6 harg6 arg7 harg7 arg8 harg8 arg9 harg9 arg10 harg10 arg11 harg11 arg12 harg12 arg13 harg13 x2 x3 x5 x6 x7 x8 x9 x10 (XB (F := F) x4) (SX (F := F) x4))
      iframe
    · iintro %_ ⟨H2, H3, H5, H6, H7, H8, H9, H10, H11, H12, H13⟩
      iframe

/-- A grid step at a later column block: the kept buffers are as the first one left them. -/
theorem main_later (h1 : ¬ k1_cond1 i = 1#1) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare d12 ∗ owns (c : Thread nD τ) arg13 fullShare d13) : sProp 𝕄)
    ⊢ wp frame (wpE (defs₀ (F := F)) Variants.none (c : Thread nD τ) none) Set.univ (cc1_main (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB (F := F) x2 x3 x5 x6 x7 x8 x9 x10 d12 d13) ∗ owns (c : Thread nD τ) arg12 fullShare d12 ∗ owns (c : Thread nD τ) arg13 fullShare d13)) := by
  have hf : fill (F := F) i arg2 harg2 arg3 harg3 arg4 harg4 arg5 harg5 arg6 harg6 arg7 harg7 arg8 harg8 arg9 harg9 arg10 harg10 arg11 harg11 arg12 harg12 arg13 harg13 = pure ⟨⟩ := by
    unfold fill
    simp only [dif_neg h1]
  rw [main_split, hf]
  show _ ⊢ wp frame (wpE (defs₀ (F := F)) Variants.none (c : Thread nD τ) none) Set.univ (step (F := F) i arg2 harg2 arg3 harg3 arg4 harg4 arg5 harg5 arg6 harg6 arg7 harg7 arg8 harg8 arg9 harg9 arg10 harg10 arg11 harg11 arg12 harg12 arg13 harg13) _
  iintro ⟨H2, H3, H4, H5, H6, H7, H8, H9, H10, H11, H12, H13⟩
  iapply (wp_wand_r frame _ Set.univ)
  isplitl [H2 H3 H5 H6 H7 H8 H9 H10 H11 H12 H13]
  · iapply (step_owns (F := F) c i arg2 harg2 arg3 harg3 arg4 harg4 arg5 harg5 arg6 harg6 arg7 harg7 arg8 harg8 arg9 harg9 arg10 harg10 arg11 harg11 arg12 harg12 arg13 harg13 x2 x3 x5 x6 x7 x8 x9 x10 d12 d13)
    iframe
  · iintro %_ ⟨H2, H3, H5, H6, H7, H8, H9, H10, H11, H12, H13⟩
    iframe

end Point

end Cert.KernelIdeal.Own

end
-- ==== Proof.KernelIdeal.Region.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Point
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_wsum` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5120x512 := Rect.unit (s := S5120x512) ![0, 0] S128x512.size inb_S5120x512_S128x512_0_0
abbrev r0_1 : Rect S5120x512 := Rect.unit (s := S5120x512) ![128, 0] S128x512.size inb_S5120x512_S128x512_128_0
abbrev r0_2 : Rect S5120x512 := Rect.unit (s := S5120x512) ![256, 0] S128x512.size inb_S5120x512_S128x512_256_0
abbrev r0_3 : Rect S5120x512 := Rect.unit (s := S5120x512) ![384, 0] S128x512.size inb_S5120x512_S128x512_384_0
abbrev r0_4 : Rect S5120x512 := Rect.unit (s := S5120x512) ![512, 0] S128x512.size inb_S5120x512_S128x512_512_0
abbrev r0_5 : Rect S5120x512 := Rect.unit (s := S5120x512) ![640, 0] S128x512.size inb_S5120x512_S128x512_640_0
abbrev r0_6 : Rect S5120x512 := Rect.unit (s := S5120x512) ![768, 0] S128x512.size inb_S5120x512_S128x512_768_0
abbrev r0_7 : Rect S5120x512 := Rect.unit (s := S5120x512) ![896, 0] S128x512.size inb_S5120x512_S128x512_896_0
abbrev r0_8 : Rect S5120x512 := Rect.unit (s := S5120x512) ![1024, 0] S128x512.size inb_S5120x512_S128x512_1024_0
abbrev r0_9 : Rect S5120x512 := Rect.unit (s := S5120x512) ![1152, 0] S128x512.size inb_S5120x512_S128x512_1152_0
abbrev r0_10 : Rect S5120x512 := Rect.unit (s := S5120x512) ![1280, 0] S128x512.size inb_S5120x512_S128x512_1280_0
abbrev r0_11 : Rect S5120x512 := Rect.unit (s := S5120x512) ![1408, 0] S128x512.size inb_S5120x512_S128x512_1408_0
abbrev r0_12 : Rect S5120x512 := Rect.unit (s := S5120x512) ![1536, 0] S128x512.size inb_S5120x512_S128x512_1536_0
abbrev r0_13 : Rect S5120x512 := Rect.unit (s := S5120x512) ![1664, 0] S128x512.size inb_S5120x512_S128x512_1664_0
abbrev r0_14 : Rect S5120x512 := Rect.unit (s := S5120x512) ![1792, 0] S128x512.size inb_S5120x512_S128x512_1792_0
abbrev r0_15 : Rect S5120x512 := Rect.unit (s := S5120x512) ![1920, 0] S128x512.size inb_S5120x512_S128x512_1920_0
abbrev r0_16 : Rect S5120x512 := Rect.unit (s := S5120x512) ![2048, 0] S128x512.size inb_S5120x512_S128x512_2048_0
abbrev r0_17 : Rect S5120x512 := Rect.unit (s := S5120x512) ![2176, 0] S128x512.size inb_S5120x512_S128x512_2176_0
abbrev r0_18 : Rect S5120x512 := Rect.unit (s := S5120x512) ![2304, 0] S128x512.size inb_S5120x512_S128x512_2304_0
abbrev r0_19 : Rect S5120x512 := Rect.unit (s := S5120x512) ![2432, 0] S128x512.size inb_S5120x512_S128x512_2432_0
abbrev r0_20 : Rect S5120x512 := Rect.unit (s := S5120x512) ![2560, 0] S128x512.size inb_S5120x512_S128x512_2560_0
abbrev r0_21 : Rect S5120x512 := Rect.unit (s := S5120x512) ![2688, 0] S128x512.size inb_S5120x512_S128x512_2688_0
abbrev r0_22 : Rect S5120x512 := Rect.unit (s := S5120x512) ![2816, 0] S128x512.size inb_S5120x512_S128x512_2816_0
abbrev r0_23 : Rect S5120x512 := Rect.unit (s := S5120x512) ![2944, 0] S128x512.size inb_S5120x512_S128x512_2944_0
abbrev r0_24 : Rect S5120x512 := Rect.unit (s := S5120x512) ![3072, 0] S128x512.size inb_S5120x512_S128x512_3072_0
abbrev r0_25 : Rect S5120x512 := Rect.unit (s := S5120x512) ![3200, 0] S128x512.size inb_S5120x512_S128x512_3200_0
abbrev r0_26 : Rect S5120x512 := Rect.unit (s := S5120x512) ![3328, 0] S128x512.size inb_S5120x512_S128x512_3328_0
abbrev r0_27 : Rect S5120x512 := Rect.unit (s := S5120x512) ![3456, 0] S128x512.size inb_S5120x512_S128x512_3456_0
abbrev r0_28 : Rect S5120x512 := Rect.unit (s := S5120x512) ![3584, 0] S128x512.size inb_S5120x512_S128x512_3584_0
abbrev r0_29 : Rect S5120x512 := Rect.unit (s := S5120x512) ![3712, 0] S128x512.size inb_S5120x512_S128x512_3712_0
abbrev r0_30 : Rect S5120x512 := Rect.unit (s := S5120x512) ![3840, 0] S128x512.size inb_S5120x512_S128x512_3840_0
abbrev r0_31 : Rect S5120x512 := Rect.unit (s := S5120x512) ![3968, 0] S128x512.size inb_S5120x512_S128x512_3968_0
abbrev r0_32 : Rect S5120x512 := Rect.unit (s := S5120x512) ![4096, 0] S128x512.size inb_S5120x512_S128x512_4096_0
abbrev r0_33 : Rect S5120x512 := Rect.unit (s := S5120x512) ![4224, 0] S128x512.size inb_S5120x512_S128x512_4224_0
abbrev r0_34 : Rect S5120x512 := Rect.unit (s := S5120x512) ![4352, 0] S128x512.size inb_S5120x512_S128x512_4352_0
abbrev r0_35 : Rect S5120x512 := Rect.unit (s := S5120x512) ![4480, 0] S128x512.size inb_S5120x512_S128x512_4480_0
abbrev r0_36 : Rect S5120x512 := Rect.unit (s := S5120x512) ![4608, 0] S128x512.size inb_S5120x512_S128x512_4608_0
abbrev r0_37 : Rect S5120x512 := Rect.unit (s := S5120x512) ![4736, 0] S128x512.size inb_S5120x512_S128x512_4736_0
abbrev r0_38 : Rect S5120x512 := Rect.unit (s := S5120x512) ![4864, 0] S128x512.size inb_S5120x512_S128x512_4864_0
abbrev r0_39 : Rect S5120x512 := Rect.unit (s := S5120x512) ![4992, 0] S128x512.size inb_S5120x512_S128x512_4992_0
abbrev r0_40 : Rect S1x512 := Rect.unit (s := S1x512) ![0, 0] S1x512.size inb_S1x512_S1x512_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S5120x512 .i8) : Vec F S1x512 .i32 :=
  View.canon [⟨r0_40, k0_pay1 (k0_pay4 (k0_pay3 (k0_pay2 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9) (View.ld x0 r0_10)) (View.ld x0 r0_11) (View.ld x0 r0_12) (View.ld x0 r0_13) (View.ld x0 r0_14) (View.ld x0 r0_15) (View.ld x0 r0_16) (View.ld x0 r0_17) (View.ld x0 r0_18) (View.ld x0 r0_19) (View.ld x0 r0_20) (View.ld x0 r0_21) (View.ld x0 r0_22)) (View.ld x0 r0_23) (View.ld x0 r0_24) (View.ld x0 r0_25) (View.ld x0 r0_26) (View.ld x0 r0_27) (View.ld x0 r0_28) (View.ld x0 r0_29) (View.ld x0 r0_30) (View.ld x0 r0_31) (View.ld x0 r0_32) (View.ld x0 r0_33) (View.ld x0 r0_34)) (View.ld x0 r0_35) (View.ld x0 r0_36) (View.ld x0 r0_37) (View.ld x0 r0_38) (View.ld x0 r0_39)⟩]

/-- Its stores tile the buffer (checked by evaluation), so they cover it. -/
theorem cover0_1 (p0 : Vec F S1x512 .i32) (y : S1x512.Idx) :
    ∃ pc ∈ ([⟨r0_40, p0⟩] : List (View.Piece (Elt F) S1x512 .i32)), y ∈ pc.1.set :=
  View.cover_of_tiled [⟨r0_40, p0⟩] S1x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S5120x512 .i8) (harg1 : arg1.IsWhole) (arg2 : Memref sig .tc .vmem S1x512 .i32) (harg2 : arg2.IsWhole)
    (x0 : Vec F S5120x512 .i8) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_wsum i arg1 harg1 arg2 harg2) K := by
  simp only [cc0_wsum_eq_skeleton]; unfold cc0_wsum_skel
  simp only [k0_part1_eq_skeleton, k0_part2_eq_skeleton, k0_part3_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body of region 0 leaves in the block of window 1. -/
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_main` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Each window's current staging memref at point `t`, spelled as the pipeline passes it (`bodyAt1`), and its wholeness. -/
abbrev ms1_0 (t : Fin cfg1.N) : Memref sig .tc .smem S1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x5120 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5120x512 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .i32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512 .i32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x512 .i8 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S1024x5120 .bf16 := Memref.whole cc1_scratch0
abbrev scM1_1 : Memref sig .tc .vmem S1024x128 .i32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The second kernel's branch condition holds at the points at the start of a row block. -/
theorem hcond1 : ∀ t : Fin cfg1.N, k1_cond1 (grid1.coords t) = 1#1 ↔ t.val % 54 = 0 :=
  (fun t => by
    have ht : t.val < 864 := Nat.lt_of_lt_of_eq t.isLt N_1
    have e0 : (grid1.coords t 0).val = t.val / 54 % 16 := Pipeline.Grid.coords_val t 0 (by decide) rfl
    have e1 : (grid1.coords t 1).val = t.val / 1 % 54 := Pipeline.Grid.coords_val t 1 (by decide) rfl
    simp only [k1_cond1, e0, e1]
    word_cmp
   : ∀ t : Fin grid1.N, k1_cond1 (grid1.coords t) = 1#1 ↔ t.val % 54 = 0)

/-- What the second kernel leaves in its output block at a point. -/
def outsAt1 (c : Dev nD) (t : Fin cfg1.N) : Vec F S1024x512 .i8 :=
  outB (F := F) (iblk1 V c 0 t) (iblk1 V c 1 t) (iblk1 V c 3 t) (iblk1 V c 4 t) (iblk1 V c 5 t) (iblk1 V c 6 t) (iblk1 V c 7 t) (iblk1 V c 8 t)
    (XB (F := F) (iblk1 V c 2 t)) (SX (F := F) (iblk1 V c 2 t))

/-- What is kept between points: the kept buffers hold what the previous point's block of the left operand gives. -/
def Phi1 (c : Dev nD) (s : Fin (cfg1.N + 1)) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ (a : S1024x5120.Idx → Elt F .bf16) (b : S1024x128.Idx → Elt F .i32), ⌜∀ t : Fin cfg1.N, t.val + 1 = s.val → a = XB (F := F) (iblk1 V c 2 t) ∧ b = SX (F := F) (iblk1 V c 2 t)⌝
        ∗ owns (c : Thread nD τ) scM1_0 fullShare a ∗ owns (c : Thread nD τ) scM1_1 fullShare b)) ∗ (∃ r, prngReg c r))

/-- The kept invariant at the first point follows from the buffers at any contents. -/
theorem Phi1_in (c : Dev nD) : (Pipeline.ΦA spec1 c : sProp 𝕄) ⊢ Phi1 V c 0 := by
  rw [PhiA1_eq]; unfold Phi1
  iintro ⟨⟨HR0, HR1, HR2, HR3, ⟨%a, HS0⟩, ⟨%b, HS1⟩⟩, Hg⟩
  isplitl [HR0 HR1 HR2 HR3 HS0 HS1]
  · isplitl [HR0]; · iexact HR0
    isplitl [HR1]; · iexact HR1
    isplitl [HR2]; · iexact HR2
    isplitl [HR3]; · iexact HR3
    iexists a, b
    isplitr
    · ipureintro
      intro t ht
      exact absurd ht (Nat.succ_ne_zero _)
    isplitl [HS0]; · iexact HS0
    iexact HS1
  iexact Hg

/-- The kept invariant gives the buffers back at some contents. -/
theorem Phi1_out (c : Dev nD) (s : Fin (cfg1.N + 1)) : Phi1 V c s ⊢ (Pipeline.ΦA spec1 c : sProp 𝕄) := by
  rw [PhiA1_eq]; unfold Phi1
  iintro ⟨⟨HR0, HR1, HR2, HR3, ⟨%a, %b, -, HS0, HS1⟩⟩, Hg⟩
  isplitl [HR0 HR1 HR2 HR3 HS0 HS1]
  · isplitl [HR0]; · iexact HR0
    isplitl [HR1]; · iexact HR1
    isplitl [HR2]; · iexact HR2
    isplitl [HR3]; · iexact HR3
    isplitl [HS0]; · iexists a; iexact HS0
    iexists b; iexact HS1
  iexact Hg

/-- The second pipeline's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t)
  Φ s := Phi1 V c s
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the body of region 1 leaves in the block of window 1. -/
theorem after1_1 (c : Dev nD) (t : Fin cfg1.N) : (dat1 V c).after 1 t = iblk1 V c 1 t := by dsimp only [dat1]
/-- What the body of region 1 leaves in the block of window 2. -/
theorem after1_2 (c : Dev nD) (t : Fin cfg1.N) : (dat1 V c).after 2 t = iblk1 V c 2 t := by dsimp only [dat1]
/-- What the body of region 1 leaves in the block of window 3. -/
theorem after1_3 (c : Dev nD) (t : Fin cfg1.N) : (dat1 V c).after 3 t = iblk1 V c 3 t := by dsimp only [dat1]
/-- What the body of region 1 leaves in the block of window 4. -/
theorem after1_4 (c : Dev nD) (t : Fin cfg1.N) : (dat1 V c).after 4 t = iblk1 V c 4 t := by dsimp only [dat1]
/-- What the body of region 1 leaves in the block of window 5. -/
theorem after1_5 (c : Dev nD) (t : Fin cfg1.N) : (dat1 V c).after 5 t = iblk1 V c 5 t := by dsimp only [dat1]
/-- What the body of region 1 leaves in the block of window 6. -/
theorem after1_6 (c : Dev nD) (t : Fin cfg1.N) : (dat1 V c).after 6 t = iblk1 V c 6 t := by dsimp only [dat1]
/-- What the body of region 1 leaves in the block of window 7. -/
theorem after1_7 (c : Dev nD) (t : Fin cfg1.N) : (dat1 V c).after 7 t = iblk1 V c 7 t := by dsimp only [dat1]
/-- What the body of region 1 leaves in the block of window 8. -/
theorem after1_8 (c : Dev nD) (t : Fin cfg1.N) : (dat1 V c).after 8 t = iblk1 V c 8 t := by dsimp only [dat1]
/-- What the body of region 1 leaves in the block of window 9. -/
theorem after1_9 (c : Dev nD) (t : Fin cfg1.N) : (dat1 V c).after 9 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body of region 1 finds in the block of window 1. -/
theorem before1_1 (c : Dev nD) (t : Fin cfg1.N) (d) : (dat1 V c).before 1 t d = iblk1 V c 1 t :=
  before1_1_of V (dat1 V c) (A_eq1 V c 1) (after1_1 V c) t d
/-- What the body of region 1 finds in the block of window 2. -/
theorem before1_2 (c : Dev nD) (t : Fin cfg1.N) (d) : (dat1 V c).before 2 t d = iblk1 V c 2 t :=
  before1_2_of V (dat1 V c) (A_eq1 V c 2) (after1_2 V c) t d
/-- What the body of region 1 finds in the block of window 3. -/
theorem before1_3 (c : Dev nD) (t : Fin cfg1.N) (d) : (dat1 V c).before 3 t d = iblk1 V c 3 t :=
  before1_3_of V (dat1 V c) (A_eq1 V c 3) (after1_3 V c) t d
/-- What the body of region 1 finds in the block of window 4. -/
theorem before1_4 (c : Dev nD) (t : Fin cfg1.N) (d) : (dat1 V c).before 4 t d = iblk1 V c 4 t :=
  before1_4_of V (dat1 V c) (A_eq1 V c 4) (after1_4 V c) t d
/-- What the body of region 1 finds in the block of window 5. -/
theorem before1_5 (c : Dev nD) (t : Fin cfg1.N) (d) : (dat1 V c).before 5 t d = iblk1 V c 5 t :=
  before1_5_of V (dat1 V c) (A_eq1 V c 5) (after1_5 V c) t d
/-- What the body of region 1 finds in the block of window 6. -/
theorem before1_6 (c : Dev nD) (t : Fin cfg1.N) (d) : (dat1 V c).before 6 t d = iblk1 V c 6 t :=
  before1_6_of V (dat1 V c) (A_eq1 V c 6) (after1_6 V c) t d
/-- What the body of region 1 finds in the block of window 7. -/
theorem before1_7 (c : Dev nD) (t : Fin cfg1.N) (d) : (dat1 V c).before 7 t d = iblk1 V c 7 t :=
  before1_7_of V (dat1 V c) (A_eq1 V c 7) (after1_7 V c) t d
/-- What the body of region 1 finds in the block of window 8. -/
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

/-- Away from the start of a row block the left operand's block is the previous point's. -/
theorem iblk1_2_prev (c : Dev nD) (t : Fin cfg1.N) (h : t.val % 54 ≠ 0) : ∃ t' : Fin cfg1.N, t'.val + 1 = t.val ∧ iblk1 V c 2 t' = iblk1 V c 2 t := by
  have hf : (cfg1.win 2).fetch t = false := by
    rw [← Bool.not_eq_true]
    exact fun e => h ((fetch1_2 t).mp e)
  obtain ⟨h0, hix⟩ := (cfg1.win 2).index_eq_of_fetch rfl t hf
  have h1 : ∀ t : Fin cfg1.N, ∀ d, (dat1 V c).fetched 2 t d = iblk1 V c 2 t := fun t d => by
    unfold Dat.fetched Dat.blockOf iblk1; rw [A_eq1]; try rfl
  refine ⟨⟨t.val - 1, Nat.lt_of_le_of_lt (Nat.sub_le _ _) t.isLt⟩, by show t.val - 1 + 1 = t.val; omega, ?_⟩
  have d : S1024x5120.Idx → Elt F .i8 := (iblk1 V c 2 t)
  exact (h1 _ d).symm.trans (((dat1 V c).fetched_congr 2 hix.symm rfl d).trans (h1 t d))

set_option maxHeartbeats 1200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl,
    after1_0, after1_1, after1_2, after1_3, after1_4, after1_5, after1_6, after1_7, after1_8, after1_9]
  rw [show (dat1 V c).Φ t.castSucc = Phi1 V c t.castSucc from rfl, show (dat1 V c).Φ t.succ = Phi1 V c t.succ from rfl]
  unfold Phi1 outsAt1
  iintro ⟨⟨⟨HR0, HR1, HR2, HR3, ⟨%a, %b, %hab, HS0, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hnext : ∀ t' : Fin cfg1.N, t'.val + 1 = (t.succ : Fin (cfg1.N + 1)).val → XB (F := F) (iblk1 V c 2 t) = XB (F := F) (iblk1 V c 2 t') ∧ SX (F := F) (iblk1 V c 2 t) = SX (F := F) (iblk1 V c 2 t') := by
    intro t' ht'
    have : t' = t := Fin.ext (by have : t'.val + 1 = t.val + 1 := ht'; omega)
    subst this
    exact ⟨rfl, rfl⟩
  by_cases h1 : k1_cond1 (grid1.coords t) = 1#1
  · iapply (wp_wand_r frame _ Set.univ)
    isplitl [H0 H1 H2 H3 H4 H5 H6 H7 H8 H9 HS0 HS1]
    · iapply (main_first (F := F) c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) a b h1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iexact HS1
    iintro %_ ⟨H0, H1, H2, H3, H4, H5, H6, H7, H8, H9, HS0, HS1⟩
    isplitl [HR0 HR1 HR2 HR3 HS0 HS1 Hg]
    · isplitl [HR0 HR1 HR2 HR3 HS0 HS1]
      · isplitl [HR0]; · iexact HR0
        isplitl [HR1]; · iexact HR1
        isplitl [HR2]; · iexact HR2
        isplitl [HR3]; · iexact HR3
        iexists _, _
        isplitr
        · ipureintro; exact hnext
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨t', ht', he⟩ := iblk1_2_prev V c t (fun e => h1 ((hcond1 t).mpr e))
    obtain ⟨rfl, rfl⟩ := hab t' ht'
    rw [he]
    iapply (wp_wand_r frame _ Set.univ)
    isplitl [H0 H1 H2 H3 H4 H5 H6 H7 H8 H9 HS0 HS1]
    · iapply (main_later (F := F) c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (XB (F := F) (iblk1 V c 2 t)) (SX (F := F) (iblk1 V c 2 t)) h1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iexact HS1
    iintro %_ ⟨H0, H1, H2, H3, H4, H5, H6, H7, H8, H9, HS0, HS1⟩
    isplitl [HR0 HR1 HR2 HR3 HS0 HS1 Hg]
    · isplitl [HR0 HR1 HR2 HR3 HS0 HS1]
      · isplitl [HR0]; · iexact HR0
        isplitl [HR1]; · iexact HR1
        isplitl [HR2]; · iexact HR2
        isplitl [HR3]; · iexact HR3
        iexists _, _
        isplitr
        · ipureintro; exact hnext
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Own

end
-- ==== Proof.KernelIdeal.Run.lean ====
module

public import proofs.«01_k».proof.Proof.KernelIdeal.Region

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- `hostOps0` writes only the references listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5, main_v6, main_v7]
/-- `hostOps1` writes only the references listed. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9]
/-- `hostOps2` writes only the references listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are unchanged at stage 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are unchanged at stage 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- An array of region 0 at its exit. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of region 0 keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are unchanged at stage 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Every buffer that is none of region 0's arrays is as it was at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are unchanged at stage 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- An array of region 1 at its exit. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is no array of region 1 keeps its contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are unchanged at stage 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Every buffer that is none of region 1's arrays is as it was at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are unchanged at stage 5. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- Argument 0 is unchanged at the end. -/
theorem W5_main_arg0 (c : Dev nD) : W5 m ρ c (Proc.devRef .tc main_arg0) = m ((c : Thread nD τ).loc main_arg0) :=
  W5_args m ρ c main_arg0 (by decide)
/-- Argument 1 is unchanged at the end. -/
theorem W5_main_arg1 (c : Dev nD) : W5 m ρ c (Proc.devRef .tc main_arg1) = m ((c : Thread nD τ).loc main_arg1) :=
  W5_args m ρ c main_arg1 (by decide)
/-- Argument 2 is unchanged at the end. -/
theorem W5_main_arg2 (c : Dev nD) : W5 m ρ c (Proc.devRef .tc main_arg2) = m ((c : Thread nD τ).loc main_arg2) :=
  W5_args m ρ c main_arg2 (by decide)
/-- Argument 3 is unchanged at the end. -/
theorem W5_main_arg3 (c : Dev nD) : W5 m ρ c (Proc.devRef .tc main_arg3) = m ((c : Thread nD τ).loc main_arg3) :=
  W5_args m ρ c main_arg3 (by decide)
/-- Argument 4 is unchanged at the end. -/
theorem W5_main_arg4 (c : Dev nD) : W5 m ρ c (Proc.devRef .tc main_arg4) = m ((c : Thread nD τ).loc main_arg4) :=
  W5_args m ρ c main_arg4 (by decide)
/-- Argument 5 is unchanged at the end. -/
theorem W5_main_arg5 (c : Dev nD) : W5 m ρ c (Proc.devRef .tc main_arg5) = m ((c : Thread nD τ).loc main_arg5) :=
  W5_args m ρ c main_arg5 (by decide)
/-- Argument 6 is unchanged at the end. -/
theorem W5_main_arg6 (c : Dev nD) : W5 m ρ c (Proc.devRef .tc main_arg6) = m ((c : Thread nD τ).loc main_arg6) :=
  W5_args m ρ c main_arg6 (by decide)
/-- Argument 7 is unchanged at the end. -/
theorem W5_main_arg7 (c : Dev nD) : W5 m ρ c (Proc.devRef .tc main_arg7) = m ((c : Thread nD τ).loc main_arg7) :=
  W5_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (V3 m ρ) c)
    unfold Pipeline.ΦA
    iintro ⟨Hp, -, Hr⟩
    isplitl [Hr]; · iexact Hr
    iexact Hp
  hout c := by
    rw [Pipeline.ownSems0_none]
    refine BIBase.Entails.trans (Phi1_out (V3 m ρ) c (Fin.last _)) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of @main: every execution ends, the result buffer at the last boundary's contents, the arguments as launched, every counter at zero. -/
theorem run_main : θ_run defs (onTc (τ := τ) (main (F := F))) ⟨m, fun _ => 0, ρ⟩ (fun r => (∀ c : Dev nD,
      r.2.mem ((c.tc : Thread nD τ).loc main_v9) = W5 m ρ c (Proc.devRef .tc main_v9) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v9 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩), funext fun g => hz g (.inr (no_unscoped g.2))⟩)

/-- The frame: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_main m ρ)

end Cert.KernelIdeal.Own

end
-- ==== Proof.Ref.Frame.lean ====
/-
  The frame of the reference at the ideal numbers: it runs to its end, leaves its arguments as they were and no counter
  above zero (its signature declares none).
-/
module

public import proofs.«01_k».proof.Proof.Gen.ReferenceIdeal.Run
public import Idealize.ShloMosaic.Lib.Quiescent
public import Idealize.ShloMosaic.Lib.Claim

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- The reference's run ends with every argument array as at the launch and every counter at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run defs _ _).mono (fun r h => ⟨fun c => (h c).2, sem_eq_zero_of_no_sems (by decide) r.2⟩) (Value.run m ρ)

end Cert.ReferenceIdeal.Own
-- ==== Proof.Math.Byte.lean ====
module

public import Idealize.ShloMosaic.Lib.BitcastPair
public import Idealize.ShloMosaic.Lib.Pointwise
public import Idealize.ShloMosaic.PureOps.Ideal.Laws
public import Mathlib.Tactic.Ring
public import Mathlib.Tactic.Linarith
public import Mathlib.Tactic.NormNum

@[expose] public section

namespace Cert.Math

open Idealize.ShloMosaic

/-- The word of the exclusive or has 128 in each of its four bytes. -/
theorem word_bit (q r : ℕ) (hr : r < 8) (hq : q % 8 = r) (hq32 : q < 32) :
    (2155905152#32).getLsbD q = (128#8).getLsbD r := by
  subst hq
  have : ∀ q : Fin 32, (2155905152#32).getLsbD q.val = (128#8).getLsbD (q.val % 8) := by decide
  exact this ⟨q, hq32⟩

/-- Flipping the high bit of every byte of the packed words flips it in every byte. -/
theorem flip_apply {s t : Shape} (x : IVec s 8) (h1 : s.Bitcasts 8 t 32) (h2 : t.Bitcasts 32 s 8) (j : s.Idx) :
    bitcast s 8 (xori (bitcast t 32 x h1) (broadcast t 2155905152#32)) h2 j = x j ^^^ 128#8 := by
  apply BitVec.eq_of_getLsbD_eq
  intro q hq
  rw [bitcast_getLsbD _ h2 j q hq (by norm_num)]
  show (bitcast t 32 x h1 _ ^^^ 2155905152#32).getLsbD _ = _
  have hm : (s.row j * 8 + q) % 32 < 32 := Nat.mod_lt _ (by norm_num)
  rw [BitVec.getLsbD_xor, BitVec.getLsbD_xor, bitcast_getLsbD _ h1 _ _ hm (by norm_num),
    word_bit _ q hq (by omega) hm]
  have hr2 : 2 ≤ s.rank := h1.2.1 (by norm_num)
  have hrt : t.rank = s.rank := h1.1
  have ht2 : 2 ≤ t.rank := by omega
  have hrow : ∀ (p : ℕ) (hp), t.row (h2.srcIdx j p hp) = p := by
    intro p hp
    unfold Shape.row
    rw [dif_pos ht2]
    exact h2.srcIdx_row j p hp _ (by show t.rank - 2 + 2 = t.rank; omega)
  have e1 : ∀ hp, (t.row (h2.srcIdx j ((s.row j * 8 + q) / 32) hp) * 32 + (s.row j * 8 + q) % 32) % 8 = q := by
    intro hp; rw [hrow]; omega
  have e2 : ∀ hp, (t.row (h2.srcIdx j ((s.row j * 8 + q) / 32) hp) * 32 + (s.row j * 8 + q) % 32) / 8 = s.row j := by
    intro hp; rw [hrow]; omega
  rw [e1]
  congr 3
  funext a
  apply Fin.ext
  by_cases ha : a.val + 2 = s.rank
  · rw [h1.srcIdx_row _ _ _ a ha]
    rw [e2]
    unfold Shape.row
    rw [dif_pos hr2]
    refine congrArg (fun c => (j c).val) ?_
    apply Fin.ext
    show s.rank - 2 = a.val
    omega
  · rw [h1.srcIdx_other _ _ _ a ha, h2.srcIdx_other _ _ _ _ (by show ¬ a.val + 2 = t.rank; omega)]
    rfl

/-- A byte with its top bit flipped, read as signed, is the byte less 128. -/
theorem flip_toInt (b : BitVec 8) : (b ^^^ 128#8).toInt = (b.toNat : ℤ) - 128 := by
  revert b
  decide +kernel

/-- The integer nearest to an integer is itself. -/
theorem roundHalfEven_int (n : ℤ) : Ideal.roundHalfEven (n : ℝ) = n := by
  unfold Ideal.roundHalfEven
  simp

/-- An integer of moderate size goes through the rounding and the conversion unchanged. -/
theorem fptosi_int (n : ℤ) (h : |n| ≤ 16777216) :
    Ideal.fptosi 32 (Ideal.liftRound Ideal.roundHalfEven (((n : ℝ)) : EReal)) = BitVec.ofInt 32 n := by
  show BitVec.ofInt 32 (Ideal.toIntClamped _ _ (((Ideal.roundHalfEven (n : ℝ) : ℤ) : ℝ) : EReal)) = _
  rw [roundHalfEven_int]
  congr 1
  rw [Ideal.toIntClamped_coe]
  have hf : (if (0 : ℝ) ≤ (n : ℝ) then ⌊(n : ℝ)⌋ else ⌈(n : ℝ)⌉) = n := by simp
  rw [hf]
  rw [abs_le] at h
  have l : (-(2 ^ (32 - 1) : ℕ) : ℤ) = -2147483648 := by norm_num
  have u : (((2 ^ (32 - 1) : ℕ) : ℤ) - 1) = 2147483647 := by norm_num
  rw [l, u, min_eq_right (by omega), max_eq_right (by omega)]

/-- A sum of products of integers over the extended reals. -/
theorem sum_int (n : ℕ) (a b : ℕ → ℤ) : ∑ k : Fin n, (((a k.val : ℤ) : ℝ) : EReal) * (((b k.val : ℤ) : ℝ) : EReal)
    = (((∑ k ∈ Finset.range n, a k * b k : ℤ) : ℝ) : EReal) := by
  induction n with
  | zero => simp
  | succ n ih =>
    rw [Fin.sum_univ_castSucc, Finset.sum_range_succ]
    simp only [Fin.val_castSucc, Fin.val_last]
    rw [ih, ← EReal.coe_mul, ← EReal.coe_add]
    push_cast
    rfl

end Cert.Math
-- ==== Proof.Math.Sums.lean ====
module

public import Idealize.ShloMosaic.PureOps.Reduce
public import Mathlib.Data.BitVec
public import Mathlib.Tactic.Ring
public import Mathlib.Tactic.Linarith
public import Mathlib.Algebra.BigOperators.Intervals
public import Mathlib.Algebra.Order.Ring.Abs

@[expose] public section

namespace Cert.Math

open Idealize.ShloMosaic

/-- A fold by addition is the start plus the sum. -/
theorem fold_add {ι : Type*} [DecidableEq ι] (S : Finset ι) (b : BitVec 32) (f : ι → BitVec 32) :
    S.fold IntOp.addi b f = b + ∑ i ∈ S, f i := by
  induction S using Finset.induction_on with
  | empty => simp
  | insert a S ha ih =>
    rw [Finset.fold_insert ha, Finset.sum_insert ha, ih]
    show f a + _ = _
    ring

/-- A one-axis integer sum on the vector unit, at an index. -/
theorem vsum_apply {s t : Shape} {a : Fin s.rank} (src : IVec s 32) (h : s.Reduces [a] t)
    (hacc : (0#32 : BitVec 32) = IKind.add.neutral) (j : t.Idx) :
    multiReductionI .add [a] t src 0#32 h hacc j = ∑ k : Fin (s.size a), src (h.lift j k) := by
  classical
  rw [multiReductionI_eq_fold, h.fold_filter_drop_single]
  show (Finset.univ : Finset (Fin (s.size a))).fold IntOp.addi 0#32 _ = _
  rw [fold_add]
  show (0 : BitVec 32) + _ = _
  rw [zero_add]
  rfl

/-- A one-axis integer sum of the host program, at an index. -/
theorem hsum_apply {s t u : Shape} {a : Fin s.rank} (x : s.Idx → BitVec 32) (init : u.Idx → BitVec 32) (h' : s.ReducesTo [a] t)
    (h : s.Reduces [a] t) (hu : 0 < u.numel) (hi : init (Shape.Idx.first hu) = 0#32) (j : t.Idx) :
    Host.reduce IntOp.addi x init h' hu j = ∑ k : Fin (s.size a), x (h.lift j k) := by
  classical
  rw [Host.reduce_eq_fold_single IntOp.addi x init h' h hu j, fold_add, hi]
  show (0 : BitVec 32) + _ = _
  rw [zero_add]
  rfl

/-- A sum over `n m` terms, in `n` runs of `m`. -/
theorem sum_runs {M : Type*} [AddCommMonoid M] (f : ℕ → M) (n m : ℕ) :
    ∑ k ∈ Finset.range (n * m), f k = ∑ c ∈ Finset.range n, ∑ k ∈ Finset.range m, f (m * c + k) := by
  induction n with
  | zero => simp
  | succ n ih => rw [Nat.succ_mul, Finset.sum_range_add, ih, Finset.sum_range_succ, Nat.mul_comm n m]

/-- A sum over `n m` terms, in `m` strided lanes. -/
theorem sum_lanes {M : Type*} [AddCommMonoid M] (f : ℕ → M) (n m : ℕ) :
    ∑ k ∈ Finset.range (n * m), f k = ∑ p ∈ Finset.range m, ∑ c ∈ Finset.range n, f (m * c + p) := by
  rw [sum_runs, Finset.sum_comm]

/-- The product of a row and a column of bytes, in 32-bit words. -/
def dotU (x w : ℕ → BitVec 8) : BitVec 32 := ∑ k ∈ Finset.range 5120, (x k).setWidth 32 * (w k).setWidth 32
/-- The sum of a row of bytes, in 32-bit words. -/
def sumU (x : ℕ → BitVec 8) : BitVec 32 := ∑ k ∈ Finset.range 5120, (x k).setWidth 32

/-- The product, over one run of 1024, of the bytes less 128, as an integer. -/
def dotZ (x w : ℕ → BitVec 8) (c : ℕ) : ℤ :=
  ∑ k ∈ Finset.range 1024, ((x (1024 * c + k)).toNat - 128 : ℤ) * ((w (1024 * c + k)).toNat - 128 : ℤ)

/-- The partial product over one run of 1024 is at most 2^24 in magnitude. -/
theorem dotZ_bound (x w : ℕ → BitVec 8) (c : ℕ) : |dotZ x w c| ≤ 16777216 := by
  unfold dotZ
  have abs_sum : ∀ (n : ℕ) (f : ℕ → ℤ), |∑ k ∈ Finset.range n, f k| ≤ ∑ k ∈ Finset.range n, |f k| := by
    intro n f
    induction n with
    | zero => simp
    | succ n ih => rw [Finset.sum_range_succ, Finset.sum_range_succ]; exact (abs_add_le _ _).trans (by linarith)
  refine (abs_sum _ _).trans ?_
  have sum_le : ∀ (n : ℕ) (f : ℕ → ℤ), (∀ k, f k ≤ 16384) → ∑ k ∈ Finset.range n, f k ≤ n * 16384 := by
    intro n f hf
    induction n with
    | zero => simp
    | succ n ih => rw [Finset.sum_range_succ]; push_cast; linarith [hf n]
  refine (sum_le _ _ fun k => ?_).trans ?_
  · have h1 := (x (1024 * c + k)).isLt
    have h2 := (w (1024 * c + k)).isLt
    rw [abs_mul]
    have a1 : |((x (1024 * c + k)).toNat - 128 : ℤ)| ≤ 128 := by rw [abs_le]; constructor <;> omega
    have a2 : |((w (1024 * c + k)).toNat - 128 : ℤ)| ≤ 128 := by rw [abs_le]; constructor <;> omega
    calc _ ≤ (128 : ℤ) * 128 := mul_le_mul a1 a2 (abs_nonneg _) (by norm_num)
      _ = 16384 := by norm_num
  · norm_num

/-- A sum of integers as a word. -/
theorem ofInt_sum (S : Finset ℕ) (f : ℕ → ℤ) : BitVec.ofInt 32 (∑ k ∈ S, f k) = ∑ k ∈ S, BitVec.ofInt 32 (f k) := by
  induction S using Finset.induction_on with
  | empty => rfl
  | insert a S ha ih => rw [Finset.sum_insert ha, Finset.sum_insert ha, BitVec.ofInt_add, ih]

/-- A byte less 128 as a word. -/
theorem ofInt_byte (b : BitVec 8) : BitVec.ofInt 32 ((b.toNat : ℤ) - 128) = b.setWidth 32 - 128 := by
  revert b
  decide +kernel

/-- The runs' products, added in 32-bit words: the product of the bytes less 128. -/
theorem ofInt_dotZ (x w : ℕ → BitVec 8) : ∑ c ∈ Finset.range 5, BitVec.ofInt 32 (dotZ x w c)
    = ∑ k ∈ Finset.range 5120, ((x k).setWidth 32 - 128) * ((w k).setWidth 32 - 128) := by
  rw [show 5120 = 5 * 1024 from rfl, sum_runs]
  refine Finset.sum_congr rfl fun c _ => ?_
  unfold dotZ
  rw [ofInt_sum]
  refine Finset.sum_congr rfl fun k _ => ?_
  rw [BitVec.ofInt_mul, ofInt_byte, ofInt_byte]

/-- A constant added 5120 times. -/
theorem sum_const5120 (c : BitVec 32) : ∑ _k ∈ Finset.range 5120, c = 5120 * c := by
  rw [Finset.sum_const, Finset.card_range, nsmul_eq_mul]
  rfl

/-- The dot product of the bytes less 128, multiplied out. -/
theorem shifted_dot (x w : ℕ → BitVec 8) : ∑ k ∈ Finset.range 5120, ((x k).setWidth 32 - 128) * ((w k).setWidth 32 - 128)
    = dotU x w - 128 * sumU x - 128 * sumU w + 5120 * (128 * 128) := by
  unfold dotU sumU
  rw [← sum_const5120, Finset.mul_sum, Finset.mul_sum, ← Finset.sum_sub_distrib, ← Finset.sum_sub_distrib, ← Finset.sum_add_distrib]
  refine Finset.sum_congr rfl fun k _ => ?_
  ring

/-- The reference's accumulator at one output element. -/
def accR (x w : ℕ → BitVec 8) (xzp wzp bias : BitVec 32) : BitVec 32 :=
  IntOp.addi (IntOp.subi (dotU x w) (IntOp.muli wzp (sumU x)))
    (IntOp.subi (IntOp.addi (IntOp.muli (IntOp.muli 5120#32 xzp) wzp) bias) (IntOp.muli xzp (sumU w)))

/-- The kernel's constant at one output column. -/
def kcol (ws xzp wzp bias : BitVec 32) : BitVec 32 :=
  IntOp.subi (IntOp.addi (IntOp.subi (IntOp.addi (IntOp.muli (IntOp.muli 5120#32 xzp) wzp) bias) (IntOp.muli xzp ws))
    (IntOp.muli 128#32 ws)) 83886080#32

/-- The kernel's accumulator at one output element. -/
def accK (x w : ℕ → BitVec 8) (sx ws xzp wzp bias : BitVec 32) : BitVec 32 :=
  IntOp.addi (IntOp.addi (IntOp.addi (IntOp.addi (IntOp.addi (IntOp.addi (IntOp.addi 0#32 (BitVec.ofInt 32 (dotZ x w 0)))
    (BitVec.ofInt 32 (dotZ x w 1))) (BitVec.ofInt 32 (dotZ x w 2))) (BitVec.ofInt 32 (dotZ x w 3)))
    (BitVec.ofInt 32 (dotZ x w 4))) (IntOp.muli (IntOp.subi 128#32 wzp) sx)) (kcol ws xzp wzp bias)

/-- The last term of the column constant. -/
theorem const_eq : (83886080 : BitVec 32) = 5120 * (128 * 128) := by decide

/-- The two accumulators are the same word. -/
theorem acc_eq (x w : ℕ → BitVec 8) (xzp wzp bias : BitVec 32) :
    accK x w (sumU x) (sumU w) xzp wzp bias = accR x w xzp wzp bias := by
  have h := (ofInt_dotZ x w).trans (shifted_dot x w)
  simp only [Finset.sum_range_succ, Finset.sum_range_zero] at h
  unfold accK accR kcol
  show (0 + BitVec.ofInt 32 (dotZ x w 0) + BitVec.ofInt 32 (dotZ x w 1) + BitVec.ofInt 32 (dotZ x w 2) + BitVec.ofInt 32 (dotZ x w 3)
    + BitVec.ofInt 32 (dotZ x w 4)) + (128 - wzp) * sumU x + (5120 * xzp * wzp + bias - xzp * sumU w + 128 * sumU w - (83886080 : BitVec 32))
    = dotU x w - wzp * sumU x + (5120 * xzp * wzp + bias - xzp * sumU w)
  rw [h, const_eq]
  generalize dotU x w = D
  generalize sumU x = S
  generalize sumU w = T
  generalize (5120 * (128 * 128) : BitVec 32) = K
  ring

end Cert.Math
-- ==== Proof.KernelIdeal.Stripe1.lean ====
module

public import proofs.«01_k».proof.Proof.KernelIdeal.Fill
public import proofs.«01_k».proof.Proof.Math.Byte
public import proofs.«01_k».proof.Proof.Math.Sums
public import Idealize.ShloMosaic.Lib.ValueIdxCore

@[expose] public section

set_option maxRecDepth 16384

noncomputable section

namespace Cert.KernelIdeal.Own

open Idealize.ShloMosaic Idealize.ShloMosaic.TcCoe
open Cert.KernelIdeal.Gen Cert.Math

/-- An integer as an extended real. -/
abbrev iv (n : ℤ) : EReal := ((n : ℝ) : EReal)

/-- An index is the one of its own coordinates. -/
theorem ix_self {d : Fin 2 → ℕ} (h : ∀ a, 0 < d a) (y : (⟨2, d⟩ : Shape).Idx) : ix h (y 0).val (y 1).val = y := by
  funext a
  apply Fin.ext
  have := (y a).isLt
  fin_cases a
  · exact Nat.mod_eq_of_lt (y 0).isLt
  · exact Nat.mod_eq_of_lt (y 1).isLt

/-- The tile an element lies in, read at its place in the tile, is the element. -/
theorem chunk_self {Val : EltTy → Type} (x : S1024x5120.Idx → Val .i8) (y : S1024x5120.Idx) :
    chunk x ((y 0).val / 256) ((y 1).val / 512) (ix (d := ![256, 512]) (by decide) ((y 0).val % 256) ((y 1).val % 512)) = x y := by
  show x _ = x y
  congr 1
  funext a
  apply Fin.ext
  have h0 : (y 0).val < 1024 := (y 0).isLt
  have h1 : (y 1).val < 5120 := (y 1).isLt
  fin_cases a
  · show (256 * ((y 0).val / 256) + (y 0).val % 256 % 256) % 1024 = (y 0).val
    omega
  · show (512 * ((y 1).val / 512) + (y 1).val % 512 % 512) % 5120 = (y 1).val
    omega

/-- A kept operand element is its byte less 128. -/
theorem XB_apply (x : S1024x5120.Idx → Elt Ideal .i8) (y : S1024x5120.Idx) :
    XB (F := Ideal) x y = iv (((x y : BitVec 8).toNat : ℤ) - 128) := by
  unfold XB k1_pay4 k1_pay3
  dsimp only
  rw [shapeCast_id, shapeCast_id]
  show Scalar.sitofp (F := Ideal) .bf16 (bitcast S256x512 8 (xori _ _) _ _) = _
  rw [flip_apply, chunk_self]
  show iv (((x y : BitVec 8) ^^^ 128#8).toInt) = _
  rw [flip_toInt]

/-- A weight, converted, is its byte less 128. -/
theorem pay27_apply (w : S5120x512.Idx → Elt Ideal .i8) (y : S5120x512.Idx) :
    k1_pay27 (F := Ideal) w y = iv (((w y : BitVec 8).toNat : ℤ) - 128) := by
  unfold k1_pay27
  show Scalar.sitofp (F := Ideal) .bf16 (bitcast S5120x512 8 (xori _ _) _ _) = _
  rw [flip_apply]
  show iv (((w y : BitVec 8) ^^^ 128#8).toInt) = _
  rw [flip_toInt]

/-- One partial product, rounded and converted, is the integer product. -/
theorem part_apply (a : FVec Ideal S256x1024 .bf16) (b : FVec Ideal S1024x512 .bf16) (j : S256x512.Idx) (A B : ℕ → ℤ)
    (hA : ∀ k : Fin 1024, a (ix2 (j 0) k) = iv (A k.val)) (hB : ∀ k : Fin 1024, b (ix2 k (j 1)) = iv (B k.val))
    (hb : |∑ k ∈ Finset.range 1024, A k * B k| ≤ 16777216) :
    fptosi (F := Ideal) 32 (roundeven (matmul dot_S256x1024_S1024x512_S256x512_1_0_0_1_n_n none a b (constant S256x512 .f32 0x00000000#32))) j
      = BitVec.ofInt 32 (∑ k ∈ Finset.range 1024, A k * B k) := by
  show Ideal.fptosi 32 (Ideal.liftRound Ideal.roundHalfEven
    (Ideal.matmul dot_S256x1024_S1024x512_S256x512_1_0_0_1_n_n a b (constant (F := Ideal) S256x512 .f32 0x00000000#32) j)) = _
  rw [Ideal.matmul_apply₁_of dot_S256x1024_S1024x512_S256x512_1_0_0_1_n_n (a := 1) rfl (K := 1024) rfl _ _ _ j
    (fun k => ix2 (j 0) k) (fun k => ix2 k (j 1))
    (by intro k; funext a; fin_cases a <;> rfl) (by intro k; funext a; fin_cases a <;> rfl)]
  simp only [hA, hB]
  rw [sum_int, show constant (F := Ideal) S256x512 .f32 0x00000000#32 j = 0 from by simp [pointwise], zero_add]
  exact fptosi_int _ hb

end Cert.KernelIdeal.Own
-- ==== Proof.KernelIdeal.Stripe2.lean ====
module

public import proofs.«01_k».proof.Proof.KernelIdeal.Stripe1
public import Idealize.ShloMosaic.Lib.Pipeline.Value

@[expose] public section

set_option maxRecDepth 16384

noncomputable section

namespace Cert.KernelIdeal.Own

open Idealize.ShloMosaic Idealize.ShloMosaic.TcCoe
open Cert.KernelIdeal.Gen Cert.Math

variable {F : FTy → Type} [FloatOps F]

/-- Row `p` of the operand block as a sequence of bytes. -/
def xrow (x : S1024x5120.Idx → Elt F .i8) (p : ℕ) : ℕ → BitVec 8 := fun k => x (ix (d := ![1024, 5120]) (by decide) p k)
/-- Column `q` of the weight block as a sequence of bytes. -/
def wcol (w : S5120x512.Idx → Elt F .i8) (q : ℕ) : ℕ → BitVec 8 := fun k => w (ix (d := ![5120, 512]) (by decide) k q)

/-- A quarter of a tile of the operand, widened, at an element. -/
theorem slice_chunk (x : S1024x5120.Idx → Elt F .i8) (r n o : ℕ) (ho : o + 128 ≤ 512)
    (h : S256x512.Slices ![0, o] S256x128) (z : S256x128.Idx) :
    extractStridedSlice S256x128 ![0, o] (extui 32 (shapeCast S256x512 (chunk x r n : IVec S256x512 8) shapeCasts_S256x512_S256x512) natLt_8_32) h z
      = (xrow (F := F) x (256 * r + (z 0).val) (128 * (4 * n) + o + (z 1).val)).setWidth 32 := by
  have z1 : (z 1).val < 128 := (z 1).isLt
  rw [shapeCast_id]
  show (x _ : BitVec 8).setWidth 32 = (x _ : BitVec 8).setWidth 32
  congr 2
  funext a
  apply Fin.ext
  fin_cases a
  · show (256 * r + (0 + (z 0).val)) % 1024 = (256 * r + (z 0).val) % 1024
    rw [Nat.zero_add]
  · show (512 * n + (o + (z 1).val)) % 5120 = (128 * (4 * n) + o + (z 1).val) % 5120
    congr 1
    omega

/-- A lane of the row sums' running value after `n` tiles. -/
theorem accN_apply (x : S1024x5120.Idx → Elt F .i8) (r n : ℕ) (z : S256x128.Idx) :
    accN (F := F) x r n z
      = ∑ i ∈ Finset.range (4 * n), (xrow (F := F) x (256 * r + (z 0).val) (128 * i + (z 1).val)).setWidth 32 := by
  induction n with
  | zero => rfl
  | succ n ih =>
    have e : accN (F := F) x r (n + 1) z = (accN (F := F) x r n z
      + ((xrow (F := F) x (256 * r + (z 0).val) (128 * (4 * n) + 0 + (z 1).val)).setWidth 32
        + (xrow (F := F) x (256 * r + (z 0).val) (128 * (4 * n) + 128 + (z 1).val)).setWidth 32))
      + ((xrow (F := F) x (256 * r + (z 0).val) (128 * (4 * n) + 256 + (z 1).val)).setWidth 32
        + (xrow (F := F) x (256 * r + (z 0).val) (128 * (4 * n) + 384 + (z 1).val)).setWidth 32) := by
      rw [← slice_chunk x r n 0 (by decide) slices_S256x512_o0_0_S256x128 z,
        ← slice_chunk x r n 128 (by decide) slices_S256x512_o0_128_S256x128 z,
        ← slice_chunk x r n 256 (by decide) slices_S256x512_o0_256_S256x128 z,
        ← slice_chunk x r n 384 (by decide) slices_S256x512_o0_384_S256x128 z]
      rfl
    rw [e, ih, show 4 * (n + 1) = 4 * n + 1 + 1 + 1 + 1 by omega, Finset.sum_range_succ, Finset.sum_range_succ,
      Finset.sum_range_succ, Finset.sum_range_succ]
    rw [show 128 * (4 * n) + 0 + (z 1).val = 128 * (4 * n) + (z 1).val by omega,
      show 128 * (4 * n) + 128 + (z 1).val = 128 * (4 * n + 1) + (z 1).val by omega,
      show 128 * (4 * n) + 256 + (z 1).val = 128 * (4 * n + 1 + 1) + (z 1).val by omega,
      show 128 * (4 * n) + 384 + (z 1).val = 128 * (4 * n + 1 + 1 + 1) + (z 1).val by omega]
    ring

/-- The lanes of a row added up. -/
theorem pay6_apply (v : IVec S256x128 32) (z : S256x128.Idx) :
    k1_pay6 v z = ∑ q : Fin 128, v (ix2 (n0 := 256) (z 0) q) := by
  have z0 : (z 0).val < 256 := (z 0).isLt
  have key : ∀ m : IVec S256 32, shapeCast S256x128 (broadcastTo S256x128 (shapeCast S256x1 (shapeCast S256x1 m shapeCasts_S256_S256x1)
      shapeCasts_S256x1_S256x1) broadcasts_S256x1_S256x128) shapeCasts_S256x128_S256x128 z = m (ix1 (n0 := 256) (z 0)) := by
    intro m
    rw [shapeCast_id, shapeCast_id]
    refine (broadcastTo_apply _ _ z (ix2 (n0 := 256) (n1 := 1) (z 0) 0) (by intro a; fin_cases a <;> rfl)).trans ?_
    refine shapeCast_apply _ _ _ (ix1 (n0 := 256) (z 0)) ?_
    rw [Shape.rowMajor_val_one, Shape.rowMajor_val_two]
    show (z 0).val = (z 0).val * 1 + 0
    omega
  refine (key (multiReductionI .add [1] S256 v 0#32 reduces_S256x128_S256 rfl)).trans ?_
  refine (vsum_apply v reduces_S256x128_S256 rfl (ix1 (n0 := 256) (z 0))).trans ?_
  refine Finset.sum_congr rfl fun k _ => congrArg v ?_
  funext a
  apply Fin.ext
  fin_cases a <;> rfl

/-- The kept row sums are the sums of the rows. -/
theorem SX_apply (x : S1024x5120.Idx → Elt F .i8) (y : S1024x128.Idx) : SX (F := F) x y = sumU (xrow (F := F) x (y 0).val) := by
  unfold SX
  rw [pay6_apply]
  simp only [accN_apply]
  unfold sumU
  rw [show 5120 = (4 * 10) * 128 from rfl, sum_lanes, Finset.sum_range]
  refine Finset.sum_congr rfl fun q _ => Finset.sum_congr rfl fun i _ => ?_
  congr 2
  show 256 * ((y 0).val / 256) + (y 0).val % 256 % 256 = (y 0).val
  omega

end Cert.KernelIdeal.Own
-- ==== Proof.KernelIdeal.ColSum.lean ====
module

public import proofs.«01_k».proof.Proof.KernelIdeal.Region
public import proofs.«01_k».proof.Proof.KernelIdeal.Stripe2
public import Idealize.ShloMosaic.Lib.Pipeline.Value

@[expose] public section

set_option maxRecDepth 16384

noncomputable section

namespace Cert.KernelIdeal.Own

open Idealize.ShloMosaic Idealize.ShloMosaic.TcCoe
open Cert.KernelIdeal.Gen Cert.Math

variable {F : FTy → Type} [FloatOps F]

/-- A load of 128 rows of the weight block, widened, at an element. -/
theorem ldw (x : Vec F S5120x512 .i8) (o : ℕ) (inb) (z : S128x512.Idx) :
    extui 32 (View.ld x (Rect.unit (s := S5120x512) ![o, 0] S128x512.size inb) : IVec S128x512 8) natLt_8_32 z
      = (wcol (F := F) x (z 1).val (o + (z 0).val)).setWidth 32 := by
  have h0 := inb 0
  change o + 128 ≤ 5120 at h0
  have z0 : (z 0).val < 128 := (z 0).isLt
  have z1 : (z 1).val < 512 := (z 1).isLt
  show (x _ : BitVec 8).setWidth 32 = (x _ : BitVec 8).setWidth 32
  congr 2
  funext a
  apply Fin.ext
  fin_cases a
  · show o + 1 * (z 0).val = (o + (z 0).val) % 5120
    omega
  · show 0 + 1 * (z 1).val = (z 1).val % 512
    omega

/-- The columns of 128 rows added up. -/
theorem rsum_apply (v : IVec S128x512 32) (y : S1x512.Idx) :
    shapeCast S1x512 (multiReductionI .add [0] S512 v 0#32 reduces_S128x512_S512 rfl) shapeCasts_S512_S1x512 y
      = ∑ p : Fin 128, v (ix2 (n0 := 128) (n1 := 512) p (y 1)) := by
  have y0 : (y 0).val < 1 := (y 0).isLt
  refine (shapeCast_apply _ _ _ (ix1 (n0 := 512) (y 1)) ?_).trans ?_
  · rw [Shape.rowMajor_val_one, Shape.rowMajor_val_two]
    show (y 1).val = (y 0).val * 512 + (y 1).val
    omega
  refine (vsum_apply v reduces_S128x512_S512 rfl (ix1 (n0 := 512) (y 1))).trans ?_
  refine Finset.sum_congr rfl fun k _ => congrArg v ?_
  funext a
  apply Fin.ext
  fin_cases a <;> rfl

/-- What the first program part stores: the sums of the weight block's columns. -/
theorem out0_apply (x : Vec F S5120x512 .i8) (y : S1x512.Idx) : out0_1 (F := F) x y = sumU (wcol (F := F) x (y 1).val) := by
  unfold out0_1
  rw [View.canon_unit_zero (by funext a; fin_cases a <;> rfl)]
  unfold k0_pay1
  refine (rsum_apply _ y).trans ?_
  unfold sumU
  rw [show 5120 = 40 * 128 from rfl, sum_lanes, Finset.sum_range]
  refine Finset.sum_congr rfl fun p _ => ?_
  have y1 : (y 1).val < 512 := (y 1).isLt
  unfold k0_pay4 k0_pay3 k0_pay2
  simp only [addi_apply, ldw]
  simp only [Finset.sum_range_succ, Finset.sum_range_zero, Nat.reduceMul]
  rfl

end Cert.KernelIdeal.Own
-- ==== Proof.Math.High.lean ====
/-
  The rounding doubling high multiplication, one word at a time: the kernel's split of the multiplier into signed halves
  and the reference's split of the magnitudes into unsigned halves both give the product with 2^30 added, divided by 2^31
  and rounded down, for a multiplier that is not negative.
-/
module

public import Idealize.ShloMosaic.PureOps.Vector
public import Mathlib.Tactic.Linarith
public import Mathlib.Tactic.Ring
public import Mathlib.Tactic.IntervalCases

@[expose] public section

namespace Cert.Math

open Idealize.ShloMosaic

/-- The low signed half of the multiplier, as the kernel takes it. -/
def kbl (m : BitVec 32) : BitVec 32 := IntOp.shrsi .vector (IntOp.shli .vector m 16#32) 16#32
/-- The high half that goes with it. -/
def kbh (m : BitVec 32) : BitVec 32 :=
  IntOp.addi (IntOp.shrsi .vector m 16#32) (IntOp.andi (IntOp.shrsi .vector m 15#32) 1#32)
/-- The kernel's middle sum. -/
def kmid (a m : BitVec 32) : BitVec 32 :=
  IntOp.addi (IntOp.addi (IntOp.addi (IntOp.muli (IntOp.shrsi .vector a 16#32) (kbl m))
      (IntOp.muli (IntOp.andi a 65535#32) (kbh m)))
    (IntOp.shrsi .vector (IntOp.muli (IntOp.andi a 65535#32) (kbl m)) 16#32)) 1073758208#32
/-- The kernel's high word. -/
def kerH (a m : BitVec 32) : BitVec 32 :=
  IntOp.subi (IntOp.addi (IntOp.muli (IntOp.shrsi .vector a 16#32) (IntOp.shli .vector (kbh m) 1#32))
    (IntOp.shrui .vector (kmid a m) 15#32)) 32768#32

/-- An arithmetic right shift by a literal below 32. -/
theorem shrsi_lit (u : ArithUnit) (x : BitVec 32) (k : ℕ) (hk : k < 32) :
    IntOp.shrsi u x (BitVec.ofNat 32 k) = x.sshiftRight k := by
  have h : (BitVec.ofNat 32 k).toNat = k := by rw [BitVec.toNat_ofNat]; omega
  unfold IntOp.shrsi BitVec.sshiftRight'
  rw [h, if_pos hk]

/-- A logical right shift by a literal below 32. -/
theorem shrui_lit (u : ArithUnit) (x : BitVec 32) (k : ℕ) (hk : k < 32) :
    IntOp.shrui u x (BitVec.ofNat 32 k) = x >>> k := by
  have h : (BitVec.ofNat 32 k).toNat = k := by rw [BitVec.toNat_ofNat]; omega
  unfold IntOp.shrui
  rw [h, if_pos hk, BitVec.ushiftRight_eq', h]

/-- A left shift by a literal below 32. -/
theorem shli_lit (u : ArithUnit) (x : BitVec 32) (k : ℕ) (hk : k < 32) :
    IntOp.shli u x (BitVec.ofNat 32 k) = x <<< k := by
  have h : (BitVec.ofNat 32 k).toNat = k := by rw [BitVec.toNat_ofNat]; omega
  unfold IntOp.shli
  rw [h, if_pos hk, BitVec.shiftLeft_eq', h]

/-- An arithmetic right shift is a division by a power of two, rounded down. -/
theorem toInt_sshr (x : BitVec 32) (k : ℕ) : (x.sshiftRight k).toInt = x.toInt / 2 ^ k := by
  rw [BitVec.toInt_sshiftRight, Int.shiftRight_eq_div_pow]; norm_cast

/-- The same, with the power of two spelt out. -/
theorem toInt_sshr_of (x : BitVec 32) (k : ℕ) (d : ℤ) (h : (2 : ℤ) ^ k = d) : (x.sshiftRight k).toInt = x.toInt / d := by
  rw [toInt_sshr, h]

/-- The range of a signed word. -/
theorem toInt_bounds (x : BitVec 32) : -2147483648 ≤ x.toInt ∧ x.toInt ≤ 2147483647 := by
  have h1 := BitVec.le_toInt x; have h2 := BitVec.toInt_lt (x := x)
  constructor <;> norm_num at h1 h2 <;> omega

/-- A word whose integer is known modulo 2^32. -/
theorem eq_ofInt_of_emod (x : BitVec 32) (i : ℤ) (h : x.toInt % 4294967296 = i % 4294967296) : x = BitVec.ofInt 32 i := by
  apply BitVec.eq_of_toInt_eq
  rw [BitVec.toInt_ofInt]
  have := toInt_bounds x
  rw [Int.bmod_def]; split <;> omega

/-- Addition, up to the word size. -/
theorem toInt_emod_add (x y : BitVec 32) : (x + y).toInt % 4294967296 = (x.toInt + y.toInt) % 4294967296 := by
  rw [BitVec.toInt_add]; exact Int.bmod_emod
/-- Subtraction, up to the word size. -/
theorem toInt_emod_sub (x y : BitVec 32) : (x - y).toInt % 4294967296 = (x.toInt - y.toInt) % 4294967296 := by
  rw [BitVec.toInt_sub]; exact Int.bmod_emod
/-- Multiplication, up to the word size. -/
theorem toInt_emod_mul (x y : BitVec 32) : (x * y).toInt % 4294967296 = (x.toInt * y.toInt) % 4294967296 := by
  rw [BitVec.toInt_mul]; exact Int.bmod_emod

/-- A word congruent to an integer in the signed range is that integer. -/
theorem toInt_of_emod (x : BitVec 32) (i : ℤ) (h : x.toInt % 4294967296 = i % 4294967296)
    (h1 : -2147483648 ≤ i) (h2 : i ≤ 2147483647) : x.toInt = i := by
  have := toInt_bounds x
  omega

/-- A word congruent to an integer in the unsigned range is that integer. -/
theorem toNat_of_emod (x : BitVec 32) (i : ℤ) (h : x.toInt % 4294967296 = i % 4294967296)
    (h1 : 0 ≤ i) (h2 : i < 4294967296) : (x.toNat : ℤ) = i := by
  have := x.isLt
  rw [BitVec.toInt_eq_toNat_cond] at h
  split at h <;> omega

/-- The unsigned reading from the signed one. -/
theorem toNat_eq (x : BitVec 32) : (x.toNat : ℤ) = x.toInt % 4294967296 := by
  have := x.isLt
  rw [BitVec.toInt_eq_toNat_cond]
  split <;> omega

/-- The low 16 bits of a word. -/
theorem and_low (a : BitVec 32) : (a &&& 65535#32).toNat = a.toNat % 65536 := by
  rw [BitVec.toNat_and]
  exact Nat.and_two_pow_sub_one_eq_mod a.toNat 16

/-- The lowest bit of a word. -/
theorem and_one (a : BitVec 32) : (a &&& 1#32).toNat = a.toNat % 2 := by
  rw [BitVec.toNat_and]
  exact Nat.and_two_pow_sub_one_eq_mod a.toNat 1

/-- Below 2^31 the signed and the unsigned readings agree. -/
theorem toInt_small (x : BitVec 32) (h : x.toNat < 2147483648) : x.toInt = x.toNat := by
  rw [BitVec.toInt_eq_toNat_cond, if_pos (by omega)]

/-- The kernel's signed low half of the multiplier. -/
theorem kbl_toInt (m : BitVec 32) : (kbl m).toInt = (m.toInt + 32768) % 65536 - 32768 := by
  unfold kbl
  rw [shrsi_lit _ _ 16 (by decide), shli_lit _ _ 16 (by decide), toInt_sshr, BitVec.toInt_shiftLeft]
  have h := toNat_eq m
  rw [Nat.shiftLeft_eq, Int.bmod_def]
  push_cast
  split <;> omega

/-- The kernel's high half of the multiplier, rounded to go with the signed low half. -/
theorem kbh_toInt (m : BitVec 32) (hm : 0 ≤ m.toInt) : (kbh m).toInt = m.toInt / 65536 + m.toInt / 32768 % 2 := by
  unfold kbh IntOp.addi IntOp.andi
  rw [shrsi_lit _ _ 16 (by decide), shrsi_lit _ _ 15 (by decide)]
  have hb := toInt_bounds m
  have h1 := toInt_sshr_of m 16 65536 (by norm_num)
  have h2 := toInt_sshr_of m 15 32768 (by norm_num)
  have h3 := toNat_eq (m.sshiftRight 15)
  have h4 := and_one (m.sshiftRight 15)
  have h5 := toInt_small (m.sshiftRight 15 &&& 1#32) (by omega)
  apply toInt_of_emod
  · rw [toInt_emod_add, h1, h5, h4]; push_cast; rw [h3, h2]; omega
  · omega
  · omega

/-- The low half of the accumulator. -/
theorem kal_toInt (a : BitVec 32) : (a &&& 65535#32).toInt = a.toInt % 65536 := by
  have h4 := and_low a
  have h5 := toInt_small (a &&& 65535#32) (by omega)
  have h := toNat_eq a
  omega

/-- The kernel's middle word does not wrap when read as unsigned. -/
theorem kmid_toNat (a m : BitVec 32) (hm : 0 ≤ m.toInt) :
    ((kmid a m).toNat : ℤ) = a.toInt / 65536 * (kbl m).toInt + a.toInt % 65536 * (kbh m).toInt
      + a.toInt % 65536 * (kbl m).toInt / 65536 + 1073758208 := by
  have hbl := kbl_toInt m
  have hbh := kbh_toInt m hm
  have hb := toInt_bounds m
  have ha := toInt_bounds a
  have hal := kal_toInt a
  have hah := toInt_sshr_of a 16 65536 (by norm_num)
  unfold kmid IntOp.addi IntOp.andi IntOp.muli
  rw [shrsi_lit _ _ 16 (by decide), shrsi_lit _ _ 16 (by decide)]
  generalize kbl m = bl at hbl ⊢
  generalize kbh m = bh at hbh ⊢
  generalize a &&& 65535#32 = al at hal ⊢
  generalize a.sshiftRight 16 = ah at hah ⊢
  have r1 : -32768 ≤ bl.toInt ∧ bl.toInt ≤ 32767 := by omega
  have r2 : 0 ≤ bh.toInt ∧ bh.toInt ≤ 32768 := by omega
  rw [← hal, ← hah]
  have r3 : 0 ≤ al.toInt ∧ al.toInt ≤ 65535 := by omega
  have r4 : -32768 ≤ ah.toInt ∧ ah.toInt ≤ 32767 := by omega
  have p1 : -2147483648 ≤ al.toInt * bl.toInt ∧ al.toInt * bl.toInt ≤ 2147483647 := by
    constructor <;> nlinarith
  have e1 : (al * bl).toInt = al.toInt * bl.toInt := toInt_of_emod _ _ (toInt_emod_mul _ _) p1.1 p1.2
  have e2 := toInt_sshr_of (al * bl) 16 65536 (by norm_num)
  rw [e1] at e2
  have p2 : al.toInt * bl.toInt / 65536 ≤ 32767 ∧ -32768 ≤ al.toInt * bl.toInt / 65536 := by omega
  have p3 : 0 ≤ al.toInt * bh.toInt ∧ al.toInt * bh.toInt ≤ 65535 * 32768 := by
    constructor <;> nlinarith
  have p4 : -1073741824 + 32768 ≤ ah.toInt * bl.toInt ∧ ah.toInt * bl.toInt ≤ 1073741824 := by
    constructor <;> nlinarith
  have p5 : 0 ≤ bl.toInt → ah.toInt * bl.toInt ≤ 32767 * 32767 := fun h => by nlinarith
  have p6 : bl.toInt < 0 → al.toInt * bl.toInt ≤ 0 := fun h => by nlinarith
  apply toNat_of_emod
  · rw [toInt_emod_add, Int.add_emod, toInt_emod_add, ← Int.add_emod, Int.add_emod]
    have e3 := toInt_emod_add (ah * bl) (al * bh)
    have e4 := toInt_emod_mul ah bl
    have e5 := toInt_emod_mul al bh
    rw [e2]
    have e6 : (1073758208#32 : BitVec 32).toInt = 1073758208 := by decide
    rw [e6]
    omega
  · omega
  · rcases lt_or_ge bl.toInt 0 with h | h
    · have := p6 h; omega
    · have := p5 h; omega

/-- The kernel's high word is the product plus 2^30 divided by 2^31. -/
theorem kerH_eq (a m : BitVec 32) (hm : 0 ≤ m.toInt) :
    kerH a m = BitVec.ofInt 32 ((a.toInt * m.toInt + 1073741824) / 2147483648) := by
  have hmid := kmid_toNat a m hm
  have hbl := kbl_toInt m
  have hbh := kbh_toInt m hm
  have hah := toInt_sshr_of a 16 65536 (by norm_num)
  have hb := toInt_bounds m
  have hmd := (kmid a m).isLt
  unfold kerH IntOp.subi IntOp.addi IntOp.muli
  rw [shrsi_lit _ _ 16 (by decide), shli_lit _ _ 1 (by decide), shrui_lit _ _ 15 (by decide)]
  have hsh : ((kmid a m >>> 15).toNat : ℤ) = (kmid a m).toNat / 32768 := by
    rw [BitVec.toNat_ushiftRight, Nat.shiftRight_eq_div_pow]; norm_num
  have hsh2 := toInt_small (kmid a m >>> 15) (by omega)
  rw [hsh, hmid] at hsh2
  generalize kmid a m >>> 15 = md at hsh2 ⊢
  have hs1 : (kbh m <<< 1).toInt = 2 * (kbh m).toInt := by
    have e : kbh m <<< 1 = kbh m * 2#32 := by
      apply BitVec.eq_of_toNat_eq
      rw [BitVec.toNat_shiftLeft, BitVec.toNat_mul, Nat.shiftLeft_eq]; rfl
    rw [e]
    have e2 : (2#32 : BitVec 32).toInt = 2 := by decide
    apply toInt_of_emod
    · rw [toInt_emod_mul, e2, Int.mul_comm]
    · omega
    · omega
  have hM : m.toInt = (kbh m).toInt * 65536 + (kbl m).toInt := by omega
  have hA : a.toInt = a.toInt / 65536 * 65536 + a.toInt % 65536 := by omega
  apply eq_ofInt_of_emod
  have e3 := toInt_emod_add (a.sshiftRight 16 * kbh m <<< 1) md
  have e4 := toInt_emod_mul (a.sshiftRight 16) (kbh m <<< 1)
  have e5 := toInt_emod_sub (a.sshiftRight 16 * kbh m <<< 1 + md) 32768#32
  have e6 : (32768#32 : BitVec 32).toInt = 32768 := by decide
  rw [hs1, hah] at e4
  rw [e6] at e5
  rw [e5]
  generalize hx : a.toInt / 65536 = ah at *
  generalize hy : a.toInt % 65536 = al at *
  have hP : a.toInt * m.toInt = ah * (2 * (kbh m).toInt) * 2147483648
      + ((ah * (kbl m).toInt + al * (kbh m).toInt) * 65536 + al * (kbl m).toInt) := by
    rw [hA, hM]; ring
  rw [hP]
  generalize ah * (2 * (kbh m).toInt) = X at *
  generalize ah * (kbl m).toInt + al * (kbh m).toInt = Y at *
  generalize al * (kbl m).toInt = Z at *
  omega

end Cert.Math
-- ==== Proof.Math.RefHigh.lean ====
/-
  The reference's high word: magnitudes in unsigned halves, the carries counted, the sign put back. It is the kernel's.
-/
module

public import proofs.«01_k».proof.Proof.Math.High

@[expose] public section

namespace Cert.Math

open Idealize.ShloMosaic

/-- The sign of the accumulated word, as a bit. -/
def rneg (a : BitVec 32) : BitVec 1 := IntOp.cmpi .slt a 0#32
/-- The high and low halves of its magnitude, -/
def rah (a : BitVec 32) : BitVec 32 := IntOp.shrui .host (IntOp.absi a) 16#32
@[inherit_doc rah] def ral (a : BitVec 32) : BitVec 32 := IntOp.andi (IntOp.absi a) 65535#32
/-- and of the multiplier. -/
def rbh (m : BitVec 32) : BitVec 32 := IntOp.shrui .host m 16#32
@[inherit_doc rbh] def rbl (m : BitVec 32) : BitVec 32 := IntOp.andi m 65535#32
/-- The product of the low halves, the cross sum, the low word before and after the nudge. -/
def rlow (a m : BitVec 32) : BitVec 32 := IntOp.muli (ral a) (rbl m)
@[inherit_doc rlow] def rmid (a m : BitVec 32) : BitVec 32 := IntOp.addi (IntOp.muli (rah a) (rbl m)) (IntOp.muli (ral a) (rbh m))
@[inherit_doc rlow] def rlow1 (a m : BitVec 32) : BitVec 32 := IntOp.addi (rlow a m) (IntOp.shli .host (rmid a m) 16#32)
@[inherit_doc rlow] def rlow2 (a m : BitVec 32) : BitVec 32 :=
  IntOp.addi (rlow1 a m) (IntOp.subi 1073741824#32 ((rneg a).setWidth 32))
/-- The high word of the magnitude. -/
def rhigh (a m : BitVec 32) : BitVec 32 :=
  IntOp.addi (IntOp.addi (IntOp.addi (IntOp.muli (rah a) (rbh m)) (IntOp.shrui .host (rmid a m) 16#32))
    ((IntOp.cmpi .ult (rlow1 a m) (rlow a m)).setWidth 32)) ((IntOp.cmpi .ult (rlow2 a m) (rlow1 a m)).setWidth 32)
/-- The magnitude of the result. -/
def rq (a m : BitVec 32) : BitVec 32 :=
  IntOp.ori (IntOp.shli .host (rhigh a m) 1#32) (IntOp.shrui .host (rlow2 a m) 31#32)
/-- The reference's high word. -/
def refH (a m : BitVec 32) : BitVec 32 := Scalar.select (rneg a) (-(rq a m)) (rq a m)

/-- A bit as a number: one when set. -/
theorem toNat_bit (b : Bool) : ((BitVec.ofBool b).setWidth 32).toNat = if b = true then 1 else 0 := by
  cases b <;> rfl

/-- The sign bit as a number. -/
theorem rneg_toNat (a : BitVec 32) : ((rneg a).setWidth 32).toNat = if a.toInt < 0 then 1 else 0 := by
  unfold rneg IntOp.cmpi
  rw [toNat_bit]
  have h : (a.slt 0#32 = true) ↔ a.toInt < 0 := by rw [BitVec.slt_iff_toInt_lt]; rfl
  by_cases h0 : a.toInt < 0
  · rw [if_pos h0, if_pos (h.2 h0)]
  · rw [if_neg h0, if_neg (fun hh => h0 (h.1 hh))]

/-- The unsigned comparison as a number. -/
theorem ult_toNat (x y : BitVec 32) : ((IntOp.cmpi .ult x y).setWidth 32).toNat = if x.toNat < y.toNat then 1 else 0 := by
  unfold IntOp.cmpi
  rw [toNat_bit]
  have h : (x.ult y = true) ↔ x.toNat < y.toNat := BitVec.ult_iff_lt.trans BitVec.lt_def
  by_cases h0 : x.toNat < y.toNat
  · rw [if_pos h0, if_pos (h.2 h0)]
  · rw [if_neg h0, if_neg (fun hh => h0 (h.1 hh))]

/-- The magnitude of a word, read as unsigned. -/
theorem absi_toNat (a : BitVec 32) : (IntOp.absi a).toNat = a.toInt.natAbs := by
  have hb := toInt_bounds a
  have hlt := a.isLt
  unfold IntOp.absi
  have hm : a.msb = true ↔ a.toInt < 0 := by rw [BitVec.msb_eq_toInt]; simp
  by_cases h0 : a.toInt < 0
  · rw [if_pos (hm.2 h0), BitVec.toNat_neg]
    rw [BitVec.toInt_eq_toNat_cond] at h0 ⊢
    split at h0 <;> omega
  · rw [if_neg (fun hh => h0 (hm.1 hh))]
    rw [BitVec.toInt_eq_toNat_cond] at h0 ⊢
    split at h0 <;> omega

/-- The product of the magnitudes with the nudge, split at bit 32. -/
theorem rparts (a m : BitVec 32) (hm : 0 ≤ m.toInt) :
    ((a.toInt.natAbs * m.toNat : ℕ) : ℤ) + 1073741824 - (if a.toInt < 0 then 1 else 0)
      = ((rhigh a m).toNat : ℤ) * 4294967296 + ((rlow2 a m).toNat : ℤ) ∧ (rhigh a m).toNat < 2147483648 := by
  have hb := toInt_bounds a
  have hmb := toInt_bounds m
  have hmN : m.toNat < 2147483648 := by
    have := m.isLt
    rw [BitVec.toInt_eq_toNat_cond] at hm; split at hm <;> omega
  have hN : a.toInt.natAbs ≤ 2147483648 := by omega
  have hneg := rneg_toNat a
  have h34 : (rah a).toNat = a.toInt.natAbs / 65536 := by
    unfold rah; rw [shrui_lit _ _ 16 (by decide), BitVec.toNat_ushiftRight, Nat.shiftRight_eq_div_pow, absi_toNat]
  have h36 : (ral a).toNat = a.toInt.natAbs % 65536 := by
    unfold ral IntOp.andi; rw [and_low, absi_toNat]
  have h38 : (rbh m).toNat = m.toNat / 65536 := by
    unfold rbh; rw [shrui_lit _ _ 16 (by decide), BitVec.toNat_ushiftRight, Nat.shiftRight_eq_div_pow]
  have h40 : (rbl m).toNat = m.toNat % 65536 := by
    unfold rbl IntOp.andi; rw [and_low]
  have d1 := Nat.div_add_mod a.toInt.natAbs 65536
  have d2 := Nat.div_add_mod m.toNat 65536
  rw [← h34, ← h36] at d1
  rw [← h38, ← h40] at d2
  have b34 : (rah a).toNat ≤ 32768 := by omega
  have b36 : (ral a).toNat ≤ 65535 := by omega
  have b38 : (rbh m).toNat ≤ 32767 := by omega
  have b40 : (rbl m).toNat ≤ 65535 := by omega
  have q1 := Nat.mul_le_mul b36 b40
  have q2 := Nat.mul_le_mul b34 b40
  have q3 := Nat.mul_le_mul b36 b38
  have q4 := Nat.mul_le_mul b34 b38
  have qP := Nat.mul_le_mul hN (Nat.le_of_lt_succ (show m.toNat < 2147483647 + 1 by omega))
  have hprod : a.toInt.natAbs * m.toNat = (rah a).toNat * (rbh m).toNat * 4294967296
      + ((rah a).toNat * (rbl m).toNat + (ral a).toNat * (rbh m).toNat) * 65536 + (ral a).toNat * (rbl m).toNat := by
    rw [← d1, ← d2]; ring
  have h43 : (rlow a m).toNat = (ral a).toNat * (rbl m).toNat := by
    unfold rlow IntOp.muli; rw [BitVec.toNat_mul]; omega
  have h50 : (rmid a m).toNat = (rah a).toNat * (rbl m).toNat + (ral a).toNat * (rbh m).toNat := by
    unfold rmid IntOp.muli IntOp.addi; rw [BitVec.toNat_add, BitVec.toNat_mul, BitVec.toNat_mul]; omega
  have h56 : (rlow1 a m).toNat = ((rlow a m).toNat + (rmid a m).toNat * 65536 % 4294967296) % 4294967296 := by
    unfold rlow1 IntOp.addi; rw [shli_lit _ _ 16 (by decide), BitVec.toNat_add, BitVec.toNat_shiftLeft, Nat.shiftLeft_eq]
  have h66 : (rlow2 a m).toNat = ((rlow1 a m).toNat + (1073741824 - (if a.toInt < 0 then 1 else 0))) % 4294967296 := by
    unfold rlow2 IntOp.addi IntOp.subi
    rw [BitVec.toNat_add, BitVec.toNat_sub, hneg]
    have : (1073741824#32 : BitVec 32).toNat = 1073741824 := rfl
    rw [this]
    split <;> omega
  have c1 := ult_toNat (rlow1 a m) (rlow a m)
  have c2 := ult_toNat (rlow2 a m) (rlow1 a m)
  have hmid : (IntOp.shrui .host (rmid a m) 16#32).toNat = (rmid a m).toNat / 65536 := by
    rw [shrui_lit _ _ 16 (by decide), BitVec.toNat_ushiftRight, Nat.shiftRight_eq_div_pow]
  have hhi : (rhigh a m).toNat = (rah a).toNat * (rbh m).toNat + (rmid a m).toNat / 65536
      + (if (rlow1 a m).toNat < (rlow a m).toNat then 1 else 0) + (if (rlow2 a m).toNat < (rlow1 a m).toNat then 1 else 0) := by
    unfold rhigh IntOp.addi IntOp.muli
    rw [BitVec.toNat_add, BitVec.toNat_add, BitVec.toNat_add, BitVec.toNat_mul, c1, c2, hmid]
    have := (rmid a m).isLt
    split <;> split <;> omega
  rw [hprod]
  rw [hprod] at qP
  clear hprod d1 d2 c1 c2 hmid hneg
  generalize (rah a).toNat * (rbh m).toNat = W at *
  generalize (rah a).toNat * (rbl m).toNat = X at *
  generalize (ral a).toNat * (rbh m).toNat = Y at *
  generalize (ral a).toNat * (rbl m).toNat = Z at *
  generalize (rhigh a m).toNat = hi at *
  generalize (rlow2 a m).toNat = l2 at *
  generalize (rlow1 a m).toNat = l1 at *
  generalize (rlow a m).toNat = l0 at *
  generalize (rmid a m).toNat = md at *
  clear h34 h36 h38 h40 b34 b36 b38 b40 hN hmN hb hmb hm
  by_cases hs : a.toInt < 0
  · simp only [hs, if_true] at h66 ⊢
    split at hhi <;> split at hhi <;> omega
  · simp only [hs, if_false] at h66 ⊢
    split at hhi <;> split at hhi <;> omega

/-- Negation, up to the word size. -/
theorem toInt_emod_neg (x : BitVec 32) : (-x).toInt % 4294967296 = (-x.toInt) % 4294967296 := by
  rw [BitVec.toInt_neg]; exact Int.bmod_emod

/-- The reference's high word is the product plus 2^30 divided by 2^31. -/
theorem refH_eq (a m : BitVec 32) (hm : 0 ≤ m.toInt) :
    refH a m = BitVec.ofInt 32 ((a.toInt * m.toInt + 1073741824) / 2147483648) := by
  obtain ⟨hP, hlt⟩ := rparts a m hm
  have hb := toInt_bounds a
  have hmN : m.toInt = (m.toNat : ℤ) := by
    have := m.isLt
    rw [BitVec.toInt_eq_toNat_cond] at hm ⊢; split at hm <;> split <;> omega
  have hq : (rq a m).toNat = (rhigh a m).toNat * 2 + (rlow2 a m).toNat / 2147483648 := by
    unfold rq IntOp.ori
    have hl := (rlow2 a m).isLt
    rw [shli_lit _ _ 1 (by decide), shrui_lit _ _ 31 (by decide), BitVec.toNat_or, BitVec.toNat_shiftLeft,
      BitVec.toNat_ushiftRight, Nat.shiftRight_eq_div_pow]
    have e : (rhigh a m).toNat <<< 1 % 2 ^ 32 = (rhigh a m).toNat <<< 1 := by
      rw [Nat.shiftLeft_eq]; omega
    rw [e, ← Nat.shiftLeft_add_eq_or_of_lt (by omega), Nat.shiftLeft_eq]
  have hqi := toNat_eq (rq a m)
  have hl := (rlow2 a m).isLt
  apply eq_ofInt_of_emod
  have hsel : (Scalar.select (rneg a) (-(rq a m)) (rq a m)) = if a.toInt < 0 then -(rq a m) else rq a m := by
    unfold Scalar.select
    have h := rneg_toNat a
    by_cases h0 : a.toInt < 0
    · rw [if_pos h0] at h ⊢
      rw [if_pos]
      apply BitVec.eq_of_toNat_eq
      have := (rneg a).isLt
      rw [BitVec.toNat_setWidth] at h
      have e : (1 : BitVec 1).toNat = 1 := rfl
      omega
    · rw [if_neg h0] at h ⊢
      rw [if_neg]
      intro h1
      rw [h1] at h
      exact absurd h (by decide)
  unfold refH
  rw [hsel, hmN]
  by_cases h0 : a.toInt < 0
  · rw [if_pos h0]
    rw [if_pos h0] at hP
    have hA : a.toInt * (m.toNat : ℤ) = -((a.toInt.natAbs * m.toNat : ℕ) : ℤ) := by
      push_cast
      rw [abs_of_neg h0]; ring
    rw [hA, toInt_emod_neg]
    generalize ((a.toInt.natAbs * m.toNat : ℕ) : ℤ) = W at *
    have hq' : ((rq a m).toNat : ℤ) = ((rhigh a m).toNat : ℤ) * 2 + ((rlow2 a m).toNat : ℤ) / 2147483648 := by rw [hq]; norm_num
    have hl' : ((rlow2 a m).toNat : ℤ) < 4294967296 := by exact_mod_cast hl
    have hl0 : (0 : ℤ) ≤ ((rlow2 a m).toNat : ℤ) := Int.natCast_nonneg _
    generalize ((rlow2 a m).toNat : ℤ) = l at *
    generalize ((rhigh a m).toNat : ℤ) = hi at *
    rw [hq'] at hqi
    clear hq hl hlt hA hsel hmN hb hm hq'
    omega
  · rw [if_neg h0]
    rw [if_neg h0] at hP
    have hA : a.toInt * (m.toNat : ℤ) = ((a.toInt.natAbs * m.toNat : ℕ) : ℤ) := by
      push_cast
      rw [abs_of_nonneg (not_lt.mp h0)]
    rw [hA]
    generalize ((a.toInt.natAbs * m.toNat : ℕ) : ℤ) = W at *
    have hq' : ((rq a m).toNat : ℤ) = ((rhigh a m).toNat : ℤ) * 2 + ((rlow2 a m).toNat : ℤ) / 2147483648 := by rw [hq]; norm_num
    have hl' : ((rlow2 a m).toNat : ℤ) < 4294967296 := by exact_mod_cast hl
    have hl0 : (0 : ℤ) ≤ ((rlow2 a m).toNat : ℤ) := Int.natCast_nonneg _
    generalize ((rlow2 a m).toNat : ℤ) = l at *
    generalize ((rhigh a m).toNat : ℤ) = hi at *
    rw [hq'] at hqi
    clear hq hl hlt hA hsel hmN hb hm hq'
    omega

/-- Both high words are one. -/
theorem high_eq (a m : BitVec 32) (hm : 0 ≤ m.toInt) : kerH a m = refH a m := (kerH_eq a m hm).trans (refH_eq a m hm).symm

/-- The high word lies strictly inside the signed words: at least 1 - 2^31 and at most 2^31 - 2. -/
theorem high_bounds (a m : BitVec 32) (hm : 0 ≤ m.toInt) :
    -2147483647 ≤ (refH a m).toInt ∧ (refH a m).toInt ≤ 2147483646 := by
  have ha := toInt_bounds a
  have hb := toInt_bounds m
  have p1 : a.toInt * m.toInt ≤ 2147483647 * 2147483647 := by nlinarith
  have p2 : -(2147483648 * 2147483647) ≤ a.toInt * m.toInt := by nlinarith
  rw [refH_eq a m hm]
  generalize a.toInt * m.toInt = W at *
  rw [BitVec.toInt_ofInt, Int.bmod_def]
  split <;> omega

end Cert.Math
-- ==== Proof.Math.Round.lean ====
/-
  The rounding division by a power of two, the zero point and the clip: the kernel's two shifts give the reference's
  quotient plus one where the remainder passes the threshold, for an exponent from 1 to 31.
-/
module

public import proofs.«01_k».proof.Proof.Math.RefHigh

@[expose] public section

namespace Cert.Math

open Idealize.ShloMosaic

/-- The kernel's rounding division of the high word `h` by 2^s. -/
def kerD (h s : BitVec 32) : BitVec 32 :=
  IntOp.shrsi .vector (IntOp.addi (IntOp.shrsi .vector (IntOp.addi h (IntOp.shrsi .vector h 31#32)) (IntOp.subi s 1#32)) 1#32) 1#32
/-- The reference's mask of the remainder. -/
def rmask (s : BitVec 32) : BitVec 32 := IntOp.subi (IntOp.shli .host 1#32 s) 1#32
/-- The reference's rounding division. -/
def refD (h s : BitVec 32) : BitVec 32 :=
  IntOp.addi (IntOp.shrsi .host h s)
    ((IntOp.cmpi .sgt (IntOp.andi h (rmask s))
      (IntOp.addi (IntOp.shrsi .host (rmask s) 1#32) ((IntOp.cmpi .slt h 0#32).setWidth 32))).setWidth 32)
/-- The kernel's result byte from the accumulated word. -/
def kerY (a m s y : BitVec 32) : BitVec 8 :=
  (IntOp.minsi (IntOp.maxsi (IntOp.addi (kerD (kerH a m) s) y) 0#32) 255#32).setWidth 8
/-- The reference's result byte from the accumulated word. -/
def refY (a m s y : BitVec 32) : BitVec 8 :=
  (IntOp.minsi 255#32 (IntOp.maxsi 0#32 (IntOp.addi (refD (refH a m) s) y))).setWidth 8

/-- The signed reading of a word below 2^31. -/
theorem toInt_eq_of_nat (x : BitVec 32) (n : ℕ) (h : x.toNat = n) (hn : n < 2147483648) : x.toInt = n := by
  rw [toInt_small x (by omega), h]

/-- A zero or one is small. -/
theorem ite_small (p : Prop) [Decidable p] : (if p then 1 else 0 : ℕ) < 2147483648 := by split <;> decide

/-- The kernel's rounding division as an integer. -/
theorem kerD_toInt (h : BitVec 32) (k : ℕ) (hk : k < 31) (h1 : -2147483647 ≤ h.toInt) (h2 : h.toInt ≤ 2147483646) :
    (kerD h (BitVec.ofNat 32 (k + 1))).toInt = ((h.toInt - if h.toInt < 0 then 1 else 0) / 2 ^ k + 1) / 2 := by
  unfold kerD IntOp.addi IntOp.subi
  have es : BitVec.ofNat 32 (k + 1) - 1#32 = BitVec.ofNat 32 k := by
    apply BitVec.eq_of_toNat_eq
    rw [BitVec.toNat_sub, BitVec.toNat_ofNat, BitVec.toNat_ofNat, BitVec.toNat_ofNat]
    omega
  rw [es, shrsi_lit _ _ 31 (by decide), shrsi_lit _ _ k (by omega), shrsi_lit _ _ 1 (by decide)]
  have e31 := toInt_sshr_of h 31 2147483648 (by norm_num)
  have et : (h + h.sshiftRight 31).toInt = h.toInt - if h.toInt < 0 then 1 else 0 := by
    apply toInt_of_emod
    · rw [toInt_emod_add, e31]; split <;> omega
    · split <;> omega
    · split <;> omega
  have ek := toInt_sshr (h + h.sshiftRight 31) k
  rw [et] at ek
  have hpos : (0 : ℤ) < 2 ^ k := by positivity
  have b1 : -2147483648 ≤ (h.toInt - if h.toInt < 0 then 1 else 0) / 2 ^ k := by
    rw [Int.le_ediv_iff_mul_le hpos]
    have : (1 : ℤ) ≤ 2 ^ k := by omega
    split <;> nlinarith
  have b2 : (h.toInt - if h.toInt < 0 then 1 else 0) / 2 ^ k ≤ 2147483646 := by
    have : (1 : ℤ) ≤ 2 ^ k := by omega
    have h3 : (h.toInt - if h.toInt < 0 then 1 else 0) / 2 ^ k < 2147483647 := by
      rw [Int.ediv_lt_iff_lt_mul hpos]
      split <;> nlinarith
    omega
  have e1 : ((h + h.sshiftRight 31).sshiftRight k + 1#32).toInt = (h.toInt - if h.toInt < 0 then 1 else 0) / 2 ^ k + 1 := by
    apply toInt_of_emod
    · rw [toInt_emod_add, ek]; rfl
    · omega
    · omega
  rw [toInt_sshr_of _ 1 2 (by norm_num), e1]

/-- The reference's mask. -/
theorem rmask_toNat (k : ℕ) (hk : k < 31) : (rmask (BitVec.ofNat 32 (k + 1))).toNat = 2 ^ (k + 1) - 1 := by
  have hp : 2 ^ (k + 1) ≤ 2 ^ 31 := Nat.pow_le_pow_right (by decide) (by omega)
  have hp1 : 1 ≤ 2 ^ (k + 1) := Nat.one_le_two_pow
  unfold rmask IntOp.subi
  rw [shli_lit _ _ (k + 1) (by omega), BitVec.toNat_sub, BitVec.toNat_shiftLeft, Nat.shiftLeft_eq]
  have e : (1#32 : BitVec 32).toNat = 1 := rfl
  rw [e, Nat.one_mul]
  omega

/-- The reference's rounding division as an integer. -/
theorem refD_toInt (h : BitVec 32) (k : ℕ) (hk : k < 31) :
    (refD h (BitVec.ofNat 32 (k + 1))).toInt
      = h.toInt / 2 ^ (k + 1) + if 2 ^ k - 1 + (if h.toInt < 0 then 1 else 0) < h.toInt % 2 ^ (k + 1) then 1 else 0 := by
  have hb := toInt_bounds h
  have hm := rmask_toNat k hk
  have hp : 2 ^ (k + 1) ≤ 2 ^ 31 := Nat.pow_le_pow_right (by decide) (by omega)
  have hp1 : 1 ≤ 2 ^ k := Nat.one_le_two_pow
  have hps : 2 ^ (k + 1) = 2 * 2 ^ k := by ring
  unfold refD IntOp.addi IntOp.andi
  rw [shrsi_lit _ _ (k + 1) (by omega), shrsi_lit _ _ 1 (by decide)]
  have e0 := toInt_sshr h (k + 1)
  have emi : (rmask (BitVec.ofNat 32 (k + 1))).toInt = 2 ^ (k + 1) - 1 := by
    rw [toInt_small _ (by omega), hm]
    push_cast [Nat.one_le_two_pow]; rfl
  have eth : ((rmask (BitVec.ofNat 32 (k + 1))).sshiftRight 1).toInt = 2 ^ k - 1 := by
    rw [toInt_sshr_of _ 1 2 (by norm_num), emi, pow_succ]
    omega
  have eneg := rneg_toNat h
  have enegi := toInt_small ((rneg h).setWidth 32) (by rw [eneg]; split <;> omega)
  rw [eneg] at enegi
  have ethr : ((rmask (BitVec.ofNat 32 (k + 1))).sshiftRight 1 + (rneg h).setWidth 32).toInt
      = 2 ^ k - 1 + if h.toInt < 0 then 1 else 0 := by
    have hpz : (2 : ℤ) ^ k ≤ 1073741824 := by
      have : (2 : ℤ) ^ k ≤ 2 ^ 30 := pow_le_pow_right₀ (by norm_num) (by omega)
      omega
    have hpz1 : (1 : ℤ) ≤ 2 ^ k := one_le_pow₀ (by norm_num)
    apply toInt_of_emod
    · rw [toInt_emod_add, eth, enegi]; split <;> simp
    · split <;> omega
    · split <;> omega
  have erem : (h &&& rmask (BitVec.ofNat 32 (k + 1))).toInt = h.toInt % 2 ^ (k + 1) := by
    have en : (h &&& rmask (BitVec.ofNat 32 (k + 1))).toNat = h.toNat % 2 ^ (k + 1) := by
      rw [BitVec.toNat_and, hm, Nat.and_two_pow_sub_one_eq_mod]
    have hlt : h.toNat % 2 ^ (k + 1) < 2 ^ (k + 1) := Nat.mod_lt _ (by omega)
    rw [toInt_small _ (by omega), en]
    push_cast
    rw [toNat_eq h]
    exact Int.emod_emod_of_dvd _ (by
      have : (4294967296 : ℤ) = 2 ^ (k + 1) * 2 ^ (31 - k) := by
        rw [← pow_add, show k + 1 + (31 - k) = 32 by omega]; norm_num
      exact ⟨_, this⟩)
  have ecmp : ((IntOp.cmpi .sgt (h &&& rmask (BitVec.ofNat 32 (k + 1)))
      ((rmask (BitVec.ofNat 32 (k + 1))).sshiftRight 1 + (rneg h).setWidth 32)).setWidth 32).toNat
      = if 2 ^ k - 1 + (if h.toInt < 0 then 1 else 0) < h.toInt % 2 ^ (k + 1) then 1 else 0 := by
    unfold IntOp.cmpi
    rw [toNat_bit]
    have hs : ((((rmask (BitVec.ofNat 32 (k + 1))).sshiftRight 1 + (rneg h).setWidth 32)).slt
        (h &&& rmask (BitVec.ofNat 32 (k + 1))) = true) ↔ 2 ^ k - 1 + (if h.toInt < 0 then 1 else 0) < h.toInt % 2 ^ (k + 1) := by
      rw [BitVec.slt_iff_toInt_lt, ethr, erem]
    by_cases h0 : 2 ^ k - 1 + (if h.toInt < 0 then 1 else 0) < h.toInt % 2 ^ (k + 1)
    · rw [if_pos h0, if_pos (hs.2 h0)]
    · rw [if_neg h0, if_neg (fun hh => h0 (hs.1 hh))]
  have hd : -2147483648 ≤ h.toInt / 2 ^ (k + 1) ∧ h.toInt / 2 ^ (k + 1) ≤ 2147483646 := by
    have hpz1 : (1 : ℤ) ≤ 2 ^ k := one_le_pow₀ (by norm_num)
    have hpos : (0 : ℤ) < 2 ^ (k + 1) := by positivity
    have hpe : (2 : ℤ) ^ (k + 1) = 2 * 2 ^ k := by ring
    constructor
    · rw [Int.le_ediv_iff_mul_le hpos]; nlinarith
    · have : h.toInt / 2 ^ (k + 1) < 2147483647 := by
        rw [Int.ediv_lt_iff_lt_mul hpos]; nlinarith
      omega
  change (h.sshiftRight (k + 1) + (IntOp.cmpi .sgt (h &&& rmask (BitVec.ofNat 32 (k + 1)))
      ((rmask (BitVec.ofNat 32 (k + 1))).sshiftRight 1 + (rneg h).setWidth 32)).setWidth 32).toInt = _
  have eci := toInt_small ((IntOp.cmpi .sgt (h &&& rmask (BitVec.ofNat 32 (k + 1)))
      ((rmask (BitVec.ofNat 32 (k + 1))).sshiftRight 1 + (rneg h).setWidth 32)).setWidth 32) (by rw [ecmp]; exact ite_small _)
  rw [ecmp] at eci
  apply toInt_of_emod
  · rw [toInt_emod_add, eci, e0]
    split <;> simp
  · split <;> omega
  · split <;> omega

/-- Division of a rounded half: adding half of the divisor once is rounding twice. -/
theorem half_up (H n P : ℤ) (hP : 0 < P) (hn : n = 0 ∨ n = 1) :
    ((H - n) / P + 1) / 2 = H / (P * 2) + if P - 1 + n < H % (P * 2) then 1 else 0 := by
  have h1 : ((H - n) / P + 1) / 2 = (H - n + P) / (P * 2) := by
    rw [show (H - n) / P + 1 = (H - n + P) / P by
      rw [show H - n + P = H - n + 1 * P by ring, Int.add_mul_ediv_right _ _ (by omega)],
      Int.ediv_ediv_of_nonneg (by omega)]
  rw [h1]
  have hd := Int.emod_add_mul_ediv H (P * 2)
  have hr1 := Int.emod_nonneg H (show P * 2 ≠ 0 by omega)
  have hr2 := Int.emod_lt_of_pos H (show 0 < P * 2 by omega)
  generalize H % (P * 2) = r at *
  generalize H / (P * 2) = q at *
  have e : H - n + P = r - n + P + q * (P * 2) := by rw [← hd]; ring
  rw [e, Int.add_mul_ediv_right _ _ (by omega)]
  have : (r - n + P) / (P * 2) = if P - 1 + n < r then 1 else 0 := by
    split
    · rw [show r - n + P = r - n - P + 1 * (P * 2) by ring, Int.add_mul_ediv_right _ _ (by omega),
        Int.ediv_eq_zero_of_lt (by omega) (by omega)]; rfl
    · exact Int.ediv_eq_zero_of_lt (by omega) (by omega)
  rw [this]; ring

/-- The rounding divisions are one where the high word cannot wrap. -/
theorem div_eq (h s : BitVec 32) (hs1 : 1 ≤ s.toInt) (hs2 : s.toInt ≤ 31) (h1 : -2147483647 ≤ h.toInt) (h2 : h.toInt ≤ 2147483646) :
    kerD h s = refD h s := by
  obtain ⟨k, hk, rfl⟩ : ∃ k, k < 31 ∧ s = BitVec.ofNat 32 (k + 1) := by
    refine ⟨s.toNat - 1, ?_, ?_⟩
    · have := s.isLt
      rw [BitVec.toInt_eq_toNat_cond] at hs1 hs2
      split at hs1 <;> omega
    · apply BitVec.eq_of_toNat_eq
      have := s.isLt
      rw [BitVec.toNat_ofNat]
      rw [BitVec.toInt_eq_toNat_cond] at hs1 hs2
      split at hs1 <;> omega
  apply BitVec.eq_of_toInt_eq
  rw [kerD_toInt h k hk h1 h2, refD_toInt h k hk, pow_succ]
  exact half_up _ _ _ (by positivity) (by split <;> simp)

/-- The two clippings are the same. -/
theorem clip_eq (v : BitVec 32) : IntOp.minsi (IntOp.maxsi v 0#32) 255#32 = IntOp.minsi 255#32 (IntOp.maxsi 0#32 v) := by
  have hmax : IntOp.maxsi v 0#32 = IntOp.maxsi 0#32 v := by
    unfold IntOp.maxsi
    by_cases ha : (0#32 : BitVec 32).slt v = true <;> by_cases hb : v.slt 0#32 = true
    · rw [if_pos ha, if_pos hb]
      rw [BitVec.slt_iff_toInt_lt] at ha hb; omega
    · rw [if_pos ha, if_neg hb]
    · rw [if_neg ha, if_pos hb]
    · rw [if_neg ha, if_neg hb]
      apply BitVec.eq_of_toInt_eq
      rw [BitVec.slt_iff_toInt_lt] at ha hb; omega
  rw [hmax]
  generalize IntOp.maxsi 0#32 v = w
  unfold IntOp.minsi
  by_cases ha : w.slt 255#32 = true <;> by_cases hb : (255#32 : BitVec 32).slt w = true
  · rw [if_pos ha, if_pos hb]
    rw [BitVec.slt_iff_toInt_lt] at ha hb; omega
  · rw [if_pos ha, if_neg hb]
  · rw [if_neg ha, if_pos hb]
  · rw [if_neg ha, if_neg hb]
    apply BitVec.eq_of_toInt_eq
    rw [BitVec.slt_iff_toInt_lt] at ha hb; omega

/-- From one accumulated word the kernel and the reference write one byte. -/
theorem byte_eq (a m s y : BitVec 32) (hm : 0 ≤ m.toInt) (hs1 : 1 ≤ s.toInt) (hs2 : s.toInt ≤ 31) :
    kerY a m s y = refY a m s y := by
  have hb := high_bounds a m hm
  unfold kerY refY
  rw [high_eq a m hm, div_eq (refH a m) s hs1 hs2 hb.1 hb.2, clip_eq]

end Cert.Math
-- ==== Proof.KernelIdeal.Stripe3.lean ====
module

public import proofs.«01_k».proof.Proof.KernelIdeal.Stripe2
public import proofs.«01_k».proof.Proof.KernelIdeal.Body
public import proofs.«01_k».proof.Proof.Math.Round

@[expose] public section

set_option maxRecDepth 16384

noncomputable section

namespace Cert.KernelIdeal.Own

open Idealize.ShloMosaic Idealize.ShloMosaic.TcCoe
open Cert.KernelIdeal.Gen Cert.Math

/-- The place of column `q` in a one-row block. -/
abbrev r1 (q : Fin 512) : S1x512.Idx := ix2 (n0 := 1) (n1 := 512) 0 q

/-- A one-row block spread over the rows of a stripe. -/
theorem brow (m : IVec S1x512 32) (j : S256x512.Idx) : broadcastTo S256x512 m broadcasts_S1x512_S256x512 j = m (r1 (j 1)) :=
  broadcastTo_apply _ _ j _ (by intro a; fin_cases a <;> rfl)

/-- The requantisation of a stripe, at one element. -/
theorem requant_apply (yzp : Elt Ideal .i32) (b7 b8 : Vec Ideal S1x512 .i32) (A : IVec S256x512 32) (j : S256x512.Idx) :
    k1_pay32 (k1_pay31 (F := Ideal) yzp (k1_pay25 (F := Ideal) b7) (k1_pay26 (F := Ideal) b8) A (k1_pay29 (k1_pay25 (F := Ideal) b7)) k1_pay30) j
      = kerY (A j) (b7 (r1 (j 1))) (b8 (r1 (j 1))) yzp := by
  have e7 : k1_pay25 (F := Ideal) b7 = b7 := shapeCast_id _ _
  have e8 : k1_pay26 (F := Ideal) b8 = b8 := shapeCast_id _ _
  rw [e7, e8]
  unfold k1_pay32 k1_pay31 k1_pay29 k1_pay30
  simp only [pointwise, brow]
  rfl

/-- The row sums, repeated across the columns of a stripe. -/
theorem concat_apply (s : IVec S256x128 32) (j : S256x512.Idx) :
    concatenate S256x512 1 [⟨S256x128, s⟩, ⟨S256x128, s⟩, ⟨S256x128, s⟩, ⟨S256x128, s⟩] concatenates_S256x128_S256x128_S256x128_S256x128_S256x512_d1 j
      = s (ix2 (n0 := 256) (n1 := 128) (j 0) ⟨(j 1).val % 128, Nat.mod_lt _ (by norm_num)⟩) :=
  concatenate_replicate_apply (t := S256x512) 1 4 s concatenates_S256x128_S256x128_S256x128_S256x128_S256x512_d1 rfl j _ rfl (by
    intro b hb
    fin_cases b
    · rfl
    · exact absurd rfl hb)

/-- The partial product number `c` of a stripe, at one element. -/
theorem part_dotZ (a : FVec Ideal S256x1024 .bf16) (v : FVec Ideal S5120x512 .bf16) (o c : ℕ) (ho : o = 1024 * c)
    (h : S5120x512.Slices ![o, 0] S1024x512) (j : S256x512.Idx) (X W : ℕ → BitVec 8)
    (hA : ∀ k : Fin 1024, a (ix2 (n0 := 256) (n1 := 1024) (j 0) k) = iv (((X (1024 * c + k.val)).toNat : ℤ) - 128))
    (hW : ∀ y : S5120x512.Idx, (y 1).val = (j 1).val → v y = iv (((W (y 0).val).toNat : ℤ) - 128)) :
    fptosi (F := Ideal) 32 (roundeven (matmul dot_S256x1024_S1024x512_S256x512_1_0_0_1_n_n none a
      (extractStridedSlice S1024x512 ![o, 0] v h) (constant S256x512 .f32 0x00000000#32))) j
      = BitVec.ofInt 32 (dotZ X W c) := by
  subst ho
  refine part_apply a _ j (fun k => ((X (1024 * c + k)).toNat : ℤ) - 128) (fun k => ((W (1024 * c + k)).toNat : ℤ) - 128)
    hA (fun k => ?_) (dotZ_bound X W c)
  refine (hW _ ?_).trans ?_
  · show 0 + (j 1).val = (j 1).val
    omega
  · rfl

/-- The accumulator of a stripe, at one element. -/
theorem pay28_apply (xzp : Elt Ideal .i32) (w : Vec Ideal S5120x512 .i8) (b4 b5 b6 : Vec Ideal S1x512 .i32)
    (a b c d e : Vec Ideal S256x1024 .bf16) (s : Vec Ideal S256x128 .i32) (j : S256x512.Idx) (X : ℕ → BitVec 8) (S : BitVec 32)
    (ha : ∀ k : Fin 1024, a (ix2 (n0 := 256) (n1 := 1024) (j 0) k) = iv (((X (1024 * 0 + k.val)).toNat : ℤ) - 128))
    (hb : ∀ k : Fin 1024, b (ix2 (n0 := 256) (n1 := 1024) (j 0) k) = iv (((X (1024 * 1 + k.val)).toNat : ℤ) - 128))
    (hc : ∀ k : Fin 1024, c (ix2 (n0 := 256) (n1 := 1024) (j 0) k) = iv (((X (1024 * 2 + k.val)).toNat : ℤ) - 128))
    (hd : ∀ k : Fin 1024, d (ix2 (n0 := 256) (n1 := 1024) (j 0) k) = iv (((X (1024 * 3 + k.val)).toNat : ℤ) - 128))
    (he : ∀ k : Fin 1024, e (ix2 (n0 := 256) (n1 := 1024) (j 0) k) = iv (((X (1024 * 4 + k.val)).toNat : ℤ) - 128))
    (hs : ∀ q : Fin 128, s (ix2 (n0 := 256) (n1 := 128) (j 0) q) = S) :
    k1_pay28 (F := Ideal) (k1_pay23 (F := Ideal) xzp b5 b4 b6) (k1_pay24 (F := Ideal) b5) (k1_pay27 (F := Ideal) w) 0#32 a b c d e s j
      = accK X (wcol (F := Ideal) w (j 1).val) S (b4 (r1 (j 1))) xzp (b5 (r1 (j 1))) (b6 (r1 (j 1))) := by
  have hW : ∀ y : S5120x512.Idx, (y 1).val = (j 1).val →
      k1_pay27 (F := Ideal) w y = iv (((wcol (F := Ideal) w (j 1).val (y 0).val).toNat : ℤ) - 128) := by
    intro y hy
    rw [pay27_apply]
    have : wcol (F := Ideal) w (j 1).val (y 0).val = w y := by
      show w _ = w _
      rw [← hy]
      exact congrArg w (ix_self _ y)
    rw [this]
  unfold k1_pay28
  show IntOp.addi (IntOp.addi (IntOp.addi (IntOp.addi (IntOp.addi (IntOp.addi (IntOp.addi 0#32 _) _) _) _) _)
    (IntOp.muli (broadcastTo S256x512 _ _ j) (concatenate S256x512 1 _ _ j))) (broadcastTo S256x512 _ _ j) = _
  rw [brow, brow, concat_apply, hs,
    part_dotZ a _ 0 0 rfl _ j X _ ha hW, part_dotZ b _ 1024 1 rfl _ j X _ hb hW, part_dotZ c _ 2048 2 rfl _ j X _ hc hW,
    part_dotZ d _ 3072 3 rfl _ j X _ hd hW, part_dotZ e _ 4096 4 rfl _ j X _ he hW]
  have e23 : k1_pay23 (F := Ideal) xzp b5 b4 b6 (r1 (j 1)) = kcol (b4 (r1 (j 1))) xzp (b5 (r1 (j 1))) (b6 (r1 (j 1))) := by
    unfold k1_pay23 k1_pay22
    simp only [shapeCast_id]
    rfl
  have e24 : k1_pay24 (F := Ideal) b5 (r1 (j 1)) = IntOp.subi 128#32 (b5 (r1 (j 1))) := by
    unfold k1_pay24 k1_pay22
    simp only [shapeCast_id]
    rfl
  rw [e23, e24]
  rfl

/-- The operand kept in the narrow float format, at an element of a tile: the byte less 128. -/
theorem xchunk_XB (x : S1024x5120.Idx → Elt Ideal .i8) (r c : ℕ) (hr : r < 4) (hc : c < 5) (p : Fin 256) (k : Fin 1024) :
    xchunk (F := Ideal) (XB (F := Ideal) x) r c (ix2 (n0 := 256) (n1 := 1024) p k)
      = iv (((xrow (F := Ideal) x (256 * r + p.val) (1024 * c + k.val)).toNat : ℤ) - 128) := by
  unfold xchunk
  rw [XB_apply]
  rfl

/-- The block a grid step stores, at one element: the requantised accumulator. -/
theorem outB_apply (x0 x1 : S1.Idx → Elt Ideal .i32) (x : S1024x5120.Idx → Elt Ideal .i8) (w : Vec Ideal S5120x512 .i8)
    (b4 b5 b6 b7 b8 : Vec Ideal S1x512 .i32) (y : S1024x512.Idx) :
    outB (F := Ideal) x0 x1 w b4 b5 b6 b7 b8 (XB (F := Ideal) x) (SX (F := Ideal) x) y
      = kerY (accK (xrow (F := Ideal) x (y 0).val) (wcol (F := Ideal) w (y 1).val) (sumU (xrow (F := Ideal) x (y 0).val)) (b4 (r1 (y 1)))
          (x0 zero1) (b5 (r1 (y 1))) (b6 (r1 (y 1)))) (b7 (r1 (y 1))) (b8 (r1 (y 1))) (x1 zero1) := by
  have h0 : (y 0).val < 1024 := (y 0).isLt
  have h1 : (y 1).val < 512 := (y 1).isLt
  have hr : (y 0).val / 256 < 4 := by omega
  unfold outB stripe
  obtain ⟨j, hj⟩ : ∃ j : S256x512.Idx, j = ix (d := ![256, 512]) (by decide) ((y 0).val % 256) (y 1).val := ⟨_, rfl⟩
  have hj0 : (j 0).val = (y 0).val % 256 := by
    rw [hj]
    exact Nat.mod_mod _ _
  have hj1 : j 1 = y 1 := by
    rw [hj]
    exact Fin.ext (Nat.mod_eq_of_lt h1)
  have ep : 256 * ((y 0).val / 256) + (j 0).val = (y 0).val := by omega
  have hp : ∀ (c : ℕ) (hc : c < 5) (k : Fin 1024), xchunk (F := Ideal) (XB (F := Ideal) x) ((y 0).val / 256) c
      (ix2 (n0 := 256) (n1 := 1024) (j 0) k) = iv (((xrow (F := Ideal) x (y 0).val (1024 * c + k.val)).toNat : ℤ) - 128) := by
    intro c hc k
    refine (xchunk_XB x _ c hr hc (j 0) k).trans ?_
    rw [ep]
  have hs : ∀ q : Fin 128, schunk (F := Ideal) (SX (F := Ideal) x) ((y 0).val / 256)
      (ix2 (n0 := 256) (n1 := 128) (j 0) q) = sumU (xrow (F := Ideal) x (y 0).val) := by
    intro q
    unfold schunk
    rw [SX_apply]
    refine congrArg (fun n : ℕ => sumU (xrow (F := Ideal) x n)) ?_
    show (256 * ((y 0).val / 256) + (j 0).val) % 1024 = (y 0).val
    rw [ep]
    exact Nat.mod_eq_of_lt h0
  rw [← hj, requant_apply, pay28_apply (x0 zero1) w b4 b5 b6 _ _ _ _ _ _ j (xrow (F := Ideal) x (y 0).val) (sumU (xrow (F := Ideal) x (y 0).val))
    (hp 0 (by decide)) (hp 1 (by decide)) (hp 2 (by decide)) (hp 3 (by decide)) (hp 4 (by decide)) hs, hj1]

end Cert.KernelIdeal.Own
-- ==== Proof.KernelIdeal.Arrays.lean ====
module

public import proofs.«01_k».proof.Proof.KernelIdeal.Run
public import proofs.«01_k».proof.Proof.KernelIdeal.ColSum
public import proofs.«01_k».proof.Proof.KernelIdeal.Stripe3
public import Idealize.ShloMosaic.Lib.Pipeline.ValueKit

@[expose] public section

set_option maxRecDepth 16384

noncomputable section

namespace Cert.KernelIdeal.Own

open Idealize.ShloMosaic Idealize.ShloMosaic.TcCoe
open Idealize.ShloMosaic.Pipeline (Dat Cfg Window)
open Cert.KernelIdeal.Gen Cert.Math

variable {F : FTy → Type} [FloatOps F]
variable (V : (c : Dev nD) → (b : Ref sig .tc) → Buf (Elt F) ((c : Thread nD τ).loc b))

/-- Column `n` of the weight matrix. -/
def wmat (w : Vec F S5120x27648 .i8) (n : ℕ) : ℕ → BitVec 8 := fun k => w (ix (d := ![5120, 27648]) (by decide) k n)

/-- Row `p` of the input, its batch and sequence axes flattened. -/
def xmat (x : Vec F S16384x5120 .i8) (p : ℕ) : ℕ → BitVec 8 := fun k => x (ix (d := ![16384, 5120]) (by decide) p k)

/-- The block of window 0 of region 0 at a grid point. -/
theorem e00 : ∀ t : Fin cfg0.N, win0_0.index t = ![0, t.val] := (by decide +kernel : ∀ t : Fin grid0.N, _)
/-- The block of window 1 of region 0 at a grid point. -/
theorem e01 : ∀ t : Fin cfg0.N, win0_1.index t = ![0, t.val] := (by decide +kernel : ∀ t : Fin grid0.N, _)

/-- The weight block of grid point `t`. -/
theorem wblk0 (c : Dev nD) (t : Fin cfg0.N) (q : ℕ) (hq : q < 512) :
    wcol (F := F) (iblk0 V c 0 t) q = wmat (F := F) (V c main_arg2) (t.val * 512 + q) := by
  funext k
  unfold wcol wmat
  blk_simp [iblk0]
  congr 1
  have ht : t.val < 54 := t.isLt
  funext a
  apply Fin.ext
  fin_cases a
  · blk_simp [e00]
    show k % 5120 = k % 5120
    rfl
  · blk_simp [e00]
    show t.val * 512 + q % 512 = (t.val * 512 + q) % 27648
    omega

/-- The array of column sums after the first program part. -/
theorem arr0 (c : Dev nD) : (dat0 V c).arrAt 1 cfg0.N = fun i : S1x27648.Idx => sumU (wmat (F := F) (V c main_arg2) (i 1).val) := by
  refine (dat0 V c).arrAt_eq_of_covers 1 _ (by decide +kernel) fun t hf y => ?_
  blk_simp
  rw [after0_1]
  refine (out0_apply _ y).trans ?_
  rw [wblk0 V c t (y 1).val (y 1).isLt]
  blk_simp [e01]

/-- Element `n` of a row of per-column numbers. -/
abbrev r27 (n : Fin 27648) : S1x27648.Idx := ix2 (n0 := 1) (n1 := 27648) 0 n

/-- The block of window 0 of region 1 at a grid point. -/
theorem e10 : ∀ t : Fin cfg1.N, win1_0.index t = ![0] := (by decide +kernel : ∀ t : Fin grid1.N, _)
/-- The block of window 1 of region 1 at a grid point. -/
theorem e11 : ∀ t : Fin cfg1.N, win1_1.index t = ![0] := (by decide +kernel : ∀ t : Fin grid1.N, _)
/-- The block of window 2 of region 1 at a grid point. -/
theorem e12 : ∀ t : Fin cfg1.N, win1_2.index t = ![t.val / 54, 0] := (by decide +kernel : ∀ t : Fin grid1.N, _)
/-- The block of window 3 of region 1 at a grid point. -/
theorem e13 : ∀ t : Fin cfg1.N, win1_3.index t = ![0, t.val % 54] := (by decide +kernel : ∀ t : Fin grid1.N, _)
/-- The block of window 4 of region 1 at a grid point. -/
theorem e14 : ∀ t : Fin cfg1.N, win1_4.index t = ![0, t.val % 54] := (by decide +kernel : ∀ t : Fin grid1.N, _)
/-- The block of window 5 of region 1 at a grid point. -/
theorem e15 : ∀ t : Fin cfg1.N, win1_5.index t = ![0, t.val % 54] := (by decide +kernel : ∀ t : Fin grid1.N, _)
/-- The block of window 6 of region 1 at a grid point. -/
theorem e16 : ∀ t : Fin cfg1.N, win1_6.index t = ![0, t.val % 54] := (by decide +kernel : ∀ t : Fin grid1.N, _)
/-- The block of window 7 of region 1 at a grid point. -/
theorem e17 : ∀ t : Fin cfg1.N, win1_7.index t = ![0, t.val % 54] := (by decide +kernel : ∀ t : Fin grid1.N, _)
/-- The block of window 8 of region 1 at a grid point. -/
theorem e18 : ∀ t : Fin cfg1.N, win1_8.index t = ![0, t.val % 54] := (by decide +kernel : ∀ t : Fin grid1.N, _)
/-- The block of window 9 of region 1 at a grid point. -/
theorem e19 : ∀ t : Fin cfg1.N, win1_9.index t = ![t.val / 54, t.val % 54] := (by decide +kernel : ∀ t : Fin grid1.N, _)

/-- The operand block of grid point `t`. -/
theorem xblk1 (c : Dev nD) (t : Fin cfg1.N) (p : ℕ) (hp : p < 1024) :
    xrow (F := F) (iblk1 V c 2 t) p = xmat (F := F) (V c main_v0) (t.val / 54 * 1024 + p) := by
  funext k
  unfold xrow xmat
  blk_simp [iblk1]
  congr 1
  have ht : t.val < 864 := t.isLt
  funext a
  apply Fin.ext
  fin_cases a
  · blk_simp [e12]
    show t.val / 54 * 1024 + p % 1024 = (t.val / 54 * 1024 + p) % 16384
    omega
  · blk_simp [e12]
    show k % 5120 = k % 5120
    rfl

/-- The weight block of grid point `t`. -/
theorem wblk1 (c : Dev nD) (t : Fin cfg1.N) (q : ℕ) (hq : q < 512) :
    wcol (F := F) (iblk1 V c 3 t) q = wmat (F := F) (V c main_arg2) (t.val % 54 * 512 + q) := by
  funext k
  unfold wcol wmat
  blk_simp [iblk1]
  congr 1
  have ht : t.val < 864 := t.isLt
  funext a
  apply Fin.ext
  fin_cases a
  · blk_simp [e13]
    show k % 5120 = k % 5120
    rfl
  · blk_simp [e13]
    show t.val % 54 * 512 + q % 512 = (t.val % 54 * 512 + q) % 27648
    omega

/-- The block of per-column numbers of window 4 at grid point `t`. -/
theorem cblk4 (c : Dev nD) (t : Fin cfg1.N) (q : Fin 512) (n : Fin 27648) (h : n.val = t.val % 54 * 512 + q.val) :
    iblk1 V c 4 t (r1 q) = V c main_v1 (r27 n) := by
  blk_simp [iblk1]
  congr 1
  funext a
  apply Fin.ext
  fin_cases a
  · blk_simp [e14]
  · blk_simp [e14]
    exact h.symm

/-- The block of per-column numbers of window 5 at grid point `t`. -/
theorem cblk5 (c : Dev nD) (t : Fin cfg1.N) (q : Fin 512) (n : Fin 27648) (h : n.val = t.val % 54 * 512 + q.val) :
    iblk1 V c 5 t (r1 q) = V c main_v4 (r27 n) := by
  blk_simp [iblk1]
  congr 1
  funext a
  apply Fin.ext
  fin_cases a
  · blk_simp [e15]
  · blk_simp [e15]
    exact h.symm

/-- The block of per-column numbers of window 6 at grid point `t`. -/
theorem cblk6 (c : Dev nD) (t : Fin cfg1.N) (q : Fin 512) (n : Fin 27648) (h : n.val = t.val % 54 * 512 + q.val) :
    iblk1 V c 6 t (r1 q) = V c main_v5 (r27 n) := by
  blk_simp [iblk1]
  congr 1
  funext a
  apply Fin.ext
  fin_cases a
  · blk_simp [e16]
  · blk_simp [e16]
    exact h.symm

/-- The block of per-column numbers of window 7 at grid point `t`. -/
theorem cblk7 (c : Dev nD) (t : Fin cfg1.N) (q : Fin 512) (n : Fin 27648) (h : n.val = t.val % 54 * 512 + q.val) :
    iblk1 V c 7 t (r1 q) = V c main_v6 (r27 n) := by
  blk_simp [iblk1]
  congr 1
  funext a
  apply Fin.ext
  fin_cases a
  · blk_simp [e17]
  · blk_simp [e17]
    exact h.symm

/-- The block of per-column numbers of window 8 at grid point `t`. -/
theorem cblk8 (c : Dev nD) (t : Fin cfg1.N) (q : Fin 512) (n : Fin 27648) (h : n.val = t.val % 54 * 512 + q.val) :
    iblk1 V c 8 t (r1 q) = V c main_v7 (r27 n) := by
  blk_simp [iblk1]
  congr 1
  funext a
  apply Fin.ext
  fin_cases a
  · blk_simp [e18]
  · blk_simp [e18]
    exact h.symm

/-- The one number of window 0 at grid point `t`. -/
theorem sblk0 (c : Dev nD) (t : Fin cfg1.N) : iblk1 V c 0 t zero1 = V c main_v2 zero1 := by
  blk_simp [iblk1]
  congr 1
  funext a
  apply Fin.ext
  fin_cases a
  blk_simp [e10]

/-- The one number of window 1 at grid point `t`. -/
theorem sblk1 (c : Dev nD) (t : Fin cfg1.N) : iblk1 V c 1 t zero1 = V c main_v3 zero1 := by
  blk_simp [iblk1]
  congr 1
  funext a
  apply Fin.ext
  fin_cases a
  blk_simp [e11]

/-- What the second program part leaves in its output, at one element. -/
def outG (V : (c : Dev nD) → (b : Ref sig .tc) → Buf (Elt Ideal) ((c : Thread nD τ).loc b)) (c : Dev nD)
    (i : S16384x27648.Idx) : BitVec 8 :=
  kerY (accK (xmat (F := Ideal) (V c main_v0) (i 0).val) (wmat (F := Ideal) (V c main_arg2) (i 1).val)
      (sumU (xmat (F := Ideal) (V c main_v0) (i 0).val)) (V c main_v1 (r27 (i 1))) (V c main_v2 zero1)
      (V c main_v4 (r27 (i 1))) (V c main_v5 (r27 (i 1)))) (V c main_v6 (r27 (i 1))) (V c main_v7 (r27 (i 1))) (V c main_v3 zero1)

/-- The output array after the second program part. -/
theorem arr1 (V : (c : Dev nD) → (b : Ref sig .tc) → Buf (Elt Ideal) ((c : Thread nD τ).loc b)) (c : Dev nD) :
    (dat1 (F := Ideal) V c).arrAt 9 cfg1.N = outG V c := by
  refine (dat1 V c).arrAt_eq_of_covers 9 _ (by decide +kernel) fun t hf y => ?_
  blk_simp
  rw [after1_9]
  unfold outsAt1
  refine (outB_apply _ _ _ _ _ _ _ _ _ y).trans ?_
  obtain ⟨i, hi⟩ : ∃ i : S16384x27648.Idx, i = (win1_9.blk t).view.emb y := ⟨_, rfl⟩
  have h0 : (i 0).val = t.val / 54 * 1024 + (y 0).val := by
    rw [hi]; blk_simp [e19]
  have h1 : (i 1).val = t.val % 54 * 512 + (y 1).val := by
    rw [hi]; blk_simp [e19]
  rw [xblk1 V c t (y 0).val (y 0).isLt, wblk1 V c t (y 1).val (y 1).isLt, cblk4 V c t (y 1) (i 1) h1, cblk5 V c t (y 1) (i 1) h1,
    cblk6 V c t (y 1) (i 1) h1, cblk7 V c t (y 1) (i 1) h1, cblk8 V c t (y 1) (i 1) h1, sblk0, sblk1, ← h0, ← h1]
  show outG V c i = outG V c _
  rw [hi]

end Cert.KernelIdeal.Own
-- ==== Proof.Math.Spec.lean ====
module

public import proofs.«01_k».proof.Proof.Math.Sums
public import proofs.«01_k».proof.Proof.Math.Round
public import Idealize.ShloMosaic.Lib.Pipeline.Value
public import Idealize.ShloMosaic.Lib.Pointwise

@[expose] public section

noncomputable section

namespace Cert.Math

open Idealize.ShloMosaic

/-- Row `(b, s)` of the input, as a function of the position along the contracted axis. -/
def xvec (x : (⟨3, ![2, 8192, 5120]⟩ : Shape).Idx → BitVec 8) (b : Fin 2) (s : Fin 8192) : ℕ → BitVec 8 :=
  fun k => x (ix3 (n0 := 2) (n1 := 8192) (n2 := 5120) b s ⟨k % 5120, Nat.mod_lt _ (by norm_num)⟩)

/-- Column `n` of the weight matrix, as a function of the position along the contracted axis. -/
def wvec (w : (⟨2, ![5120, 27648]⟩ : Shape).Idx → BitVec 8) (n : Fin 27648) : ℕ → BitVec 8 :=
  fun k => w (ix2 (n0 := 5120) (n1 := 27648) ⟨k % 5120, Nat.mod_lt _ (by norm_num)⟩ n)

end Cert.Math
-- ==== Proof.KernelIdeal.Value.lean ====
module

public import proofs.«01_k».proof.Proof.KernelIdeal.Arrays
public import proofs.«01_k».proof.Proof.Math.Spec

@[expose] public section

set_option maxRecDepth 16384

noncomputable section

namespace Cert.KernelIdeal.Own

open Idealize.ShloMosaic Idealize.ShloMosaic.TcCoe Idealize.ShloMosaic.StableHlo
open Idealize.ShloMosaic.Pipeline (Dat Cfg Window)
open Cert.KernelIdeal.Gen Cert.Math

variable {F : FTy → Type} [FloatOps F]
variable (m : (ℓ : Loc nD τ sig) → Buf (Elt F) ℓ) (ρ : Dev nD → PrngReg) (c : Dev nD)

/-- The second program part's operand: the input with its first two axes flattened. -/
theorem v0_read : W3 m ρ c (Proc.devRef .tc main_v0)
    = shapeCast S16384x5120 (m ((c : Thread nD τ).loc main_arg0)) shapeCasts_S2x8192x5120_S16384x5120 := by
  refine (W3_of m ρ c main_v0 (by decide)).trans ((W2_of m ρ c main_v0 (by decide +kernel)).trans ?_)
  unfold W1 hostOps0
  after_results
  rfl

/-- The column sums at the second program part's entry. -/
theorem v1_read : W3 m ρ c (Proc.devRef .tc main_v1)
    = fun i : S1x27648.Idx => sumU (wmat (F := F) (m ((c : Thread nD τ).loc main_arg2)) (i 1).val) := by
  refine (W3_of m ρ c main_v1 (by decide)).trans ((W2_arr m ρ c 1).trans ((arr0 (V1 m ρ) c).trans ?_))
  rw [show V1 m ρ c main_arg2 = m ((c : Thread nD τ).loc main_arg2) from W1_args m ρ c main_arg2 (by decide)]

/-- The weights at the second program part's entry. -/
theorem w_read : W3 m ρ c (Proc.devRef .tc main_arg2) = m ((c : Thread nD τ).loc main_arg2) :=
  W3_args m ρ c main_arg2 (by decide)

/-- The input zero point at the second program part's entry. -/
theorem v2_read : W3 m ρ c (Proc.devRef .tc main_v2)
    = shapeCast S1 (m ((c : Thread nD τ).loc main_arg1)) shapeCasts_S_S1 := by
  unfold W3 hostOps1
  after_results
  rw [W2_args m ρ c main_arg1 (by decide)]
  rfl

/-- The output zero point at the second program part's entry. -/
theorem v3_read : W3 m ρ c (Proc.devRef .tc main_v3)
    = shapeCast S1 (m ((c : Thread nD τ).loc main_arg7)) shapeCasts_S_S1 := by
  unfold W3 hostOps1
  after_results
  rw [W2_args m ρ c main_arg7 (by decide)]
  rfl

/-- The weight zero points at the second program part's entry. -/
theorem v4_read : W3 m ρ c (Proc.devRef .tc main_v4)
    = shapeCast S1x27648 (m ((c : Thread nD τ).loc main_arg3)) shapeCasts_S27648_S1x27648 := by
  unfold W3 hostOps1
  after_results
  rw [W2_args m ρ c main_arg3 (by decide)]
  rfl

/-- The biases at the second program part's entry. -/
theorem v5_read : W3 m ρ c (Proc.devRef .tc main_v5)
    = shapeCast S1x27648 (m ((c : Thread nD τ).loc main_arg4)) shapeCasts_S27648_S1x27648 := by
  unfold W3 hostOps1
  after_results
  rw [W2_args m ρ c main_arg4 (by decide)]
  rfl

/-- The multipliers at the second program part's entry. -/
theorem v6_read : W3 m ρ c (Proc.devRef .tc main_v6)
    = shapeCast S1x27648 (m ((c : Thread nD τ).loc main_arg5)) shapeCasts_S27648_S1x27648 := by
  unfold W3 hostOps1
  after_results
  rw [W2_args m ρ c main_arg5 (by decide)]
  rfl

/-- The shifts at the second program part's entry. -/
theorem v7_read : W3 m ρ c (Proc.devRef .tc main_v7)
    = shapeCast S1x27648 (m ((c : Thread nD τ).loc main_arg6)) shapeCasts_S27648_S1x27648 := by
  unfold W3 hostOps1
  after_results
  rw [W2_args m ρ c main_arg6 (by decide)]
  rfl

/-- A row of per-column numbers, read from the array it reshapes. -/
theorem row_read (v : IVec S27648 32) (n : Fin 27648) : shapeCast S1x27648 v shapeCasts_S27648_S1x27648 (r27 n) = v (ix1 (n0 := 27648) n) := by
  refine shapeCast_apply _ _ _ _ ?_
  rw [Shape.rowMajor_val_one, Shape.rowMajor_val_two]
  show n.val = 0 * 27648 + n.val
  omega

/-- A one-element array, read from the scalar it reshapes. -/
theorem one_read (v : IVec S_ 32) : shapeCast S1 v shapeCasts_S_S1 zero1 = v ix0 := by
  unfold shapeCast
  exact congrArg v (funext fun a => a.elim0)

/-- A row of the flattened input. -/
theorem x_read (v : IVec S2x8192x5120 8) (b : Fin 2) (s : Fin 8192) :
    xmat (F := F) (shapeCast S16384x5120 v shapeCasts_S2x8192x5120_S16384x5120) (8192 * b.val + s.val) = xvec v b s := by
  funext k
  unfold xmat xvec
  refine shapeCast_apply _ _ _ _ ?_
  rw [Shape.rowMajor_val_two, Shape.rowMajor_val_three]
  show (b.val * 8192 + s.val) * 5120 + k % 5120 = (8192 * b.val + s.val) % 16384 * 5120 + k % 5120
  have := b.isLt
  have := s.isLt
  omega

/-- A column of the weights. -/
theorem w_col (w : IVec S5120x27648 8) (n : Fin 27648) : wmat (F := F) w n.val = wvec w n := by
  funext k
  unfold wmat wvec
  congr 1
  funext a
  apply Fin.ext
  fin_cases a
  · rfl
  · exact Nat.mod_eq_of_lt n.isLt

/-- The kernel's result, at one element. -/
def kout (x : IVec S2x8192x5120 8) (xzp : IVec S_ 32) (w : IVec S5120x27648 8) (wzp bias m0 sh : IVec S27648 32) (yzp : IVec S_ 32)
    (i : S2x8192x27648.Idx) : BitVec 8 :=
  kerY (accK (xvec x (i 0) (i 1)) (wvec w (i 2)) (sumU (xvec x (i 0) (i 1))) (sumU (wvec w (i 2))) (xzp ix0)
    (wzp (ix1 (n0 := 27648) (i 2))) (bias (ix1 (n0 := 27648) (i 2)))) (m0 (ix1 (n0 := 27648) (i 2))) (sh (ix1 (n0 := 27648) (i 2))) (yzp ix0)

/-- The second program part's output, at one element, in terms of the arguments. -/
theorem outG_read (m : (ℓ : Loc nD τ sig) → Buf (Elt Ideal) ℓ) (ρ : Dev nD → PrngReg) (c : Dev nD) (i : S2x8192x27648.Idx)
    (p : S16384x27648.Idx) (h0 : (p 0).val = 8192 * (i 0).val + (i 1).val) (h1 : p 1 = i 2) :
    outG (V3 (F := Ideal) m ρ) c p
      = kout (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) i := by
  unfold outG kout
  have hx : xmat (F := Ideal) (V3 (F := Ideal) m ρ c main_v0) (p 0).val = xvec (m ((c : Thread nD τ).loc main_arg0)) (i 0) (i 1) := by
    rw [h0, show V3 (F := Ideal) m ρ c main_v0 = _ from v0_read m ρ c]
    exact x_read _ _ _
  have hw : wmat (F := Ideal) (V3 (F := Ideal) m ρ c main_arg2) (p 1).val = wvec (m ((c : Thread nD τ).loc main_arg2)) (i 2) := by
    rw [h1, show V3 (F := Ideal) m ρ c main_arg2 = _ from w_read m ρ c]
    exact w_col _ _
  have hs : V3 (F := Ideal) m ρ c main_v1 (r27 (p 1)) = sumU (wvec (m ((c : Thread nD τ).loc main_arg2)) (i 2)) := by
    rw [h1, show V3 (F := Ideal) m ρ c main_v1 = _ from v1_read m ρ c]
    exact congrArg sumU (w_col _ _)
  have z2 : V3 (F := Ideal) m ρ c main_v2 zero1 = m ((c : Thread nD τ).loc main_arg1) ix0 := by
    rw [show V3 (F := Ideal) m ρ c main_v2 = _ from v2_read m ρ c]
    exact one_read _
  have z3 : V3 (F := Ideal) m ρ c main_v3 zero1 = m ((c : Thread nD τ).loc main_arg7) ix0 := by
    rw [show V3 (F := Ideal) m ρ c main_v3 = _ from v3_read m ρ c]
    exact one_read _
  have z4 : V3 (F := Ideal) m ρ c main_v4 (r27 (p 1)) = m ((c : Thread nD τ).loc main_arg3) (ix1 (n0 := 27648) (i 2)) := by
    rw [h1, show V3 (F := Ideal) m ρ c main_v4 = _ from v4_read m ρ c]
    exact row_read _ _
  have z5 : V3 (F := Ideal) m ρ c main_v5 (r27 (p 1)) = m ((c : Thread nD τ).loc main_arg4) (ix1 (n0 := 27648) (i 2)) := by
    rw [h1, show V3 (F := Ideal) m ρ c main_v5 = _ from v5_read m ρ c]
    exact row_read _ _
  have z6 : V3 (F := Ideal) m ρ c main_v6 (r27 (p 1)) = m ((c : Thread nD τ).loc main_arg5) (ix1 (n0 := 27648) (i 2)) := by
    rw [h1, show V3 (F := Ideal) m ρ c main_v6 = _ from v6_read m ρ c]
    exact row_read _ _
  have z7 : V3 (F := Ideal) m ρ c main_v7 (r27 (p 1)) = m ((c : Thread nD τ).loc main_arg6) (ix1 (n0 := 27648) (i 2)) := by
    rw [h1, show V3 (F := Ideal) m ρ c main_v7 = _ from v7_read m ρ c]
    exact row_read _ _
  rw [hx, hw, hs, z2, z3, z4, z5, z6, z7]

/-- The kernel's result array, in terms of the arguments. -/
theorem v9_read (m : (ℓ : Loc nD τ sig) → Buf (Elt Ideal) ℓ) (ρ : Dev nD → PrngReg) (c : Dev nD) :
    W5 (F := Ideal) m ρ c (Proc.devRef .tc main_v9)
      = kout (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have h : W5 (F := Ideal) m ρ c (Proc.devRef .tc main_v9)
      = shapeCast S2x8192x27648 (outG (V3 (F := Ideal) m ρ) c) shapeCasts_S16384x27648_S2x8192x27648 := by
    unfold W5 hostOps2
    after_results
    rw [show W4 (F := Ideal) m ρ c (Proc.devRef .tc main_v8) = outG (V3 (F := Ideal) m ρ) c from (W4_arr m ρ c 9).trans (arr1 (V3 m ρ) c)]
    rfl
  rw [h]
  funext i
  have i0 : (i 0).val < 2 := (i 0).isLt
  have i1 : (i 1).val < 8192 := (i 1).isLt
  refine (shapeCast_apply _ _ i (ix2 (n0 := 16384) (n1 := 27648) ⟨8192 * (i 0).val + (i 1).val, by omega⟩ (i 2)) ?_).trans
    (outG_read m ρ c i _ rfl rfl)
  rw [Shape.rowMajor_val_two, Shape.rowMajor_val_three]
  show (8192 * (i 0).val + (i 1).val) * 27648 + (i 2).val = ((i 0).val * 8192 + (i 1).val) * 27648 + (i 2).val
  omega

end Cert.KernelIdeal.Own
-- ==== Proof.Ref.Value.lean ====
module

public import proofs.«01_k».proof.Proof.Gen.ReferenceIdeal.Run
public import proofs.«01_k».proof.Proof.Math.Spec

@[expose] public section

set_option maxRecDepth 16384

noncomputable section

namespace Cert.ReferenceIdeal.Own

open Idealize.ShloMosaic Idealize.ShloMosaic.TcCoe
open Cert.ReferenceIdeal Cert.ReferenceIdeal.Gen Cert.ReferenceIdeal.Value Cert.Math

variable {F : FTy → Type} [FloatOps F]
variable (V : Valuation τ sig (Elt F)) (i : S2x8192x27648.Idx)

/-- A per-column number repeated over the rows. -/
theorem col_apply {n : ℕ} (v : IVec S27648 n) (i : S2x8192x27648.Idx) :
    broadcastInDim S2x8192x27648 ![0, 1, 2] bcast_S1x1x27648_S2x8192x27648_0_1_2 (broadcastInDim S1x1x27648 ![2] bcast_S27648_S1x1x27648_2 v) i
      = v (ix1 (n0 := 27648) (i 2)) := by
  refine (broadcastInDim_apply _ _ _ i (ix3 (n0 := 1) (n1 := 1) (n2 := 27648) 0 0 (i 2)) ?_).trans ?_
  · intro a; fin_cases a <;> rfl
  refine (broadcastInDim_apply _ _ _ _ (ix1 (n0 := 27648) (i 2)) ?_)
  intro a; fin_cases a; rfl

/-- A per-row number repeated over the columns. -/
theorem row_apply (v : IVec S2x8192 32) (i : S2x8192x27648.Idx) :
    broadcastInDim S2x8192x27648 ![0, 1, 2] bcast_S2x8192x1_S2x8192x27648_0_1_2 (broadcastInDim S2x8192x1 ![0, 1] bcast_S2x8192_S2x8192x1_0_1 v) i
      = v (ix2 (n0 := 2) (n1 := 8192) (i 0) (i 1)) := by
  refine (broadcastInDim_apply _ _ _ i (ix3 (n0 := 2) (n1 := 8192) (n2 := 1) (i 0) (i 1) 0) ?_).trans ?_
  · intro a; fin_cases a <;> rfl
  refine (broadcastInDim_apply _ _ _ _ (ix2 (n0 := 2) (n1 := 8192) (i 0) (i 1)) ?_)
  intro a; fin_cases a <;> rfl

/-- A scalar repeated over an array. -/
theorem scal_apply {n : ℕ} {t : Shape} (v : IVec S_ n) (h : S_.BroadcastsInDim t (![] : Fin 0 → Fin t.rank)) (i : t.Idx) :
    broadcastInDim t ![] h v i = v ix0 :=
  broadcastInDim_apply _ _ _ i ix0 (fun a => a.elim0)

/-- The accumulator of the reference. -/
abbrev racc : IVec S2x8192x27648 32 := res_main_v27 V
/-- The multipliers of the reference. -/
abbrev rm0 : IVec S27648 32 := V (Proc.devRef .tc main_arg5)
/-- The shifts of the reference. -/
abbrev rsh : IVec S27648 32 := V (Proc.devRef .tc main_arg6)

/-- The sign test, at an element. -/
theorem k29 (A : IVec S2x8192x27648 32) :
    cmpi .slt A (broadcastInDim S2x8192x27648 ![] bcast_S_S2x8192x27648 (constantI S_ 32 0#32)) i = rneg (A i) := by
  unfold rneg
  exact congrArg (IntOp.cmpi .slt (A i)) (scal_apply (constantI S_ 32 0#32) bcast_S_S2x8192x27648 i)

/-- The sign bits, for an array equal to the accumulator. -/
theorem r29_of (A : IVec S2x8192x27648 32) (h : A = res_main_v27 V) : (res_main_v29 V : IVec S2x8192x27648 1) i = rneg (A i) := by
  unfold res_main_v29
  rw [← h]
  exact k29 i A

/-- The sign bits. -/
theorem r29 : (res_main_v29 V : IVec S2x8192x27648 1) i = rneg (racc V i) := r29_of V i (racc V) rfl

/-- The magnitudes, for an array equal to the accumulator. -/
theorem r31_of (A : IVec S2x8192x27648 32) (h : A = res_main_v27 V) : (res_main_v31 V : IVec S2x8192x27648 32) i = IntOp.absi (A i) := by
  unfold res_main_v31
  rw [← h]
  rfl

/-- The magnitudes. -/
theorem r31 : (res_main_v31 V : IVec S2x8192x27648 32) i = IntOp.absi (racc V i) := r31_of V i (racc V) rfl

/-- The high halves of the magnitudes. -/
theorem r34 : (res_main_v34 V : IVec S2x8192x27648 32) i = rah (racc V i) := by
  unfold res_main_v34 rah
  rw [← r31]
  generalize res_main_v31 V = A
  rfl

/-- The low halves of the magnitudes. -/
theorem r36 : (res_main_v36 V : IVec S2x8192x27648 32) i = ral (racc V i) := by
  unfold res_main_v36 ral
  rw [← r31]
  generalize res_main_v31 V = A
  rfl

/-- The high halves of the multipliers. -/
theorem r38 (j : S27648.Idx) : (res_main_v38 V : IVec S27648 32) j = rbh (rm0 V j) := by
  unfold res_main_v38 res_main_v32 rbh rm0
  generalize V (Proc.devRef .tc main_arg5) = A
  rfl

/-- The low halves of the multipliers. -/
theorem r40 (j : S27648.Idx) : (res_main_v40 V : IVec S27648 32) j = rbl (rm0 V j) := by
  unfold res_main_v40 res_main_v32 rbl rm0
  generalize V (Proc.devRef .tc main_arg5) = A
  rfl

/-- The column of an element. -/
abbrev cj : S27648.Idx := ix1 (n0 := 27648) (i 2)

/-- The products of the low halves. -/
theorem r43 : (res_main_v43 V : IVec S2x8192x27648 32) i = rlow (racc V i) (rm0 V (cj i)) := by
  unfold res_main_v43 rlow
  rw [← r36, ← r40]
  generalize res_main_v36 V = A
  generalize res_main_v40 V = B
  exact congrArg (IntOp.muli (A i)) (col_apply B i)

/-- The cross sums. -/
theorem r50 : (res_main_v50 V : IVec S2x8192x27648 32) i = rmid (racc V i) (rm0 V (cj i)) := by
  unfold res_main_v50 rmid
  rw [← r36, ← r40, ← r34, ← r38]
  generalize res_main_v36 V = A
  generalize res_main_v40 V = B
  generalize res_main_v34 V = C
  generalize res_main_v38 V = D
  exact congrArg₂ IntOp.addi (congrArg (IntOp.muli (C i)) (col_apply B i)) (congrArg (IntOp.muli (A i)) (col_apply D i))

/-- The low words before the nudge. -/
theorem r56 : (res_main_v56 V : IVec S2x8192x27648 32) i = rlow1 (racc V i) (rm0 V (cj i)) := by
  unfold res_main_v56 rlow1
  rw [← r43, ← r50]
  generalize res_main_v43 V = A
  generalize res_main_v50 V = B
  rfl

/-- The low words after the nudge. -/
theorem r66 : (res_main_v66 V : IVec S2x8192x27648 32) i = rlow2 (racc V i) (rm0 V (cj i)) := by
  unfold res_main_v66 rlow2
  rw [← r56, ← r29]
  generalize res_main_v56 V = A
  generalize res_main_v29 V = B
  rfl

/-- The magnitudes of the high words. -/
theorem r75 : (res_main_v75 V : IVec S2x8192x27648 32) i = rq (racc V i) (rm0 V (cj i)) := by
  unfold res_main_v75 rq rhigh
  rw [← r34, ← r38, ← r50, ← r56, ← r43, ← r66]
  generalize res_main_v34 V = A
  generalize res_main_v38 V = B
  generalize res_main_v50 V = C
  generalize res_main_v56 V = D
  generalize res_main_v43 V = E
  generalize res_main_v66 V = G
  rw [← col_apply B i]
  rfl

/-- The high words, with their signs. -/
theorem r77 : (res_main_v77 V : IVec S2x8192x27648 32) i = refH (racc V i) (rm0 V (cj i)) := by
  unfold res_main_v77 refH
  rw [← r29, ← r75]
  generalize res_main_v29 V = A
  generalize res_main_v75 V = B
  rfl

/-- The masks of the rounding division. -/
theorem r81 (j : S27648.Idx) : (res_main_v81 V : IVec S27648 32) j = rmask (rsh V j) := by
  unfold res_main_v81 rmask rsh
  generalize V (Proc.devRef .tc main_arg6) = A
  rfl

end Cert.ReferenceIdeal.Own
-- ==== Proof.Ref.Acc.lean ====
module

public import proofs.«01_k».proof.Proof.Ref.Value

@[expose] public section

set_option maxRecDepth 16384

noncomputable section

namespace Cert.ReferenceIdeal.Own

open Idealize.ShloMosaic Idealize.ShloMosaic.TcCoe
open Cert.ReferenceIdeal Cert.ReferenceIdeal.Gen Cert.ReferenceIdeal.Value Cert.Math

/-- The product is summed over its third axis. -/
theorem red4 : S2x8192x5120x27648.Reduces [2] S2x8192x27648 := by decide
/-- The rows of the input are summed over the last axis. -/
theorem red3 : S2x8192x5120.Reduces [2] S2x8192 := by decide
/-- The columns of the weights are summed over the first axis. -/
theorem red2 : S5120x27648.Reduces [0] S27648 := by decide

/-- The input, repeated over the output columns. -/
theorem xb_apply (v : IVec S2x8192x5120 32) (i : S2x8192x27648.Idx) (k : Fin 5120) :
    broadcastInDim S2x8192x5120x27648 ![0, 1, 2, 3] bcast_S2x8192x5120x1_S2x8192x5120x27648_0_1_2_3 (broadcastInDim S2x8192x5120x1 ![0, 1, 2] bcast_S2x8192x5120_S2x8192x5120x1_0_1_2 v) (red4.lift i k)
      = v (ix3 (n0 := 2) (n1 := 8192) (n2 := 5120) (i 0) (i 1) k) := by
  refine (broadcastInDim_apply _ _ _ _ (ix4 (n0 := 2) (n1 := 8192) (n2 := 5120) (n3 := 1) (i 0) (i 1) k 0) ?_).trans ?_
  · intro a; fin_cases a <;> rfl
  refine (broadcastInDim_apply _ _ _ _ (ix3 (n0 := 2) (n1 := 8192) (n2 := 5120) (i 0) (i 1) k) ?_)
  intro a; fin_cases a <;> rfl

/-- The weights, repeated over the rows. -/
theorem wb_apply (v : IVec S5120x27648 32) (i : S2x8192x27648.Idx) (k : Fin 5120) :
    broadcastInDim S2x8192x5120x27648 ![0, 1, 2, 3] bcast_S1x1x5120x27648_S2x8192x5120x27648_0_1_2_3 (broadcastInDim S1x1x5120x27648 ![2, 3] bcast_S5120x27648_S1x1x5120x27648_2_3 v) (red4.lift i k)
      = v (ix2 (n0 := 5120) (n1 := 27648) k (i 2)) := by
  refine (broadcastInDim_apply _ _ _ _ (ix4 (n0 := 1) (n1 := 1) (n2 := 5120) (n3 := 27648) 0 0 k (i 2)) ?_).trans ?_
  · intro a; fin_cases a <;> rfl
  refine (broadcastInDim_apply _ _ _ _ (ix2 (n0 := 5120) (n1 := 27648) k (i 2)) ?_)
  intro a; fin_cases a <;> rfl

/-- The reference's dot product, at one element. -/
theorem dot_apply (x : IVec S2x8192x5120 8) (w : IVec S5120x27648 8) (i : S2x8192x27648.Idx) :
    (Host.reduce IntOp.addi (muli (broadcastInDim S2x8192x5120x27648 ![0, 1, 2, 3] bcast_S2x8192x5120x1_S2x8192x5120x27648_0_1_2_3 (broadcastInDim S2x8192x5120x1 ![0, 1, 2] bcast_S2x8192x5120_S2x8192x5120x1_0_1_2 (extui 32 x natLt_8_32))) (broadcastInDim S2x8192x5120x27648 ![0, 1, 2, 3] bcast_S1x1x5120x27648_S2x8192x5120x27648_0_1_2_3 (broadcastInDim S1x1x5120x27648 ![2, 3] bcast_S5120x27648_S1x1x5120x27648_2_3 (extui 32 w natLt_8_32)))) (constantI S_ 32 0#32) reducesTo_S2x8192x5120x27648_S2x8192x27648_d2 h_S_ : IVec S2x8192x27648 32) i
      = dotU (xvec x (i 0) (i 1)) (wvec w (i 2)) := by
  refine (hsum_apply _ _ _ red4 h_S_ rfl i).trans ?_
  unfold dotU
  rw [Finset.sum_range]
  refine Finset.sum_congr rfl fun k _ => ?_
  refine (congrArg₂ (IntOp.muli (w := 32)) (xb_apply _ i k) (wb_apply _ i k)).trans ?_
  have hk : (⟨k.val % 5120, Nat.mod_lt _ (by norm_num)⟩ : Fin 5120) = k := Fin.ext (Nat.mod_eq_of_lt k.isLt)
  unfold xvec wvec
  rw [hk]
  rfl

/-- The reference's row sums of the input, at one element. -/
theorem sx_apply (x : IVec S2x8192x5120 8) (b : Fin 2) (s : Fin 8192) :
    (Host.reduce IntOp.addi (extui 32 x natLt_8_32) (constantI S_ 32 0#32) reducesTo_S2x8192x5120_S2x8192_d2 h_S_ : IVec S2x8192 32) (ix2 (n0 := 2) (n1 := 8192) b s)
      = sumU (xvec x b s) := by
  refine (hsum_apply _ _ _ red3 h_S_ rfl _).trans ?_
  unfold sumU
  rw [Finset.sum_range]
  refine Finset.sum_congr rfl fun k _ => ?_
  have hk : (⟨k.val % 5120, Nat.mod_lt _ (by norm_num)⟩ : Fin 5120) = k := Fin.ext (Nat.mod_eq_of_lt k.isLt)
  unfold xvec
  rw [hk]
  refine congrArg (fun z => (x z).setWidth 32) ?_
  funext a
  apply Fin.ext
  fin_cases a <;> rfl

/-- The reference's column sums of the weights, at one element. -/
theorem sw_apply (w : IVec S5120x27648 8) (n : Fin 27648) :
    (Host.reduce IntOp.addi (extui 32 w natLt_8_32) (constantI S_ 32 0#32) reducesTo_S5120x27648_S27648_d0 h_S_ : IVec S27648 32) (ix1 (n0 := 27648) n)
      = sumU (wvec w n) := by
  refine (hsum_apply _ _ _ red2 h_S_ rfl _).trans ?_
  unfold sumU
  rw [Finset.sum_range]
  refine Finset.sum_congr rfl fun k _ => ?_
  have hk : (⟨k.val % 5120, Nat.mod_lt _ (by norm_num)⟩ : Fin 5120) = k := Fin.ext (Nat.mod_eq_of_lt k.isLt)
  unfold wvec
  rw [hk]
  refine congrArg (fun z => (w z).setWidth 32) ?_
  funext a
  apply Fin.ext
  fin_cases a <;> rfl

/-- The accumulator's combination of the three reductions, at one element. -/
theorem comb_apply (R : IVec S2x8192x27648 32) (S : IVec S2x8192 32) (U wzp bias : IVec S27648 32) (xzp : IVec S_ 32) (i : S2x8192x27648.Idx) :
    (addi (subi R (muli (broadcastInDim S2x8192x27648 ![0, 1, 2] bcast_S1x1x27648_S2x8192x27648_0_1_2 (broadcastInDim S1x1x27648 ![2] bcast_S27648_S1x1x27648_2 wzp)) (broadcastInDim S2x8192x27648 ![0, 1, 2] bcast_S2x8192x1_S2x8192x27648_0_1_2 (broadcastInDim S2x8192x1 ![0, 1] bcast_S2x8192_S2x8192x1_0_1 S)))) (broadcastInDim S2x8192x27648 ![0, 1, 2] bcast_S1x1x27648_S2x8192x27648_0_1_2 (broadcastInDim S1x1x27648 ![2] bcast_S27648_S1x1x27648_2 (subi (addi (muli (broadcastInDim S27648 ![] bcast_S_S27648 (muli (constantI S_ 32 5120#32) xzp)) wzp) bias) (muli (broadcastInDim S27648 ![] bcast_S_S27648 xzp) U)))) : IVec S2x8192x27648 32) i
      = IntOp.addi (IntOp.subi (R i) (IntOp.muli (wzp (ix1 (n0 := 27648) (i 2))) (S (ix2 (n0 := 2) (n1 := 8192) (i 0) (i 1)))))
          (IntOp.subi (IntOp.addi (IntOp.muli (IntOp.muli 5120#32 (xzp ix0)) (wzp (ix1 (n0 := 27648) (i 2)))) (bias (ix1 (n0 := 27648) (i 2))))
            (IntOp.muli (xzp ix0) (U (ix1 (n0 := 27648) (i 2))))) := by
  refine congrArg₂ IntOp.addi (congrArg (IntOp.subi (R i)) (congrArg₂ IntOp.muli (col_apply _ i) (row_apply S i))) ((col_apply _ i).trans ?_)
  refine congrArg₂ IntOp.subi (congrArg (fun z => IntOp.addi (IntOp.muli z _) _) ?_) (congrArg (fun z => IntOp.muli z _) ?_)
  · exact scal_apply _ _ _
  · exact scal_apply _ _ _

/-- The reference's accumulator, at one element. -/
theorem acc_apply (x : IVec S2x8192x5120 8) (w : IVec S5120x27648 8) (wzp bias : IVec S27648 32) (xzp : IVec S_ 32) (i : S2x8192x27648.Idx) :
    (addi (subi (Host.reduce IntOp.addi (muli (broadcastInDim S2x8192x5120x27648 ![0, 1, 2, 3] bcast_S2x8192x5120x1_S2x8192x5120x27648_0_1_2_3 (broadcastInDim S2x8192x5120x1 ![0, 1, 2] bcast_S2x8192x5120_S2x8192x5120x1_0_1_2 (extui 32 x natLt_8_32))) (broadcastInDim S2x8192x5120x27648 ![0, 1, 2, 3] bcast_S1x1x5120x27648_S2x8192x5120x27648_0_1_2_3 (broadcastInDim S1x1x5120x27648 ![2, 3] bcast_S5120x27648_S1x1x5120x27648_2_3 (extui 32 w natLt_8_32)))) (constantI S_ 32 0#32) reducesTo_S2x8192x5120x27648_S2x8192x27648_d2 h_S_) (muli (broadcastInDim S2x8192x27648 ![0, 1, 2] bcast_S1x1x27648_S2x8192x27648_0_1_2 (broadcastInDim S1x1x27648 ![2] bcast_S27648_S1x1x27648_2 wzp)) (broadcastInDim S2x8192x27648 ![0, 1, 2] bcast_S2x8192x1_S2x8192x27648_0_1_2 (broadcastInDim S2x8192x1 ![0, 1] bcast_S2x8192_S2x8192x1_0_1 (Host.reduce IntOp.addi (extui 32 x natLt_8_32) (constantI S_ 32 0#32) reducesTo_S2x8192x5120_S2x8192_d2 h_S_))))) (broadcastInDim S2x8192x27648 ![0, 1, 2] bcast_S1x1x27648_S2x8192x27648_0_1_2 (broadcastInDim S1x1x27648 ![2] bcast_S27648_S1x1x27648_2 (subi (addi (muli (broadcastInDim S27648 ![] bcast_S_S27648 (muli (constantI S_ 32 5120#32) xzp)) wzp) bias) (muli (broadcastInDim S27648 ![] bcast_S_S27648 xzp) (Host.reduce IntOp.addi (extui 32 w natLt_8_32) (constantI S_ 32 0#32) reducesTo_S5120x27648_S27648_d0 h_S_))))) : IVec S2x8192x27648 32) i
      = accR (xvec x (i 0) (i 1)) (wvec w (i 2)) (xzp ix0) (wzp (ix1 (n0 := 27648) (i 2))) (bias (ix1 (n0 := 27648) (i 2))) := by
  refine (comb_apply _ _ _ wzp bias xzp i).trans ?_
  unfold accR
  rw [dot_apply x w i, sx_apply x (i 0) (i 1), sw_apply w (i 2)]

/-- The reference's last steps, at one element. -/
theorem fin_apply (A : IVec S2x8192x27648 32) (B sh : IVec S27648 32) (yzp : IVec S_ 32) (i : S2x8192x27648.Idx) (h s : BitVec 32)
    (hA : A i = h) (hB : B (ix1 (n0 := 27648) (i 2)) = rmask s) (hs : sh (ix1 (n0 := 27648) (i 2)) = s) :
    (trunci 8 (minsi (broadcastInDim S2x8192x27648 ![] bcast_S_S2x8192x27648 (id (constantI S_ 32 255#32))) (maxsi (broadcastInDim S2x8192x27648 ![] bcast_S_S2x8192x27648 (id (constantI S_ 32 0#32))) (addi (addi (Host.shrsi A (broadcastInDim S2x8192x27648 ![0, 1, 2] bcast_S1x1x27648_S2x8192x27648_0_1_2 (broadcastInDim S1x1x27648 ![2] bcast_S27648_S1x1x27648_2 sh))) (extui 32 (cmpi .sgt (andi A (broadcastInDim S2x8192x27648 ![0, 1, 2] bcast_S1x1x27648_S2x8192x27648_0_1_2 (broadcastInDim S1x1x27648 ![2] bcast_S27648_S1x1x27648_2 B))) (addi (broadcastInDim S2x8192x27648 ![0, 1, 2] bcast_S1x1x27648_S2x8192x27648_0_1_2 (broadcastInDim S1x1x27648 ![2] bcast_S27648_S1x1x27648_2 (Host.shrsi B (broadcastInDim S27648 ![] bcast_S_S27648 (constantI S_ 32 1#32))))) (extui 32 (cmpi .slt A (broadcastInDim S2x8192x27648 ![] bcast_S_S2x8192x27648 (constantI S_ 32 0#32))) natLt_1_32))) natLt_1_32)) (broadcastInDim S2x8192x27648 ![] bcast_S_S2x8192x27648 yzp)))) natLt_8_32 : IVec S2x8192x27648 8) i
      = (IntOp.minsi 255#32 (IntOp.maxsi 0#32 (IntOp.addi (refD h s) (yzp ix0)))).setWidth 8 := by
  unfold refD
  rw [← hB, ← hs, ← hA]
  exact congrArg (fun z : BitVec 32 => z.setWidth 8) (congrArg₂ IntOp.minsi (scal_apply (constantI S_ 32 255#32) _ i)
    (congrArg₂ IntOp.maxsi (scal_apply (constantI S_ 32 0#32) _ i)
      (congrArg₂ IntOp.addi (congrArg₂ IntOp.addi (congrArg (IntOp.shrsi .host (A i)) (col_apply sh i))
        (congrArg (fun z : BitVec 1 => z.setWidth 32) (congrArg₂ (IntOp.cmpi .sgt) (congrArg (IntOp.andi (A i)) (col_apply B i))
          (congrArg₂ IntOp.addi ((col_apply _ i).trans (congrArg (IntOp.shrsi .host _) (scal_apply (constantI S_ 32 1#32) _ _)))
            (congrArg (fun z : BitVec 32 => (IntOp.cmpi .slt (A i) z).setWidth 32) (scal_apply (constantI S_ 32 0#32) _ i))))))
        (scal_apply yzp _ i))))

/-- The reference's result, at one element. -/
def rout (x : IVec S2x8192x5120 8) (xzp : IVec S_ 32) (w : IVec S5120x27648 8) (wzp bias m0 sh : IVec S27648 32) (yzp : IVec S_ 32)
    (i : S2x8192x27648.Idx) : BitVec 8 :=
  refY (accR (xvec x (i 0) (i 1)) (wvec w (i 2)) (xzp ix0) (wzp (ix1 (n0 := 27648) (i 2))) (bias (ix1 (n0 := 27648) (i 2))))
    (m0 (ix1 (n0 := 27648) (i 2))) (sh (ix1 (n0 := 27648) (i 2))) (yzp ix0)

variable {F : FTy → Type} [FloatOps F]

/-- The accumulator, in terms of the arguments. -/
theorem racc_eq (V : Valuation τ sig (Elt F)) (i : S2x8192x27648.Idx) :
    racc V i = accR (xvec (V (Proc.devRef .tc main_arg0)) (i 0) (i 1)) (wvec (V (Proc.devRef .tc main_arg2)) (i 2)) ((V (Proc.devRef .tc main_arg1) : IVec S_ 32) ix0)
      ((V (Proc.devRef .tc main_arg3) : IVec S27648 32) (ix1 (n0 := 27648) (i 2))) ((V (Proc.devRef .tc main_arg4) : IVec S27648 32) (ix1 (n0 := 27648) (i 2))) := by
  unfold racc res_main_v27
  exact acc_apply (V (Proc.devRef .tc main_arg0)) (V (Proc.devRef .tc main_arg2)) (V (Proc.devRef .tc main_arg3)) (V (Proc.devRef .tc main_arg4))
    (V (Proc.devRef .tc main_arg1)) i

/-- The reference's result array, in terms of the arguments. -/
theorem res_eq (V : Valuation τ sig (Elt F)) :
    (trunci 8 (minsi (broadcastInDim S2x8192x27648 ![] bcast_S_S2x8192x27648 (id (constantI S_ 32 255#32))) (maxsi (broadcastInDim S2x8192x27648 ![] bcast_S_S2x8192x27648 (id (constantI S_ 32 0#32))) (addi (addi (Host.shrsi (res_main_v77 V) (broadcastInDim S2x8192x27648 ![0, 1, 2] bcast_S1x1x27648_S2x8192x27648_0_1_2 (broadcastInDim S1x1x27648 ![2] bcast_S27648_S1x1x27648_2 (V (Proc.devRef .tc main_arg6))))) (extui 32 (cmpi .sgt (andi (res_main_v77 V) (broadcastInDim S2x8192x27648 ![0, 1, 2] bcast_S1x1x27648_S2x8192x27648_0_1_2 (broadcastInDim S1x1x27648 ![2] bcast_S27648_S1x1x27648_2 (res_main_v81 V)))) (addi (broadcastInDim S2x8192x27648 ![0, 1, 2] bcast_S1x1x27648_S2x8192x27648_0_1_2 (broadcastInDim S1x1x27648 ![2] bcast_S27648_S1x1x27648_2 (Host.shrsi (res_main_v81 V) (broadcastInDim S27648 ![] bcast_S_S27648 (constantI S_ 32 1#32))))) (extui 32 (cmpi .slt (res_main_v77 V) (broadcastInDim S2x8192x27648 ![] bcast_S_S2x8192x27648 (constantI S_ 32 0#32))) natLt_1_32))) natLt_1_32)) (broadcastInDim S2x8192x27648 ![] bcast_S_S2x8192x27648 (V (Proc.devRef .tc main_arg7)))))) natLt_8_32 : IVec S2x8192x27648 8)
      = rout (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  funext i
  refine (fin_apply (res_main_v77 V) (res_main_v81 V) (V (Proc.devRef .tc main_arg6)) (V (Proc.devRef .tc main_arg7)) i _ _ (r77 V i) (r81 V _) rfl).trans ?_
  rw [racc_eq]
  rfl

end Cert.ReferenceIdeal.Own
-- ==== Proof.Algebraic.lean ====
module

public import proofs.«01_k».proof.Defs
public import proofs.«01_k».proof.Proof.Gen.Pre_requantisable
public import proofs.«01_k».proof.Proof.KernelIdeal.Value
public import proofs.«01_k».proof.Proof.Ref.Acc

@[expose] public section

set_option maxRecDepth 16384

noncomputable section

namespace Cert.Own

open Idealize.ShloMosaic Idealize.ShloMosaic.TcCoe Idealize.SL.Sem
open Cert.Math

/-- The bound on the multipliers and shifts, at one column. -/
theorem pre_apply (x : IVec Cert.Pre_requantisable.S2x8192x5120 8) (xzp : IVec Cert.Pre_requantisable.S_ 32)
    (w : IVec Cert.Pre_requantisable.S5120x27648 8) (wzp bias m0 sh : IVec Cert.Pre_requantisable.S27648 32) (yzp : IVec Cert.Pre_requantisable.S_ 32)
    (h : Cert.Pre_requantisable.fn (F := Ideal) x xzp w wzp bias m0 sh yzp = fun _ => 1#1) (j : Cert.Pre_requantisable.S27648.Idx) :
    0 ≤ (m0 j).toInt ∧ 1 ≤ (sh j).toInt ∧ (sh j).toInt ≤ 31 := by
  have e : IntOp.andi (IntOp.andi (IntOp.cmpi .sge (m0 j) 0#32) (IntOp.cmpi .sge (sh j) 1#32)) (IntOp.cmpi .sle (sh j) 31#32) = 1#1 :=
    congrFun h j
  generalize m0 j = a at e ⊢
  generalize sh j = s at e ⊢
  have key : ∀ p q r : Bool, IntOp.andi (IntOp.andi (BitVec.ofBool p) (BitVec.ofBool q)) (BitVec.ofBool r) = 1#1 → p = true ∧ q = true ∧ r = true := by
    decide
  obtain ⟨h1, h2, h3⟩ := key (BitVec.sle 0#32 a) (BitVec.sle 1#32 s) (BitVec.sle s 31#32) e
  rw [BitVec.sle_iff_toInt_le] at h1 h2 h3
  exact ⟨h1, h2, h3⟩

/-- Kernel and reference agree, element by element. -/
theorem out_eq (x : IVec Cert.KernelIdeal.S2x8192x5120 8) (xzp : IVec Cert.KernelIdeal.S_ 32) (w : IVec Cert.KernelIdeal.S5120x27648 8)
    (wzp bias m0 sh : IVec Cert.KernelIdeal.S27648 32) (yzp : IVec Cert.KernelIdeal.S_ 32)
    (h : Cert.Pre_requantisable.fn (F := Ideal) x xzp w wzp bias m0 sh yzp = fun _ => 1#1) :
    Cert.ReferenceIdeal.Own.rout x xzp w wzp bias m0 sh yzp = Cert.KernelIdeal.Own.kout x xzp w wzp bias m0 sh yzp := by
  funext i
  obtain ⟨h1, h2, h3⟩ := pre_apply x xzp w wzp bias m0 sh yzp h (ix1 (n0 := 27648) (i 2))
  unfold Cert.ReferenceIdeal.Own.rout Cert.KernelIdeal.Own.kout
  rw [acc_eq, byte_eq _ _ _ _ h1 h2 h3]

/-- The reference's result depends on the arguments alone. -/
theorem rout_congr {x x' : IVec Cert.KernelIdeal.S2x8192x5120 8} {xzp xzp' yzp yzp' : IVec Cert.KernelIdeal.S_ 32}
    {w w' : IVec Cert.KernelIdeal.S5120x27648 8} {wzp wzp' bias bias' m0 m0' sh sh' : IVec Cert.KernelIdeal.S27648 32}
    (e0 : x = x') (e1 : xzp = xzp') (e2 : w = w') (e3 : wzp = wzp') (e4 : bias = bias') (e5 : m0 = m0') (e6 : sh = sh') (e7 : yzp = yzp') :
    Cert.ReferenceIdeal.Own.rout x xzp w wzp bias m0 sh yzp = Cert.ReferenceIdeal.Own.rout x' xzp' w' wzp' bias' m0' sh' yzp' := by
  rw [e0, e1, e2, e3, e4, e5, e6, e7]

/-- The kernel's ideal run and the reference's end with the same result, from the same arguments. -/
theorem algebraic : Cert.algebraic_KernelIdeal_ReferenceIdeal_pre_requantisable := by
  intro m g m' g' hp hm
  refine ⟨fun c => Cert.KernelIdeal.Own.W5 (F := Ideal) m g c (Proc.devRef .tc Cert.KernelIdeal.main_v9), ?_, ?_⟩
  · exact (θ_run _ _ _).mono (fun _ h => h.1) (Cert.KernelIdeal.Own.run_main (F := Ideal) m g)
  · refine (θ_run _ _ _).mono (fun _ h c => ⟨(h c).1.trans ?_, (h c).2⟩) (Cert.ReferenceIdeal.Value.run (F := Ideal) m' g')
    refine (Cert.ReferenceIdeal.Own.res_eq _).trans ((?_ : _ = _).trans (Cert.KernelIdeal.Own.v9_read m g c).symm)
    obtain ⟨e0, e1, e2, e3, e4, e5, e6, e7⟩ := hm c
    refine Eq.trans ?_ (out_eq _ _ _ _ _ _ _ _ (hp c))
    exact rout_congr e0 e1 e2 e3 e4 e5 e6 e7

end Cert.Own
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_requantisable
public import proofs.«01_k».proof.Proof.Kernel.Run
public import proofs.«01_k».proof.Proof.KernelIdeal.Run
public import proofs.«01_k».proof.Proof.Ref.Frame
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate holds. -/
theorem claim : Cert.Claim := ⟨Cert.Kernel.Gen.facts, Cert.KernelIdeal.Gen.facts, Cert.ReferenceIdeal.Gen.facts, Cert.Pre_requantisable.Gen.facts,
  fun m g _ => Cert.Kernel.Own.frame m g,
  fun m g _ => Cert.KernelIdeal.Own.frame m g,
  fun m g _ => Cert.KernelIdeal.Own.frame m g,
  fun m g _ => Cert.ReferenceIdeal.Own.frame m g,
  fun m g _ => Cert.ReferenceIdeal.Own.frame m g,
  trivial,
  Cert.Own.algebraic⟩

end Cert.Proof

end
